-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_d" .f32 0x39AAAAAB#32 ((3072⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S3x2x4096x3072 : Shape := ⟨4, ![3, 2, 4096, 3072]⟩
abbrev S3x2x3072 : Shape := ⟨3, ![3, 2, 3072]⟩
abbrev S3072x64 : Shape := ⟨2, ![3072, 64]⟩
abbrev S64 : Shape := ⟨1, ![64]⟩
abbrev S3 : Shape := ⟨1, ![3]⟩
abbrev S3x64x256x16 : Shape := ⟨4, ![3, 64, 256, 16]⟩
abbrev S_ : Shape := ⟨0, ![]⟩

class Facts : Prop where
  bcast_S_S3x2x3072 : S_.BroadcastsInDim S3x2x3072 (![] : Fin 0 → Fin S3x2x3072.rank)
  reducesTo_S3x2x3072_S_d0_1_2 : S3x2x3072.ReducesTo [0, 1, 2] S_
  h_S_ : 0 < S_.numel

variable [Facts]

def fn {F : FTy → Type} [FloatOps F] (main_arg0 : FVec F S3x2x4096x3072 .bf16) (main_arg1 : FVec F S3x2x3072 .f32) (main_arg2 : FVec F S3x2x3072 .f32) (main_arg3 : FVec F S3072x64 .fp8e4m3) (main_arg4 : FVec F S64 .f32) (main_arg5 : FVec F S64 .f32) (main_arg6 : FVec F S3 .f32) (main_arg7 : FVec F S3 .f32) (main_arg8 : FVec F S3 .f32) (main_arg9 : FVec F S3x64x256x16 .f32) : IVec S_ 1 :=
  let main_v0 : FVec F S3x2x3072 .f32 := Host.absf main_arg1
  let main_cst : FVec F S_ .f32 := constant S_ .f32 0x7149F2CA#32
  let main_v1 : FVec F S3x2x3072 .f32 := broadcastInDim S3x2x3072 ![] bcast_S_S3x2x3072 main_cst
  let main_v2 : IVec S3x2x3072 1 := cmpf .ole main_v0 main_v1
  let main_c : IVec S_ 1 := constantI S_ 1 1#1
  let main_v3 : IVec S_ 1 := (fun x v => Host.reduce IntOp.andi x v reducesTo_S3x2x3072_S_d0_1_2 h_S_) main_v2 main_c
  let main_v4 : FVec F S3x2x3072 .f32 := Host.absf main_arg2
  let main_cst_0 : FVec F S_ .f32 := constant S_ .f32 0x7149F2CA#32
  let main_v5 : FVec F S3x2x3072 .f32 := broadcastInDim S3x2x3072 ![] bcast_S_S3x2x3072 main_cst_0
  let main_v6 : IVec S3x2x3072 1 := cmpf .ole main_v4 main_v5
  let main_c_1 : IVec S_ 1 := constantI S_ 1 1#1
  let main_v7 : IVec S_ 1 := (fun x v => Host.reduce IntOp.andi x v reducesTo_S3x2x3072_S_d0_1_2 h_S_) main_v6 main_c_1
  let main_v8 : IVec S_ 1 := andi main_v3 main_v7
  main_v8
-- ==== Kernel.lean ====
abbrev S3x2x4096x3072 : Shape := ⟨4, ![3, 2, 4096, 3072]⟩
abbrev S3x2x3072 : Shape := ⟨3, ![3, 2, 3072]⟩
abbrev S3072x64 : Shape := ⟨2, ![3072, 64]⟩
abbrev S64 : Shape := ⟨1, ![64]⟩
abbrev S3 : Shape := ⟨1, ![3]⟩
abbrev S3x64x256x16 : Shape := ⟨4, ![3, 64, 256, 16]⟩
abbrev S3x64x16x256 : Shape := ⟨4, ![3, 64, 16, 256]⟩
abbrev S64x3072 : Shape := ⟨2, ![64, 3072]⟩
abbrev S64x1 : Shape := ⟨2, ![64, 1]⟩
abbrev S3x2x4096 : Shape := ⟨3, ![3, 2, 4096]⟩
abbrev S1x2x256x3072 : Shape := ⟨4, ![1, 2, 256, 3072]⟩
abbrev S1x2x3072 : Shape := ⟨3, ![1, 2, 3072]⟩
abbrev S1x4x16x256 : Shape := ⟨4, ![1, 4, 16, 256]⟩
abbrev S1x2x256 : Shape := ⟨3, ![1, 2, 256]⟩
abbrev S32x3072 : Shape := ⟨2, ![32, 3072]⟩
abbrev S2x256x128 : Shape := ⟨3, ![2, 256, 128]⟩
abbrev S1x1x32x128 : Shape := ⟨4, ![1, 1, 32, 128]⟩
abbrev S32x128 : Shape := ⟨2, ![32, 128]⟩
abbrev S32 : Shape := ⟨1, ![32]⟩
abbrev S32x1 : Shape := ⟨2, ![32, 1]⟩
abbrev S1x1x128 : Shape := ⟨3, ![1, 1, 128]⟩
abbrev S1x128 : Shape := ⟨2, ![1, 128]⟩
abbrev S1x32x128 : Shape := ⟨3, ![1, 32, 128]⟩
abbrev S1 : Shape := ⟨1, ![1]⟩
abbrev S16x128 : Shape := ⟨2, ![16, 128]⟩
abbrev S1x1x128x3072 : Shape := ⟨4, ![1, 1, 128, 3072]⟩
abbrev S128x3072 : Shape := ⟨2, ![128, 3072]⟩
abbrev S64x128 : Shape := ⟨2, ![64, 128]⟩
abbrev S1x128x128 : Shape := ⟨3, ![1, 128, 128]⟩
abbrev S128x128 : Shape := ⟨2, ![128, 128]⟩
abbrev S16x128x1 : Shape := ⟨3, ![16, 128, 1]⟩
abbrev S1x1x16x128 : Shape := ⟨4, ![1, 1, 16, 128]⟩

abbrev nBuf : Space → Nat
  | .hbm => 20
  | .vmem => 21
  | .smem => 3
  | _ => 0

abbrev bufTy : (tb : Table) → Fin (tcTables nBuf tb) → BufTy
  | .hbm, ⟨0, _⟩ => ⟨S3x2x4096x3072, .bf16⟩
  | .hbm, ⟨1, _⟩ => ⟨S3x2x3072, .f32⟩
  | .hbm, ⟨2, _⟩ => ⟨S3x2x3072, .f32⟩
  | .hbm, ⟨3, _⟩ => ⟨S3072x64, .fp8e4m3⟩
  | .hbm, ⟨4, _⟩ => ⟨S64, .f32⟩
  | .hbm, ⟨5, _⟩ => ⟨S64, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3x64x256x16, .f32⟩
  | .hbm, ⟨10, _⟩ => ⟨S3x64x16x256, .f32⟩
  | .hbm, ⟨11, _⟩ => ⟨S64x3072, .fp8e4m3⟩
  | .hbm, ⟨12, _⟩ => ⟨S64x1, .f32⟩
  | .hbm, ⟨13, _⟩ => ⟨S64x1, .f32⟩
  | .hbm, ⟨14, _⟩ => ⟨S3x64x16x256, .f32⟩
  | .hbm, ⟨15, _⟩ => ⟨S3x64x16x256, .bf16⟩
  | .hbm, ⟨16, _⟩ => ⟨S3x2x4096x3072, .fp8e4m3⟩
  | .hbm, ⟨17, _⟩ => ⟨S3x2x4096, .f32⟩
  | .hbm, ⟨18, _⟩ => ⟨S3x64x256x16, .f32⟩
  | .hbm, ⟨19, _⟩ => ⟨S3x64x256x16, .bf16⟩
  | .local _ .vmem, ⟨0, _⟩ => ⟨S1x2x256x3072, .bf16⟩
  | .local _ .vmem, ⟨1, _⟩ => ⟨S1x2x256x3072, .bf16⟩
  | .local _ .vmem, ⟨2, _⟩ => ⟨S1x2x3072, .f32⟩
  | .local _ .vmem, ⟨3, _⟩ => ⟨S1x2x3072, .f32⟩
  | .local _ .vmem, ⟨4, _⟩ => ⟨S1x2x3072, .f32⟩
  | .local _ .vmem, ⟨5, _⟩ => ⟨S1x2x3072, .f32⟩
  | .local _ .vmem, ⟨6, _⟩ => ⟨S64x3072, .fp8e4m3⟩
  | .local _ .vmem, ⟨7, _⟩ => ⟨S64x1, .f32⟩
  | .local _ .vmem, ⟨8, _⟩ => ⟨S64x1, .f32⟩
  | .local _ .vmem, ⟨9, _⟩ => ⟨S1x4x16x256, .f32⟩
  | .local _ .vmem, ⟨10, _⟩ => ⟨S1x4x16x256, .f32⟩
  | .local _ .vmem, ⟨11, _⟩ => ⟨S1x4x16x256, .f32⟩
  | .local _ .vmem, ⟨12, _⟩ => ⟨S1x4x16x256, .f32⟩
  | .local _ .vmem, ⟨13, _⟩ => ⟨S1x4x16x256, .bf16⟩
  | .local _ .vmem, ⟨14, _⟩ => ⟨S1x4x16x256, .bf16⟩
  | .local _ .vmem, ⟨15, _⟩ => ⟨S1x2x256x3072, .fp8e4m3⟩
  | .local _ .vmem, ⟨16, _⟩ => ⟨S1x2x256x3072, .fp8e4m3⟩
  | .local _ .vmem, ⟨17, _⟩ => ⟨S1x2x256, .f32⟩
  | .local _ .vmem, ⟨18, _⟩ => ⟨S1x2x256, .f32⟩
  | .local _ .vmem, ⟨19, _⟩ => ⟨S32x3072, .f32⟩
  | .local _ .vmem, ⟨20, _⟩ => ⟨S2x256x128, .f32⟩
  | .local _ .smem, ⟨0, _⟩ => ⟨S3, .f32⟩
  | .local _ .smem, ⟨1, _⟩ => ⟨S3, .f32⟩
  | .local _ .smem, ⟨2, _⟩ => ⟨S3, .f32⟩
  | _, _ => ⟨S3x2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v5 : Ref sig .tc := ⟨.hbm, 18, rfl⟩
abbrev main_v6 : Ref sig .tc := ⟨.hbm, 19, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![3, 16], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  v410
def k0_off1 (k0_t1 : Fin k0_t1_loop.trips) : Fin 4 → Nat :=
  let c0_225 : Index := 0#32
  let c0_226 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v412 : Index := Scalar.indexCast v411
  let c0_227 : Index := 0#32
  ![0, 0, v412.toNat, 0]
def k0_off2 (k0_t1 : Fin k0_t1_loop.trips) : Fin 4 → Nat :=
  let c0_228 : Index := 0#32
  let c0_229 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v416 : Index := Scalar.indexCast v411
  let c128_230 : Index := 128#32
  ![0, 0, v416.toNat, 128]
def k0_off3 (k0_t1 : Fin k0_t1_loop.trips) : Fin 4 → Nat :=
  let c0_231 : Index := 0#32
  let c0_232 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v421 : Index := Scalar.indexCast v411
  let c256 : Index := 256#32
  ![0, 0, v421.toNat, 256]
def k0_off4 (k0_t1 : Fin k0_t1_loop.trips) : Fin 4 → Nat :=
  let c0_233 : Index := 0#32
  let c0_234 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v426 : Index := Scalar.indexCast v411
  let c384 : Index := 384#32
  ![0, 0, v426.toNat, 384]
def k0_off5 (k0_t1 : Fin k0_t1_loop.trips) : Fin 4 → Nat :=
  let c0_235 : Index := 0#32
  let c0_236 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v431 : Index := Scalar.indexCast v411
  let c512 : Index := 512#32
  ![0, 0, v431.toNat, 512]
def k0_off6 (k0_t1 : Fin k0_t1_loop.trips) : Fin 4 → Nat :=
  let c0_237 : Index := 0#32
  let c0_238 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v436 : Index := Scalar.indexCast v411
  let c640 : Index := 640#32
  ![0, 0, v436.toNat, 640]
def k0_off7 (k0_t1 : Fin k0_t1_loop.trips) : Fin 4 → Nat :=
  let c0_239 : Index := 0#32
  let c0_240 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v441 : Index := Scalar.indexCast v411
  let c768 : Index := 768#32
  ![0, 0, v441.toNat, 768]
def k0_off8 (k0_t1 : Fin k0_t1_loop.trips) : Fin 4 → Nat :=
  let c0_241 : Index := 0#32
  let c0_242 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v446 : Index := Scalar.indexCast v411
  let c896 : Index := 896#32
  ![0, 0, v446.toNat, 896]
def k0_off9 (k0_t1 : Fin k0_t1_loop.trips) : Fin 4 → Nat :=
  let c0_243 : Index := 0#32
  let c0_244 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v451 : Index := Scalar.indexCast v411
  let c1024 : Index := 1024#32
  ![0, 0, v451.toNat, 1024]
def k0_off10 (k0_t1 : Fin k0_t1_loop.trips) : Fin 4 → Nat :=
  let c0_245 : Index := 0#32
  let c0_246 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v456 : Index := Scalar.indexCast v411
  let c1152 : Index := 1152#32
  ![0, 0, v456.toNat, 1152]
def k0_off11 (k0_t1 : Fin k0_t1_loop.trips) : Fin 4 → Nat :=
  let c0_247 : Index := 0#32
  let c0_248 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v461 : Index := Scalar.indexCast v411
  let c1280 : Index := 1280#32
  ![0, 0, v461.toNat, 1280]
def k0_off12 (k0_t1 : Fin k0_t1_loop.trips) : Fin 4 → Nat :=
  let c0_249 : Index := 0#32
  let c0_250 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v466 : Index := Scalar.indexCast v411
  let c1408 : Index := 1408#32
  ![0, 0, v466.toNat, 1408]
def k0_off13 (k0_t1 : Fin k0_t1_loop.trips) : Fin 4 → Nat :=
  let c0_251 : Index := 0#32
  let c0_252 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v471 : Index := Scalar.indexCast v411
  let c1536 : Index := 1536#32
  ![0, 0, v471.toNat, 1536]
def k0_off14 (k0_t1 : Fin k0_t1_loop.trips) : Fin 4 → Nat :=
  let c0_253 : Index := 0#32
  let c0_254 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v476 : Index := Scalar.indexCast v411
  let c1664 : Index := 1664#32
  ![0, 0, v476.toNat, 1664]
def k0_off15 (k0_t1 : Fin k0_t1_loop.trips) : Fin 4 → Nat :=
  let c0_255 : Index := 0#32
  let c0_256 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v481 : Index := Scalar.indexCast v411
  let c1792 : Index := 1792#32
  ![0, 0, v481.toNat, 1792]
def k0_off16 (k0_t1 : Fin k0_t1_loop.trips) : Fin 4 → Nat :=
  let c0_257 : Index := 0#32
  let c0_258 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v486 : Index := Scalar.indexCast v411
  let c1920 : Index := 1920#32
  ![0, 0, v486.toNat, 1920]
def k0_off17 (k0_t1 : Fin k0_t1_loop.trips) : Fin 4 → Nat :=
  let c0_259 : Index := 0#32
  let c0_260 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v491 : Index := Scalar.indexCast v411
  let c2048 : Index := 2048#32
  ![0, 0, v491.toNat, 2048]
def k0_off18 (k0_t1 : Fin k0_t1_loop.trips) : Fin 4 → Nat :=
  let c0_261 : Index := 0#32
  let c0_262 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v496 : Index := Scalar.indexCast v411
  let c2176 : Index := 2176#32
  ![0, 0, v496.toNat, 2176]
def k0_off19 (k0_t1 : Fin k0_t1_loop.trips) : Fin 4 → Nat :=
  let c0_263 : Index := 0#32
  let c0_264 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v501 : Index := Scalar.indexCast v411
  let c2304 : Index := 2304#32
  ![0, 0, v501.toNat, 2304]
def k0_off20 (k0_t1 : Fin k0_t1_loop.trips) : Fin 4 → Nat :=
  let c0_265 : Index := 0#32
  let c0_266 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v506 : Index := Scalar.indexCast v411
  let c2432 : Index := 2432#32
  ![0, 0, v506.toNat, 2432]
def k0_off21 (k0_t1 : Fin k0_t1_loop.trips) : Fin 4 → Nat :=
  let c0_267 : Index := 0#32
  let c0_268 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v511 : Index := Scalar.indexCast v411
  let c2560 : Index := 2560#32
  ![0, 0, v511.toNat, 2560]
def k0_off22 (k0_t1 : Fin k0_t1_loop.trips) : Fin 4 → Nat :=
  let c0_269 : Index := 0#32
  let c0_270 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v516 : Index := Scalar.indexCast v411
  let c2688 : Index := 2688#32
  ![0, 0, v516.toNat, 2688]
def k0_off23 (k0_t1 : Fin k0_t1_loop.trips) : Fin 4 → Nat :=
  let c0_271 : Index := 0#32
  let c0_272 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v521 : Index := Scalar.indexCast v411
  let c2816 : Index := 2816#32
  ![0, 0, v521.toNat, 2816]
def k0_off24 (k0_t1 : Fin k0_t1_loop.trips) : Fin 4 → Nat :=
  let c0_273 : Index := 0#32
  let c0_274 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v526 : Index := Scalar.indexCast v411
  let c2944 : Index := 2944#32
  ![0, 0, v526.toNat, 2944]
def k0_off25 (k0_t1 : Fin k0_t1_loop.trips) : Fin 3 → Nat :=
  let c0_667 : Index := 0#32
  let c0_i32 : BitVec 32 := 0#32
  let c1_i32 : BitVec 32 := 1#32
  let arg18 : BitVec 32 := Scf.iv c0_i32 c1_i32 k0_t1
  let c32_i32 : BitVec 32 := 32#32
  let v410 : BitVec 32 := Scalar.muli arg18 c32_i32
  let v411 : BitVec 32 := v410
  let v1380 : Index := Scalar.indexCast v411
  let c0_668 : Index := 0#32
  ![0, v1380.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  v410
def k0_off26 (k0_t2 : Fin k0_t2_loop.trips) : Fin 4 → Nat :=
  let c0_225 : Index := 0#32
  let c1_226 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v412 : Index := Scalar.indexCast v411
  let c0_227 : Index := 0#32
  ![0, 1, v412.toNat, 0]
def k0_off27 (k0_t2 : Fin k0_t2_loop.trips) : Fin 4 → Nat :=
  let c0_228 : Index := 0#32
  let c1_229 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v416 : Index := Scalar.indexCast v411
  let c128_230 : Index := 128#32
  ![0, 1, v416.toNat, 128]
def k0_off28 (k0_t2 : Fin k0_t2_loop.trips) : Fin 4 → Nat :=
  let c0_231 : Index := 0#32
  let c1_232 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v421 : Index := Scalar.indexCast v411
  let c256 : Index := 256#32
  ![0, 1, v421.toNat, 256]
def k0_off29 (k0_t2 : Fin k0_t2_loop.trips) : Fin 4 → Nat :=
  let c0_233 : Index := 0#32
  let c1_234 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v426 : Index := Scalar.indexCast v411
  let c384 : Index := 384#32
  ![0, 1, v426.toNat, 384]
def k0_off30 (k0_t2 : Fin k0_t2_loop.trips) : Fin 4 → Nat :=
  let c0_235 : Index := 0#32
  let c1_236 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v431 : Index := Scalar.indexCast v411
  let c512 : Index := 512#32
  ![0, 1, v431.toNat, 512]
def k0_off31 (k0_t2 : Fin k0_t2_loop.trips) : Fin 4 → Nat :=
  let c0_237 : Index := 0#32
  let c1_238 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v436 : Index := Scalar.indexCast v411
  let c640 : Index := 640#32
  ![0, 1, v436.toNat, 640]
def k0_off32 (k0_t2 : Fin k0_t2_loop.trips) : Fin 4 → Nat :=
  let c0_239 : Index := 0#32
  let c1_240 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v441 : Index := Scalar.indexCast v411
  let c768 : Index := 768#32
  ![0, 1, v441.toNat, 768]
def k0_off33 (k0_t2 : Fin k0_t2_loop.trips) : Fin 4 → Nat :=
  let c0_241 : Index := 0#32
  let c1_242 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v446 : Index := Scalar.indexCast v411
  let c896 : Index := 896#32
  ![0, 1, v446.toNat, 896]
def k0_off34 (k0_t2 : Fin k0_t2_loop.trips) : Fin 4 → Nat :=
  let c0_243 : Index := 0#32
  let c1_244 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v451 : Index := Scalar.indexCast v411
  let c1024 : Index := 1024#32
  ![0, 1, v451.toNat, 1024]
def k0_off35 (k0_t2 : Fin k0_t2_loop.trips) : Fin 4 → Nat :=
  let c0_245 : Index := 0#32
  let c1_246 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v456 : Index := Scalar.indexCast v411
  let c1152 : Index := 1152#32
  ![0, 1, v456.toNat, 1152]
def k0_off36 (k0_t2 : Fin k0_t2_loop.trips) : Fin 4 → Nat :=
  let c0_247 : Index := 0#32
  let c1_248 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v461 : Index := Scalar.indexCast v411
  let c1280 : Index := 1280#32
  ![0, 1, v461.toNat, 1280]
def k0_off37 (k0_t2 : Fin k0_t2_loop.trips) : Fin 4 → Nat :=
  let c0_249 : Index := 0#32
  let c1_250 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v466 : Index := Scalar.indexCast v411
  let c1408 : Index := 1408#32
  ![0, 1, v466.toNat, 1408]
def k0_off38 (k0_t2 : Fin k0_t2_loop.trips) : Fin 4 → Nat :=
  let c0_251 : Index := 0#32
  let c1_252 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v471 : Index := Scalar.indexCast v411
  let c1536 : Index := 1536#32
  ![0, 1, v471.toNat, 1536]
def k0_off39 (k0_t2 : Fin k0_t2_loop.trips) : Fin 4 → Nat :=
  let c0_253 : Index := 0#32
  let c1_254 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v476 : Index := Scalar.indexCast v411
  let c1664 : Index := 1664#32
  ![0, 1, v476.toNat, 1664]
def k0_off40 (k0_t2 : Fin k0_t2_loop.trips) : Fin 4 → Nat :=
  let c0_255 : Index := 0#32
  let c1_256 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v481 : Index := Scalar.indexCast v411
  let c1792 : Index := 1792#32
  ![0, 1, v481.toNat, 1792]
def k0_off41 (k0_t2 : Fin k0_t2_loop.trips) : Fin 4 → Nat :=
  let c0_257 : Index := 0#32
  let c1_258 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v486 : Index := Scalar.indexCast v411
  let c1920 : Index := 1920#32
  ![0, 1, v486.toNat, 1920]
def k0_off42 (k0_t2 : Fin k0_t2_loop.trips) : Fin 4 → Nat :=
  let c0_259 : Index := 0#32
  let c1_260 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v491 : Index := Scalar.indexCast v411
  let c2048 : Index := 2048#32
  ![0, 1, v491.toNat, 2048]
def k0_off43 (k0_t2 : Fin k0_t2_loop.trips) : Fin 4 → Nat :=
  let c0_261 : Index := 0#32
  let c1_262 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v496 : Index := Scalar.indexCast v411
  let c2176 : Index := 2176#32
  ![0, 1, v496.toNat, 2176]
def k0_off44 (k0_t2 : Fin k0_t2_loop.trips) : Fin 4 → Nat :=
  let c0_263 : Index := 0#32
  let c1_264 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v501 : Index := Scalar.indexCast v411
  let c2304 : Index := 2304#32
  ![0, 1, v501.toNat, 2304]
def k0_off45 (k0_t2 : Fin k0_t2_loop.trips) : Fin 4 → Nat :=
  let c0_265 : Index := 0#32
  let c1_266 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v506 : Index := Scalar.indexCast v411
  let c2432 : Index := 2432#32
  ![0, 1, v506.toNat, 2432]
def k0_off46 (k0_t2 : Fin k0_t2_loop.trips) : Fin 4 → Nat :=
  let c0_267 : Index := 0#32
  let c1_268 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v511 : Index := Scalar.indexCast v411
  let c2560 : Index := 2560#32
  ![0, 1, v511.toNat, 2560]
def k0_off47 (k0_t2 : Fin k0_t2_loop.trips) : Fin 4 → Nat :=
  let c0_269 : Index := 0#32
  let c1_270 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v516 : Index := Scalar.indexCast v411
  let c2688 : Index := 2688#32
  ![0, 1, v516.toNat, 2688]
def k0_off48 (k0_t2 : Fin k0_t2_loop.trips) : Fin 4 → Nat :=
  let c0_271 : Index := 0#32
  let c1_272 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v521 : Index := Scalar.indexCast v411
  let c2816 : Index := 2816#32
  ![0, 1, v521.toNat, 2816]
def k0_off49 (k0_t2 : Fin k0_t2_loop.trips) : Fin 4 → Nat :=
  let c0_273 : Index := 0#32
  let c1_274 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v526 : Index := Scalar.indexCast v411
  let c2944 : Index := 2944#32
  ![0, 1, v526.toNat, 2944]
def k0_off50 (k0_t2 : Fin k0_t2_loop.trips) : Fin 3 → Nat :=
  let c1_667 : Index := 1#32
  let c0_i32_1 : BitVec 32 := 0#32
  let c1_i32_3 : BitVec 32 := 1#32
  let arg18 : BitVec 32 := Scf.iv c0_i32_1 c1_i32_3 k0_t2
  let c32_i32 : BitVec 32 := 32#32
  let v410 : BitVec 32 := Scalar.muli arg18 c32_i32
  let v411 : BitVec 32 := v410
  let v1380 : Index := Scalar.indexCast v411
  let c0_668 : Index := 0#32
  ![1, v1380.toNat, 0]
def k0_off51 (i : grid0.Coords) : Fin 1 → Nat :=
  let arg0 : BitVec 32 := BitVec.ofNat 32 (i 0).val
  let v2 : Index := Scalar.indexCast arg0
  ![v2.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S64x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x256x3072 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "inv_d" => some ((3072⁻¹ : ℝ) : EReal)
  | _ => none
-- ==== ReferenceIdeal.lean ====
abbrev S3x2x4096x3072 : Shape := ⟨4, ![3, 2, 4096, 3072]⟩
abbrev S3x2x3072 : Shape := ⟨3, ![3, 2, 3072]⟩
abbrev S3072x64 : Shape := ⟨2, ![3072, 64]⟩
abbrev S64 : Shape := ⟨1, ![64]⟩
abbrev S3 : Shape := ⟨1, ![3]⟩
abbrev S3x64x256x16 : Shape := ⟨4, ![3, 64, 256, 16]⟩
abbrev S3x2x4096 : Shape := ⟨3, ![3, 2, 4096]⟩
abbrev S3x2x4096x1 : Shape := ⟨4, ![3, 2, 4096, 1]⟩
abbrev S3x2x1x3072 : Shape := ⟨4, ![3, 2, 1, 3072]⟩
abbrev S24576x3072 : Shape := ⟨2, ![24576, 3072]⟩
abbrev S24576x64 : Shape := ⟨2, ![24576, 64]⟩
abbrev S3x2x4096x64 : Shape := ⟨4, ![3, 2, 4096, 64]⟩
abbrev S1x1x1x64 : Shape := ⟨4, ![1, 1, 1, 64]⟩
abbrev S3x1x4096x64 : Shape := ⟨4, ![3, 1, 4096, 64]⟩
abbrev S3x4096x64 : Shape := ⟨3, ![3, 4096, 64]⟩
abbrev S3x1x1 : Shape := ⟨3, ![3, 1, 1]⟩
abbrev S3x32x128x2x2x16 : Shape := ⟨6, ![3, 32, 128, 2, 2, 16]⟩
abbrev S3x32x2x128x2x16 : Shape := ⟨6, ![3, 32, 2, 128, 2, 16]⟩
abbrev S3x1x1x1 : Shape := ⟨4, ![3, 1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S3x2x4096x3072, .bf16⟩
  | .hbm, ⟨1, _⟩ => ⟨S3x2x3072, .f32⟩
  | .hbm, ⟨2, _⟩ => ⟨S3x2x3072, .f32⟩
  | .hbm, ⟨3, _⟩ => ⟨S3072x64, .fp8e4m3⟩
  | .hbm, ⟨4, _⟩ => ⟨S64, .f32⟩
  | .hbm, ⟨5, _⟩ => ⟨S64, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3x64x256x16, .f32⟩
  | .hbm, ⟨10, _⟩ => ⟨S3x64x256x16, .f32⟩
  | .hbm, ⟨11, _⟩ => ⟨S3x64x256x16, .bf16⟩
  | .hbm, ⟨12, _⟩ => ⟨S3x2x4096x3072, .fp8e4m3⟩
  | .hbm, ⟨13, _⟩ => ⟨S3x2x4096, .f32⟩
  | .local _ .vmem, ⟨0, _⟩ => ⟨S3, .f32⟩
  | .local _ .vmem, ⟨1, _⟩ => ⟨S3, .f32⟩
  | .local _ .vmem, ⟨2, _⟩ => ⟨S3, .f32⟩
  | .local _ .vmem, ⟨3, _⟩ => ⟨S3x2x4096x3072, .bf16⟩
  | .local _ .vmem, ⟨4, _⟩ => ⟨S3x2x3072, .f32⟩
  | .local _ .vmem, ⟨5, _⟩ => ⟨S3x2x3072, .f32⟩
  | .local _ .vmem, ⟨6, _⟩ => ⟨S3072x64, .fp8e4m3⟩
  | .local _ .vmem, ⟨7, _⟩ => ⟨S64, .f32⟩
  | .local _ .vmem, ⟨8, _⟩ => ⟨S64, .f32⟩
  | .local _ .vmem, ⟨9, _⟩ => ⟨S3x64x256x16, .f32⟩
  | .local _ .vmem, ⟨10, _⟩ => ⟨S3x64x256x16, .f32⟩
  | .local _ .vmem, ⟨11, _⟩ => ⟨S3x64x256x16, .bf16⟩
  | .local _ .vmem, ⟨12, _⟩ => ⟨S3x2x4096x3072, .fp8e4m3⟩
  | .local _ .vmem, ⟨13, _⟩ => ⟨S3x2x4096, .f32⟩
  | _, _ => ⟨S3x2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2x4096x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x64x256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x64x256x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x64x256x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x2x4096x3072 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x2x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelRuns.lean ====
/- The kernel at device precision: what its frame proof is stated over. The lines of the program around the
   pipelined region, the contents of the arrays when the region is entered, the block of each window at each grid
   point, and the memory each grid point is handed. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- the long axes of the windows ask for a deeper recursion than the default
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the library's
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): the library's
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): the library's
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): the library's
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): the library's
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): the library's
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePostR.arr_in h c 3 rfl).trans ((hA c 3).trans (V_main_arg0 m c)),
      (Pipeline.RDat.FramePostR.arr_in h c 4 rfl).trans ((hA c 4).trans (V_main_arg1 m c)),
      (Pipeline.RDat.FramePostR.arr_in h c 5 rfl).trans ((hA c 5).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      (Pipeline.RDat.FramePostR.arr_in h c 0 rfl).trans ((hA c 0).trans (V_main_arg6 m c)),
      (Pipeline.RDat.FramePostR.arr_in h c 1 rfl).trans ((hA c 1).trans (V_main_arg7 m c)),
      (Pipeline.RDat.FramePostR.arr_in h c 2 rfl).trans ((hA c 2).trans (V_main_arg8 m c)),
      ((h c).2 main_arg9 (Finset.mem_sdiff.mpr ⟨Pipeline.mem_restRefs_of main_arg9 (by decide) (by decide), by decide⟩)).trans (V_main_arg9 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x256x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x3072 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x16x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x16x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x16x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x256x3072 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S32x3072 .f32 := Memref.whole cc0_scratch0
abbrev scM0_1 : Memref sig .tc .vmem S2x256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Whole

end
-- ==== Proof.KernelPoint.lean ====
/- The kernel at device precision: one run of its body. From whole windows, the inputs' at known contents and the
   outputs' at any, the body runs to its end and hands the inputs' windows back unchanged. What the outputs hold
   afterwards is not named, for the frame asks nothing of it. -/
module

public import proofs.«01_k».proof.Proof.KernelRuns

@[expose] public section

-- the long axes of the windows ask for a deeper recursion than the default
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- One run of the body: from whole windows, the ten inputs' at given contents and the four outputs' and the two
    scratch buffers at any, the body runs to its end and hands all of them back, the inputs' as they were. -/
theorem bodyRuns (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S1x2x256x3072 .bf16) (harg5 : arg5.IsWhole) (arg6 : Memref sig .tc .vmem S1x2x3072 .f32) (harg6 : arg6.IsWhole) (arg7 : Memref sig .tc .vmem S1x2x3072 .f32) (harg7 : arg7.IsWhole) (arg8 : Memref sig .tc .vmem S64x3072 .fp8e4m3) (harg8 : arg8.IsWhole) (arg9 : Memref sig .tc .vmem S64x1 .f32) (harg9 : arg9.IsWhole) (arg10 : Memref sig .tc .vmem S64x1 .f32) (harg10 : arg10.IsWhole) (arg11 : Memref sig .tc .vmem S1x4x16x256 .f32) (harg11 : arg11.IsWhole) (arg12 : Memref sig .tc .vmem S1x4x16x256 .f32) (harg12 : arg12.IsWhole) (arg13 : Memref sig .tc .vmem S1x4x16x256 .bf16) (harg13 : arg13.IsWhole) (arg14 : Memref sig .tc .vmem S1x2x256x3072 .fp8e4m3) (harg14 : arg14.IsWhole) (arg15 : Memref sig .tc .vmem S1x2x256 .f32) (harg15 : arg15.IsWhole) (arg16 : Memref sig .tc .vmem S32x3072 .f32) (harg16 : arg16.IsWhole) (arg17 : Memref sig .tc .vmem S2x256x128 .f32) (harg17 : arg17.IsWhole)
    (x0 : Vec F S3 .f32) (x1 : Vec F S3 .f32) (x2 : Vec F S3 .f32) (x3 : Vec F S1x2x256x3072 .bf16) (x4 : Vec F S1x2x3072 .f32) (x5 : Vec F S1x2x3072 .f32) (x6 : Vec F S64x3072 .fp8e4m3) (x7 : Vec F S64x1 .f32) (x8 : Vec F S64x1 .f32) (x9 : Vec F S1x4x16x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_dit_final_eq_skeleton]; unfold cc0_dit_final_skel
    simp only [k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    iexists _, _; isplitr; swap; · iexact HS1
    ipureintro; rfl

end Cert.Kernel.Whole

end
-- ==== Proof.KernelFrame.lean ====
/- The kernel at device precision: its frame. Every run of the program from any memory ends, with the argument
   arrays as they were and every semaphore counter at zero. -/
module

public import proofs.«01_k».proof.Proof.KernelPoint
public import Idealize.ShloMosaic.Lib.Claim

@[expose] public section

-- the long axes of the windows ask for a deeper recursion than the default
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13): nothing reads what the kernel leaves in them, so nothing
    of it is named (Lib/Pipeline/Dat.lean `Dat.toRForget`). -/
def forgets0 : Fin 14 → Bool := fun w => w.val == 10 || w.val == 11 || w.val == 12 || w.val == 13

/-- The proof data of the one pipeline on core `c`: the arrays as the region finds them (`V`); after the body at
    point `t` each input's buffer at its block and the outputs, not named, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((bodyRuns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- Every run of the program ends, with the arrays as the proof data says: the inputs' as the region found them, the
    outputs' at some contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The frame: every run from any memory ends with the counters at zero and the argument arrays as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Whole

end
-- ==== Proof.Spec.lean ====
/- The arithmetic of one row, as the kernel computes it over the extended reals: the mean and the reciprocal standard
   deviation of a row of 3072 numbers, the modulated row, its largest magnitude, the power-of-two scale read off that
   magnitude, and the codes.  Also the two facts that let a row be summed, or its largest entry found, column block by
   column block. -/
module

public import proofs.«01_k».proof.Proof.Gen.KernelIdeal.Skeleton
public import Idealize.ShloMosaic.Lib.Pointwise

@[expose] public section

set_option maxRecDepth 16384

noncomputable section

namespace Cert.KernelIdeal

open Idealize.ShloMosaic Idealize.ShloMosaic.TcCoe Idealize.ShloMosaic.Tactic
open Cert.KernelIdeal.Gen

/-- Column `128 j + l` of a row of 3072. -/
abbrev col (j : ℕ) (hj : j < 24) (l : Fin 128) : Fin 3072 := ⟨128 * j + l.val, by omega⟩

/-- The named reciprocal of the row length. -/
def invD : EReal := Named.named (F := Ideal) (φ := .f32) κ "inv_d" 0x39AAAAAB#32

theorem invD_def : Named.named (F := Ideal) (φ := .f32) κ "inv_d" 0x39AAAAAB#32 = invD := rfl

/-- The mean of a row. -/
def rowMean (x : Fin 3072 → EReal) : EReal := (∑ d, x d) * invD

/-- The reciprocal square root of a row's variance (plus the small constant). -/
def rowRs (x : Fin 3072 → EReal) : EReal :=
  Ideal.rsqrt ((∑ d, (x d - rowMean x) * (x d - rowMean x)) * invD + Ideal.ofBits .f32 897988541#32)

/-- The normalised, modulated row. -/
def rowH (x sc sh : Fin 3072 → EReal) (d : Fin 3072) : EReal :=
  (x d - rowMean x) * rowRs x * (1 + sc d) + sh d

/-- The largest magnitude of a row, over the largest code. -/
def rowQ (h : Fin 3072 → EReal) : EReal :=
  Finset.fold max (Ideal.ofBits .f32 4286578688#32) (fun d => FloatOps.absf (F := Ideal) (φ := .f32) (h d)) Finset.univ
    * Ideal.ofBits .f32 991054117#32

/-- One step of the search for the exponent field: add `bit` if the binade it starts lies at or below `q`. -/
def efStep (q : EReal) (bit e : BitVec 32) : BitVec 32 :=
  if Ideal.ofBits .f32 (IntOp.shli ArithUnit.vector (IntOp.addi e bit) 23#32) ≤ q then IntOp.addi e bit else e

/-- The exponent field of `q`: eight steps, from the highest bit down. -/
def efOf (q : EReal) : BitVec 32 :=
  efStep q 1#32 (efStep q 2#32 (efStep q 4#32 (efStep q 8#32
    (efStep q 16#32 (efStep q 32#32 (efStep q 64#32 (efStep q 128#32 0#32)))))))

/-- The field the scale is made from: the smallest and the largest field stand for scale one. -/
def efFix (q : EReal) : BitVec 32 :=
  Scalar.select (IntOp.ori (IntOp.cmpi .eq (efOf q) 0#32) (IntOp.cmpi .eq (efOf q) 255#32)) 126#32 (efOf q)

/-- The row's scale. -/
def kScale (q : EReal) : EReal := Ideal.ofBits .f32 (IntOp.shli ArithUnit.vector (IntOp.addi (efFix q) 1#32) 23#32)

/-- The reciprocal of the row's scale. -/
def kInv (q : EReal) : EReal := Ideal.ofBits .f32 (IntOp.shli ArithUnit.vector (IntOp.subi 253#32 (efFix q)) 23#32)

/-- Clipping to the range of the codes. -/
def clip (v : EReal) : EReal := min (Ideal.ofBits .f32 1138753536#32) (max (Ideal.ofBits .f32 3286237184#32) v)

/-- The codes of a row. -/
def rowCode (x sc sh : Fin 3072 → EReal) (d : Fin 3072) : EReal :=
  clip (rowH x sc sh d * kInv (rowQ (rowH x sc sh)))

/-- The scale of a row. -/
def rowScale (x sc sh : Fin 3072 → EReal) : EReal := kScale (rowQ (rowH x sc sh))

/-- A row is its column blocks. -/
theorem sum_col (f : Fin 3072 → EReal) : ∑ d, f d = ∑ l : Fin 128, ∑ j : Fin 24, f (col j.val j.isLt l) := by
  rw [Finset.sum_comm]
  rw [← Finset.sum_product', ← Equiv.sum_comp (finProdFinEquiv (m := 24) (n := 128))]
  refine Finset.sum_congr rfl fun x _ => ?_
  congr 1
  apply Fin.ext
  simp [finProdFinEquiv]
  omega

/-- Summing a row block after block, lane by lane. -/
theorem sum_chain (f : Fin 3072 → EReal) :
    (∑ l : Fin 128, (f (col 0 (by norm_num) l) + f (col 1 (by norm_num) l) + f (col 2 (by norm_num) l) + f (col 3 (by norm_num) l) + f (col 4 (by norm_num) l) + f (col 5 (by norm_num) l) + f (col 6 (by norm_num) l) + f (col 7 (by norm_num) l) + f (col 8 (by norm_num) l) + f (col 9 (by norm_num) l) + f (col 10 (by norm_num) l) + f (col 11 (by norm_num) l) + f (col 12 (by norm_num) l) + f (col 13 (by norm_num) l) + f (col 14 (by norm_num) l) + f (col 15 (by norm_num) l) + f (col 16 (by norm_num) l) + f (col 17 (by norm_num) l) + f (col 18 (by norm_num) l) + f (col 19 (by norm_num) l) + f (col 20 (by norm_num) l) + f (col 21 (by norm_num) l) + f (col 22 (by norm_num) l) + f (col 23 (by norm_num) l))) = ∑ d, f d := by
  rw [sum_col]
  refine Finset.sum_congr rfl fun l _ => ?_
  simp only [Fin.sum_univ_castSucc, Fin.sum_univ_zero, zero_add]
  rfl

theorem max_fold_le {ι : Type} [Fintype ι] (b : EReal) (f : ι → EReal) (c : EReal) :
    Finset.fold max b f Finset.univ ≤ c ↔ b ≤ c ∧ ∀ i, f i ≤ c := by
  rw [Finset.fold_max_le]; simp

/-- The largest entry of a row, block after block, lane by lane. -/
theorem max_chain (b : EReal) (f : Fin 3072 → EReal) :
    Finset.fold max b (fun l : Fin 128 => max (max (max (max (max (max (max (max (max (max (max (max (max (max (max (max (max (max (max (max (max (max (max (f (col 0 (by norm_num) l)) (f (col 1 (by norm_num) l))) (f (col 2 (by norm_num) l))) (f (col 3 (by norm_num) l))) (f (col 4 (by norm_num) l))) (f (col 5 (by norm_num) l))) (f (col 6 (by norm_num) l))) (f (col 7 (by norm_num) l))) (f (col 8 (by norm_num) l))) (f (col 9 (by norm_num) l))) (f (col 10 (by norm_num) l))) (f (col 11 (by norm_num) l))) (f (col 12 (by norm_num) l))) (f (col 13 (by norm_num) l))) (f (col 14 (by norm_num) l))) (f (col 15 (by norm_num) l))) (f (col 16 (by norm_num) l))) (f (col 17 (by norm_num) l))) (f (col 18 (by norm_num) l))) (f (col 19 (by norm_num) l))) (f (col 20 (by norm_num) l))) (f (col 21 (by norm_num) l))) (f (col 22 (by norm_num) l))) (f (col 23 (by norm_num) l))) Finset.univ = Finset.fold max b f Finset.univ := by
  refine eq_of_forall_ge_iff fun c => ?_
  rw [max_fold_le, max_fold_le]
  refine and_congr_right fun _ => ?_
  simp only [max_le_iff]
  constructor
  · intro h d
    have hl := h ⟨d.val % 128, Nat.mod_lt _ (by norm_num)⟩
    have hd : d.val / 128 < 24 := by omega
    have key : f (col (d.val / 128) hd ⟨d.val % 128, Nat.mod_lt _ (by norm_num)⟩) ≤ c := by
      generalize d.val / 128 = j at hd ⊢
      interval_cases j <;> tauto
    convert key using 2
    apply Fin.ext
    simp only
    omega
  · intro h l
    simp only [h, and_self]

end Cert.KernelIdeal

end
-- ==== Proof.Geom.lean ====
/- Where the tiles of one trip lie: the indices a rectangle of 32 rows and 128 columns reads and writes. -/
module

public import proofs.«01_k».proof.Proof.Spec
public import Idealize.ShloMosaic.Lib.Pipeline.ValueKit.Geometry
public import proofs.«01_k».proof.Proof.Gen.KernelIdeal.Loops

@[expose] public section

set_option maxRecDepth 16384

noncomputable section

namespace Cert.KernelIdeal

open Idealize.ShloMosaic Idealize.ShloMosaic.TcCoe Idealize.ShloMosaic.Tactic
open Cert.KernelIdeal.Gen

/-- The entry `(i, l)` of the tile of 32 rows from row `r0` and column block `j` of plane `p`. -/
theorem emb_tile {off : Fin 4 → ℕ} (h : ∀ a, off a + (![1, 1, 32, 128] : Fin 4 → ℕ) a ≤ S1x2x256x3072.size a)
    (p r0 j : ℕ) (hp : p < 2) (hr : r0 + 32 ≤ 256) (hj : j < 24) (hoff : off = ![0, p, r0, 128 * j])
    (i : Fin 32) (l : Fin 128) :
    (Rect.unit (s := S1x2x256x3072) off ![1, 1, 32, 128] h).emb (ix4 0 0 i l)
      = ix4 0 ⟨p, hp⟩ ⟨r0 + i.val, by omega⟩ (col j hj l) := by
  subst hoff
  funext a
  apply Fin.ext
  refine (ValueKit.rect_emb_unit_val _ _ _ _ _).trans ?_
  fin_cases a <;> rfl

theorem readAt_tile {e : EltTy} {sp : Space} (m : Memref sig .tc sp S1x2x256x3072 e) {off : Fin 4 → ℕ}
    (h : ∀ a, off a + (![1, 1, 32, 128] : Fin 4 → ℕ) a ≤ S1x2x256x3072.size a)
    (p r0 j : ℕ) (hp : p < 2) (hr : r0 + 32 ≤ 256) (hj : j < 24) (hoff : off = ![0, p, r0, 128 * j])
    (X : BufTy.Contents (Elt Ideal) m.view.ty) (i : Fin 32) (l : Fin 128) :
    View.readAt (Elt Ideal) m.view (Rect.unit (s := S1x2x256x3072) off ![1, 1, 32, 128] h).toLoadRect X (ix4 0 0 i l)
      = m.view.read (Elt Ideal) X (ix4 0 ⟨p, hp⟩ ⟨r0 + i.val, by omega⟩ (col j hj l)) := by
  rw [View.readAt_apply]
  exact congrArg _ (emb_tile h p r0 j hp hr hj hoff i l)

theorem readAt_lane {sp : Space} (m : Memref sig .tc sp S1x2x3072 .f32) {off : Fin 3 → ℕ}
    (h : ∀ a, off a + (![1, 1, 128] : Fin 3 → ℕ) a ≤ S1x2x3072.size a)
    (p j : ℕ) (hp : p < 2) (hj : j < 24) (hoff : off = ![0, p, 128 * j])
    (X : BufTy.Contents (Elt Ideal) m.view.ty) (l : Fin 128) :
    View.readAt (Elt Ideal) m.view (Rect.unit (s := S1x2x3072) off ![1, 1, 128] h).toLoadRect X (ix3 0 0 l)
      = m.view.read (Elt Ideal) X (ix3 0 ⟨p, hp⟩ (col j hj l)) := by
  subst hoff
  rw [View.readAt_apply]
  refine congrArg _ ?_
  funext a
  apply Fin.ext
  refine (ValueKit.rect_emb_unit_val _ _ _ _ _).trans ?_
  fin_cases a <;> rfl

/-- The entry `(i, l)` of the 32 rows from row `r0` of plane `p` of the scale scratch. -/
theorem emb_rows {off : Fin 3 → ℕ} (h : ∀ a, off a + (![1, 32, 128] : Fin 3 → ℕ) a ≤ S2x256x128.size a)
    (p r0 : ℕ) (hp : p < 2) (hr : r0 + 32 ≤ 256) (hoff : off = ![p, r0, 0])
    (i : Fin 32) (l : Fin 128) :
    (Rect.unit (s := S2x256x128) off ![1, 32, 128] h).emb (ix3 0 i l)
      = ix3 ⟨p, hp⟩ ⟨r0 + i.val, by omega⟩ l := by
  subst hoff
  funext a
  apply Fin.ext
  refine (ValueKit.rect_emb_unit_val _ _ _ _ _).trans ?_
  fin_cases a
  · rfl
  · rfl
  · exact Nat.zero_add _

/-- Row `r` of plane `p` of the block of tokens. -/
abbrev xrow {sp : Space} {e : EltTy} (m : Memref sig .tc sp S1x2x256x3072 e) (X : BufTy.Contents (Elt Ideal) m.view.ty)
    (p : Fin 2) (r : Fin 256) (d : Fin 3072) := m.view.read (Elt Ideal) X (ix4 0 p r d)

/-- Row `p` of a modulation block. -/
abbrev arow {sp : Space} (m : Memref sig .tc sp S1x2x3072 .f32) (X : BufTy.Contents (Elt Ideal) m.view.ty)
    (p : Fin 2) (d : Fin 3072) : EReal := m.view.read (Elt Ideal) X (ix3 0 p d)

/-- The codes of the block, entry by entry. -/
def G14 (a5 : Memref sig .tc .vmem S1x2x256x3072 .bf16) (a6 a7 : Memref sig .tc .vmem S1x2x3072 .f32)
    (X5 : BufTy.Contents (Elt Ideal) a5.view.ty) (X6 : BufTy.Contents (Elt Ideal) a6.view.ty)
    (X7 : BufTy.Contents (Elt Ideal) a7.view.ty) (y : S1x2x256x3072.Idx) : EReal :=
  rowCode (xrow a5 X5 (y 1) (y 2)) (arow a7 X7 (y 1)) (arow a6 X6 (y 1)) (y 3)

/-- The scales of the block's rows, on every lane. -/
def G17 (a5 : Memref sig .tc .vmem S1x2x256x3072 .bf16) (a6 a7 : Memref sig .tc .vmem S1x2x3072 .f32)
    (X5 : BufTy.Contents (Elt Ideal) a5.view.ty) (X6 : BufTy.Contents (Elt Ideal) a6.view.ty)
    (X7 : BufTy.Contents (Elt Ideal) a7.view.ty) (y : S2x256x128.Idx) : EReal :=
  rowScale (xrow a5 X5 (y 0) (y 1)) (arow a7 X7 (y 0)) (arow a6 X6 (y 0))

/-- A tile whose entries are `G`'s is a tile of `G`. -/
theorem tile_agree {off : Fin 4 → ℕ} (h : ∀ a, off a + (![1, 1, 32, 128] : Fin 4 → ℕ) a ≤ S1x2x256x3072.size a)
    (p r0 j : ℕ) (hp : p < 2) (hr : r0 + 32 ≤ 256) (hj : j < 24) (hoff : off = ![0, p, r0, 128 * j])
    (G : S1x2x256x3072.Idx → EReal) (w : (⟨4, ![1, 1, 32, 128]⟩ : Shape).Idx → EReal)
    (hw : ∀ i l, w (ix4 0 0 i l) = G (ix4 0 ⟨p, hp⟩ ⟨r0 + i.val, by omega⟩ (col j hj l)))
    (x : (⟨4, ![1, 1, 32, 128]⟩ : Shape).Idx) :
    w x = G ((Rect.unit (s := S1x2x256x3072) off ![1, 1, 32, 128] h).emb x) := by
  have hx : x = ix4 0 0 (x 2) (x 3) := by
    funext a
    fin_cases a
    · exact Subsingleton.elim (α := Fin 1) _ _
    · exact Subsingleton.elim (α := Fin 1) _ _
    · rfl
    · rfl
  rw [hx]
  exact (hw _ _).trans (congrArg G (emb_tile h p r0 j hp hr hj hoff _ _).symm)

theorem tile_mem {off : Fin 4 → ℕ} (h : ∀ a, off a + (![1, 1, 32, 128] : Fin 4 → ℕ) a ≤ S1x2x256x3072.size a)
    (p r0 j : ℕ) (hp : p < 2) (hr : r0 + 32 ≤ 256) (hj : j < 24) (hoff : off = ![0, p, r0, 128 * j])
    (i : Fin 32) (l : Fin 128) :
    (ix4 0 ⟨p, hp⟩ ⟨r0 + i.val, by omega⟩ (col j hj l) : S1x2x256x3072.Idx)
      ∈ (Rect.unit (s := S1x2x256x3072) off ![1, 1, 32, 128] h).set := by
  rw [← emb_tile h p r0 j hp hr hj hoff i l, ← Rect.map_emb_univ]
  exact Finset.mem_map_of_mem _ (Finset.mem_univ _)

theorem rows_agree {off : Fin 3 → ℕ} (h : ∀ a, off a + (![1, 32, 128] : Fin 3 → ℕ) a ≤ S2x256x128.size a)
    (p r0 : ℕ) (hp : p < 2) (hr : r0 + 32 ≤ 256) (hoff : off = ![p, r0, 0])
    (G : S2x256x128.Idx → EReal) (w : (⟨3, ![1, 32, 128]⟩ : Shape).Idx → EReal)
    (hw : ∀ i l, w (ix3 0 i l) = G (ix3 ⟨p, hp⟩ ⟨r0 + i.val, by omega⟩ l))
    (x : (⟨3, ![1, 32, 128]⟩ : Shape).Idx) :
    w x = G ((Rect.unit (s := S2x256x128) off ![1, 32, 128] h).emb x) := by
  have hx : x = ix3 0 (x 1) (x 2) := by
    funext a
    fin_cases a
    · exact Subsingleton.elim (α := Fin 1) _ _
    · rfl
    · rfl
  rw [hx]
  exact (hw _ _).trans (congrArg G (emb_rows h p r0 hp hr hoff _ _).symm)

theorem rows_mem {off : Fin 3 → ℕ} (h : ∀ a, off a + (![1, 32, 128] : Fin 3 → ℕ) a ≤ S2x256x128.size a)
    (p r0 : ℕ) (hp : p < 2) (hr : r0 + 32 ≤ 256) (hoff : off = ![p, r0, 0]) (i : Fin 32) (l : Fin 128) :
    (ix3 ⟨p, hp⟩ ⟨r0 + i.val, by omega⟩ l : S2x256x128.Idx)
      ∈ (Rect.unit (s := S2x256x128) off ![1, 32, 128] h).set := by
  rw [← emb_rows h p r0 hp hr hoff i l, ← Rect.map_emb_univ]
  exact Finset.mem_map_of_mem _ (Finset.mem_univ _)

end Cert.KernelIdeal

end
-- ==== Proof.BodyRun.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- One run of the whole kernel body: the inputs are left as they were, and each buffer the body writes ends at a
    list of pieces written over what it held.  The lists are found by the run. -/
@[irreducible] def bodyRun (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S1x2x256x3072 .bf16) (harg5 : arg5.IsWhole) (arg6 : Memref sig .tc .vmem S1x2x3072 .f32) (harg6 : arg6.IsWhole) (arg7 : Memref sig .tc .vmem S1x2x3072 .f32) (harg7 : arg7.IsWhole) (arg8 : Memref sig .tc .vmem S64x3072 .fp8e4m3) (harg8 : arg8.IsWhole) (arg9 : Memref sig .tc .vmem S64x1 .f32) (harg9 : arg9.IsWhole) (arg10 : Memref sig .tc .vmem S64x1 .f32) (harg10 : arg10.IsWhole) (arg11 : Memref sig .tc .vmem S1x4x16x256 .f32) (harg11 : arg11.IsWhole) (arg12 : Memref sig .tc .vmem S1x4x16x256 .f32) (harg12 : arg12.IsWhole) (arg13 : Memref sig .tc .vmem S1x4x16x256 .bf16) (harg13 : arg13.IsWhole) (arg14 : Memref sig .tc .vmem S1x2x256x3072 .fp8e4m3) (harg14 : arg14.IsWhole) (arg15 : Memref sig .tc .vmem S1x2x256 .f32) (harg15 : arg15.IsWhole) (arg16 : Memref sig .tc .vmem S32x3072 .f32) (harg16 : arg16.IsWhole) (arg17 : Memref sig .tc .vmem S2x256x128 .f32) (harg17 : arg17.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → List (View.Piece (Elt F) S1x4x16x256 .f32))) (L13 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → List (View.Piece (Elt F) S1x4x16x256 .bf16))) (L14 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → List (View.Piece (Elt F) S1x2x256x3072 .fp8e4m3))) (L15 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → List (View.Piece (Elt F) S1x2x256 .f32))) (L16 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → List (View.Piece (Elt F) S32x3072 .f32))), { L17 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → List (View.Piece (Elt F) S2x256x128 .f32)) // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)) : sProp 𝕄)
      ⊢ wp frame (wpE (defs₀ (F := F)) Variants.none (c : Thread nD τ) none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f12 f13 f14 f15 f16 f17))) ∗ (arg13.view.loc (c : Thread nD τ) ↦[arg13.view.set]{fullShare} (arg13.view.writes (Elt F) f13 (L13 f12 f13 f14 f15 f16 f17))) ∗ (arg14.view.loc (c : Thread nD τ) ↦[arg14.view.set]{fullShare} (arg14.view.writes (Elt F) f14 (L14 f12 f13 f14 f15 f16 f17))) ∗ (arg15.view.loc (c : Thread nD τ) ↦[arg15.view.set]{fullShare} (arg15.view.writes (Elt F) f15 (L15 f12 f13 f14 f15 f16 f17))) ∗ (arg16.view.loc (c : Thread nD τ) ↦[arg16.view.set]{fullShare} (arg16.view.writes (Elt F) f16 (L16 f12 f13 f14 f15 f16 f17))) ∗ (arg17.view.loc (c : Thread nD τ) ↦[arg17.view.set]{fullShare} (arg17.view.writes (Elt F) f17 (L17 f12 f13 f14 f15 f16 f17)))) : sProp 𝕄)) } := by
  refine ⟨?_, ?_, ?_, ?_, ?_, ?_, fun E f12 f13 f14 f15 f16 f17 => ?run⟩
  case run =>
    simp only [cc0_dit_final_eq_skeleton]; unfold cc0_dit_final_skel
    simp only [k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    iintro ⟨H2, H3, H4, H5, H6, H7, H8, H9, H10, H11, H12, H13, H14, H15, H16, H17⟩
    sl_exec
    sl_step
    sl_close

end Cert.KernelIdeal

end
-- ==== Proof.Trip1.lean ====
/- One trip of the first loop (plane 0), read entry by entry: what each of its 24 column blocks of codes, and its block of
   scales, holds in terms of the arithmetic of one row. -/
module

public import proofs.«01_k».proof.Proof.Geom
public import proofs.«01_k».proof.Proof.BodyRun
public import Idealize.ShloMosaic.Lib.Pipeline.ReadBack

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (a5 : Memref sig .tc .vmem S1x2x256x3072 .bf16) (a6 a7 : Memref sig .tc .vmem S1x2x3072 .f32)
  (a16 : Memref sig .tc .vmem S32x3072 .f32)
  (X5 : BufTy.Contents (Elt Ideal) a5.view.ty) (X6 : BufTy.Contents (Elt Ideal) a6.view.ty)
  (X7 : BufTy.Contents (Elt Ideal) a7.view.ty) (k : Fin k0_t1_loop.trips)

namespace t1

theorem lt8 : k.val < 8 := Nat.lt_of_lt_of_le k.isLt k0_t1_abs.2.1

/-- The block's row that row `i` of trip `k` is. -/
abbrev row (i : Fin 32) : Fin 256 := ⟨32 * k.val + i.val, by have := lt8 k; omega⟩

/-- The row of tokens, of the scale and of the shift that row `i` of trip `k` works on. -/
abbrev xr (i : Fin 32) : Fin 3072 → EReal := xrow a5 X5 0 (row k i)
abbrev hr (i : Fin 32) : Fin 3072 → EReal := rowH (xr a5 X5 k i) (arow a7 X7 0) (arow a6 X6 0)

theorem x0 (h) (i : Fin 32) (l : Fin 128) : View.readAt (Elt Ideal) a5.view (Rect.unit (s := S1x2x256x3072) (k0_off1 k) ![1, 1, 32, 128] h).toLoadRect X5 (ix4 0 0 i l)
    = xr a5 X5 k i (col 0 (by norm_num) l) :=
  readAt_tile a5 h 0 (32 * k.val) 0 (by norm_num) (by have := lt8 k; omega) (by norm_num) (k0_off1_eq k) X5 i l
theorem s0 (a : Memref sig .tc .vmem S1x2x3072 .f32) (X : BufTy.Contents (Elt Ideal) a.view.ty) (h) (l : Fin 128) : View.readAt (Elt Ideal) a.view (Rect.unit (s := S1x2x3072) ![0, 0, 0] ![1, 1, 128] h).toLoadRect X (ix3 0 0 l)
    = arow a X 0 (col 0 (by norm_num) l) :=
  readAt_lane a h 0 0 (by norm_num) (by norm_num) rfl X l

theorem x1 (h) (i : Fin 32) (l : Fin 128) : View.readAt (Elt Ideal) a5.view (Rect.unit (s := S1x2x256x3072) (k0_off2 k) ![1, 1, 32, 128] h).toLoadRect X5 (ix4 0 0 i l)
    = xr a5 X5 k i (col 1 (by norm_num) l) :=
  readAt_tile a5 h 0 (32 * k.val) 1 (by norm_num) (by have := lt8 k; omega) (by norm_num) (k0_off2_eq k) X5 i l
theorem s1 (a : Memref sig .tc .vmem S1x2x3072 .f32) (X : BufTy.Contents (Elt Ideal) a.view.ty) (h) (l : Fin 128) : View.readAt (Elt Ideal) a.view (Rect.unit (s := S1x2x3072) ![0, 0, 128] ![1, 1, 128] h).toLoadRect X (ix3 0 0 l)
    = arow a X 0 (col 1 (by norm_num) l) :=
  readAt_lane a h 0 1 (by norm_num) (by norm_num) rfl X l

theorem x2 (h) (i : Fin 32) (l : Fin 128) : View.readAt (Elt Ideal) a5.view (Rect.unit (s := S1x2x256x3072) (k0_off3 k) ![1, 1, 32, 128] h).toLoadRect X5 (ix4 0 0 i l)
    = xr a5 X5 k i (col 2 (by norm_num) l) :=
  readAt_tile a5 h 0 (32 * k.val) 2 (by norm_num) (by have := lt8 k; omega) (by norm_num) (k0_off3_eq k) X5 i l
theorem s2 (a : Memref sig .tc .vmem S1x2x3072 .f32) (X : BufTy.Contents (Elt Ideal) a.view.ty) (h) (l : Fin 128) : View.readAt (Elt Ideal) a.view (Rect.unit (s := S1x2x3072) ![0, 0, 256] ![1, 1, 128] h).toLoadRect X (ix3 0 0 l)
    = arow a X 0 (col 2 (by norm_num) l) :=
  readAt_lane a h 0 2 (by norm_num) (by norm_num) rfl X l

theorem x3 (h) (i : Fin 32) (l : Fin 128) : View.readAt (Elt Ideal) a5.view (Rect.unit (s := S1x2x256x3072) (k0_off4 k) ![1, 1, 32, 128] h).toLoadRect X5 (ix4 0 0 i l)
    = xr a5 X5 k i (col 3 (by norm_num) l) :=
  readAt_tile a5 h 0 (32 * k.val) 3 (by norm_num) (by have := lt8 k; omega) (by norm_num) (k0_off4_eq k) X5 i l
theorem s3 (a : Memref sig .tc .vmem S1x2x3072 .f32) (X : BufTy.Contents (Elt Ideal) a.view.ty) (h) (l : Fin 128) : View.readAt (Elt Ideal) a.view (Rect.unit (s := S1x2x3072) ![0, 0, 384] ![1, 1, 128] h).toLoadRect X (ix3 0 0 l)
    = arow a X 0 (col 3 (by norm_num) l) :=
  readAt_lane a h 0 3 (by norm_num) (by norm_num) rfl X l

theorem x4 (h) (i : Fin 32) (l : Fin 128) : View.readAt (Elt Ideal) a5.view (Rect.unit (s := S1x2x256x3072) (k0_off5 k) ![1, 1, 32, 128] h).toLoadRect X5 (ix4 0 0 i l)
    = xr a5 X5 k i (col 4 (by norm_num) l) :=
  readAt_tile a5 h 0 (32 * k.val) 4 (by norm_num) (by have := lt8 k; omega) (by norm_num) (k0_off5_eq k) X5 i l
theorem s4 (a : Memref sig .tc .vmem S1x2x3072 .f32) (X : BufTy.Contents (Elt Ideal) a.view.ty) (h) (l : Fin 128) : View.readAt (Elt Ideal) a.view (Rect.unit (s := S1x2x3072) ![0, 0, 512] ![1, 1, 128] h).toLoadRect X (ix3 0 0 l)
    = arow a X 0 (col 4 (by norm_num) l) :=
  readAt_lane a h 0 4 (by norm_num) (by norm_num) rfl X l

theorem x5 (h) (i : Fin 32) (l : Fin 128) : View.readAt (Elt Ideal) a5.view (Rect.unit (s := S1x2x256x3072) (k0_off6 k) ![1, 1, 32, 128] h).toLoadRect X5 (ix4 0 0 i l)
    = xr a5 X5 k i (col 5 (by norm_num) l) :=
  readAt_tile a5 h 0 (32 * k.val) 5 (by norm_num) (by have := lt8 k; omega) (by norm_num) (k0_off6_eq k) X5 i l
theorem s5 (a : Memref sig .tc .vmem S1x2x3072 .f32) (X : BufTy.Contents (Elt Ideal) a.view.ty) (h) (l : Fin 128) : View.readAt (Elt Ideal) a.view (Rect.unit (s := S1x2x3072) ![0, 0, 640] ![1, 1, 128] h).toLoadRect X (ix3 0 0 l)
    = arow a X 0 (col 5 (by norm_num) l) :=
  readAt_lane a h 0 5 (by norm_num) (by norm_num) rfl X l

theorem x6 (h) (i : Fin 32) (l : Fin 128) : View.readAt (Elt Ideal) a5.view (Rect.unit (s := S1x2x256x3072) (k0_off7 k) ![1, 1, 32, 128] h).toLoadRect X5 (ix4 0 0 i l)
    = xr a5 X5 k i (col 6 (by norm_num) l) :=
  readAt_tile a5 h 0 (32 * k.val) 6 (by norm_num) (by have := lt8 k; omega) (by norm_num) (k0_off7_eq k) X5 i l
theorem s6 (a : Memref sig .tc .vmem S1x2x3072 .f32) (X : BufTy.Contents (Elt Ideal) a.view.ty) (h) (l : Fin 128) : View.readAt (Elt Ideal) a.view (Rect.unit (s := S1x2x3072) ![0, 0, 768] ![1, 1, 128] h).toLoadRect X (ix3 0 0 l)
    = arow a X 0 (col 6 (by norm_num) l) :=
  readAt_lane a h 0 6 (by norm_num) (by norm_num) rfl X l

theorem x7 (h) (i : Fin 32) (l : Fin 128) : View.readAt (Elt Ideal) a5.view (Rect.unit (s := S1x2x256x3072) (k0_off8 k) ![1, 1, 32, 128] h).toLoadRect X5 (ix4 0 0 i l)
    = xr a5 X5 k i (col 7 (by norm_num) l) :=
  readAt_tile a5 h 0 (32 * k.val) 7 (by norm_num) (by have := lt8 k; omega) (by norm_num) (k0_off8_eq k) X5 i l
theorem s7 (a : Memref sig .tc .vmem S1x2x3072 .f32) (X : BufTy.Contents (Elt Ideal) a.view.ty) (h) (l : Fin 128) : View.readAt (Elt Ideal) a.view (Rect.unit (s := S1x2x3072) ![0, 0, 896] ![1, 1, 128] h).toLoadRect X (ix3 0 0 l)
    = arow a X 0 (col 7 (by norm_num) l) :=
  readAt_lane a h 0 7 (by norm_num) (by norm_num) rfl X l

theorem x8 (h) (i : Fin 32) (l : Fin 128) : View.readAt (Elt Ideal) a5.view (Rect.unit (s := S1x2x256x3072) (k0_off9 k) ![1, 1, 32, 128] h).toLoadRect X5 (ix4 0 0 i l)
    = xr a5 X5 k i (col 8 (by norm_num) l) :=
  readAt_tile a5 h 0 (32 * k.val) 8 (by norm_num) (by have := lt8 k; omega) (by norm_num) (k0_off9_eq k) X5 i l
theorem s8 (a : Memref sig .tc .vmem S1x2x3072 .f32) (X : BufTy.Contents (Elt Ideal) a.view.ty) (h) (l : Fin 128) : View.readAt (Elt Ideal) a.view (Rect.unit (s := S1x2x3072) ![0, 0, 1024] ![1, 1, 128] h).toLoadRect X (ix3 0 0 l)
    = arow a X 0 (col 8 (by norm_num) l) :=
  readAt_lane a h 0 8 (by norm_num) (by norm_num) rfl X l

theorem x9 (h) (i : Fin 32) (l : Fin 128) : View.readAt (Elt Ideal) a5.view (Rect.unit (s := S1x2x256x3072) (k0_off10 k) ![1, 1, 32, 128] h).toLoadRect X5 (ix4 0 0 i l)
    = xr a5 X5 k i (col 9 (by norm_num) l) :=
  readAt_tile a5 h 0 (32 * k.val) 9 (by norm_num) (by have := lt8 k; omega) (by norm_num) (k0_off10_eq k) X5 i l
theorem s9 (a : Memref sig .tc .vmem S1x2x3072 .f32) (X : BufTy.Contents (Elt Ideal) a.view.ty) (h) (l : Fin 128) : View.readAt (Elt Ideal) a.view (Rect.unit (s := S1x2x3072) ![0, 0, 1152] ![1, 1, 128] h).toLoadRect X (ix3 0 0 l)
    = arow a X 0 (col 9 (by norm_num) l) :=
  readAt_lane a h 0 9 (by norm_num) (by norm_num) rfl X l

theorem x10 (h) (i : Fin 32) (l : Fin 128) : View.readAt (Elt Ideal) a5.view (Rect.unit (s := S1x2x256x3072) (k0_off11 k) ![1, 1, 32, 128] h).toLoadRect X5 (ix4 0 0 i l)
    = xr a5 X5 k i (col 10 (by norm_num) l) :=
  readAt_tile a5 h 0 (32 * k.val) 10 (by norm_num) (by have := lt8 k; omega) (by norm_num) (k0_off11_eq k) X5 i l
theorem s10 (a : Memref sig .tc .vmem S1x2x3072 .f32) (X : BufTy.Contents (Elt Ideal) a.view.ty) (h) (l : Fin 128) : View.readAt (Elt Ideal) a.view (Rect.unit (s := S1x2x3072) ![0, 0, 1280] ![1, 1, 128] h).toLoadRect X (ix3 0 0 l)
    = arow a X 0 (col 10 (by norm_num) l) :=
  readAt_lane a h 0 10 (by norm_num) (by norm_num) rfl X l

theorem x11 (h) (i : Fin 32) (l : Fin 128) : View.readAt (Elt Ideal) a5.view (Rect.unit (s := S1x2x256x3072) (k0_off12 k) ![1, 1, 32, 128] h).toLoadRect X5 (ix4 0 0 i l)
    = xr a5 X5 k i (col 11 (by norm_num) l) :=
  readAt_tile a5 h 0 (32 * k.val) 11 (by norm_num) (by have := lt8 k; omega) (by norm_num) (k0_off12_eq k) X5 i l
theorem s11 (a : Memref sig .tc .vmem S1x2x3072 .f32) (X : BufTy.Contents (Elt Ideal) a.view.ty) (h) (l : Fin 128) : View.readAt (Elt Ideal) a.view (Rect.unit (s := S1x2x3072) ![0, 0, 1408] ![1, 1, 128] h).toLoadRect X (ix3 0 0 l)
    = arow a X 0 (col 11 (by norm_num) l) :=
  readAt_lane a h 0 11 (by norm_num) (by norm_num) rfl X l

theorem x12 (h) (i : Fin 32) (l : Fin 128) : View.readAt (Elt Ideal) a5.view (Rect.unit (s := S1x2x256x3072) (k0_off13 k) ![1, 1, 32, 128] h).toLoadRect X5 (ix4 0 0 i l)
    = xr a5 X5 k i (col 12 (by norm_num) l) :=
  readAt_tile a5 h 0 (32 * k.val) 12 (by norm_num) (by have := lt8 k; omega) (by norm_num) (k0_off13_eq k) X5 i l
theorem s12 (a : Memref sig .tc .vmem S1x2x3072 .f32) (X : BufTy.Contents (Elt Ideal) a.view.ty) (h) (l : Fin 128) : View.readAt (Elt Ideal) a.view (Rect.unit (s := S1x2x3072) ![0, 0, 1536] ![1, 1, 128] h).toLoadRect X (ix3 0 0 l)
    = arow a X 0 (col 12 (by norm_num) l) :=
  readAt_lane a h 0 12 (by norm_num) (by norm_num) rfl X l

theorem x13 (h) (i : Fin 32) (l : Fin 128) : View.readAt (Elt Ideal) a5.view (Rect.unit (s := S1x2x256x3072) (k0_off14 k) ![1, 1, 32, 128] h).toLoadRect X5 (ix4 0 0 i l)
    = xr a5 X5 k i (col 13 (by norm_num) l) :=
  readAt_tile a5 h 0 (32 * k.val) 13 (by norm_num) (by have := lt8 k; omega) (by norm_num) (k0_off14_eq k) X5 i l
theorem s13 (a : Memref sig .tc .vmem S1x2x3072 .f32) (X : BufTy.Contents (Elt Ideal) a.view.ty) (h) (l : Fin 128) : View.readAt (Elt Ideal) a.view (Rect.unit (s := S1x2x3072) ![0, 0, 1664] ![1, 1, 128] h).toLoadRect X (ix3 0 0 l)
    = arow a X 0 (col 13 (by norm_num) l) :=
  readAt_lane a h 0 13 (by norm_num) (by norm_num) rfl X l

theorem x14 (h) (i : Fin 32) (l : Fin 128) : View.readAt (Elt Ideal) a5.view (Rect.unit (s := S1x2x256x3072) (k0_off15 k) ![1, 1, 32, 128] h).toLoadRect X5 (ix4 0 0 i l)
    = xr a5 X5 k i (col 14 (by norm_num) l) :=
  readAt_tile a5 h 0 (32 * k.val) 14 (by norm_num) (by have := lt8 k; omega) (by norm_num) (k0_off15_eq k) X5 i l
theorem s14 (a : Memref sig .tc .vmem S1x2x3072 .f32) (X : BufTy.Contents (Elt Ideal) a.view.ty) (h) (l : Fin 128) : View.readAt (Elt Ideal) a.view (Rect.unit (s := S1x2x3072) ![0, 0, 1792] ![1, 1, 128] h).toLoadRect X (ix3 0 0 l)
    = arow a X 0 (col 14 (by norm_num) l) :=
  readAt_lane a h 0 14 (by norm_num) (by norm_num) rfl X l

theorem x15 (h) (i : Fin 32) (l : Fin 128) : View.readAt (Elt Ideal) a5.view (Rect.unit (s := S1x2x256x3072) (k0_off16 k) ![1, 1, 32, 128] h).toLoadRect X5 (ix4 0 0 i l)
    = xr a5 X5 k i (col 15 (by norm_num) l) :=
  readAt_tile a5 h 0 (32 * k.val) 15 (by norm_num) (by have := lt8 k; omega) (by norm_num) (k0_off16_eq k) X5 i l
theorem s15 (a : Memref sig .tc .vmem S1x2x3072 .f32) (X : BufTy.Contents (Elt Ideal) a.view.ty) (h) (l : Fin 128) : View.readAt (Elt Ideal) a.view (Rect.unit (s := S1x2x3072) ![0, 0, 1920] ![1, 1, 128] h).toLoadRect X (ix3 0 0 l)
    = arow a X 0 (col 15 (by norm_num) l) :=
  readAt_lane a h 0 15 (by norm_num) (by norm_num) rfl X l

theorem x16 (h) (i : Fin 32) (l : Fin 128) : View.readAt (Elt Ideal) a5.view (Rect.unit (s := S1x2x256x3072) (k0_off17 k) ![1, 1, 32, 128] h).toLoadRect X5 (ix4 0 0 i l)
    = xr a5 X5 k i (col 16 (by norm_num) l) :=
  readAt_tile a5 h 0 (32 * k.val) 16 (by norm_num) (by have := lt8 k; omega) (by norm_num) (k0_off17_eq k) X5 i l
theorem s16 (a : Memref sig .tc .vmem S1x2x3072 .f32) (X : BufTy.Contents (Elt Ideal) a.view.ty) (h) (l : Fin 128) : View.readAt (Elt Ideal) a.view (Rect.unit (s := S1x2x3072) ![0, 0, 2048] ![1, 1, 128] h).toLoadRect X (ix3 0 0 l)
    = arow a X 0 (col 16 (by norm_num) l) :=
  readAt_lane a h 0 16 (by norm_num) (by norm_num) rfl X l

theorem x17 (h) (i : Fin 32) (l : Fin 128) : View.readAt (Elt Ideal) a5.view (Rect.unit (s := S1x2x256x3072) (k0_off18 k) ![1, 1, 32, 128] h).toLoadRect X5 (ix4 0 0 i l)
    = xr a5 X5 k i (col 17 (by norm_num) l) :=
  readAt_tile a5 h 0 (32 * k.val) 17 (by norm_num) (by have := lt8 k; omega) (by norm_num) (k0_off18_eq k) X5 i l
theorem s17 (a : Memref sig .tc .vmem S1x2x3072 .f32) (X : BufTy.Contents (Elt Ideal) a.view.ty) (h) (l : Fin 128) : View.readAt (Elt Ideal) a.view (Rect.unit (s := S1x2x3072) ![0, 0, 2176] ![1, 1, 128] h).toLoadRect X (ix3 0 0 l)
    = arow a X 0 (col 17 (by norm_num) l) :=
  readAt_lane a h 0 17 (by norm_num) (by norm_num) rfl X l

theorem x18 (h) (i : Fin 32) (l : Fin 128) : View.readAt (Elt Ideal) a5.view (Rect.unit (s := S1x2x256x3072) (k0_off19 k) ![1, 1, 32, 128] h).toLoadRect X5 (ix4 0 0 i l)
    = xr a5 X5 k i (col 18 (by norm_num) l) :=
  readAt_tile a5 h 0 (32 * k.val) 18 (by norm_num) (by have := lt8 k; omega) (by norm_num) (k0_off19_eq k) X5 i l
theorem s18 (a : Memref sig .tc .vmem S1x2x3072 .f32) (X : BufTy.Contents (Elt Ideal) a.view.ty) (h) (l : Fin 128) : View.readAt (Elt Ideal) a.view (Rect.unit (s := S1x2x3072) ![0, 0, 2304] ![1, 1, 128] h).toLoadRect X (ix3 0 0 l)
    = arow a X 0 (col 18 (by norm_num) l) :=
  readAt_lane a h 0 18 (by norm_num) (by norm_num) rfl X l

theorem x19 (h) (i : Fin 32) (l : Fin 128) : View.readAt (Elt Ideal) a5.view (Rect.unit (s := S1x2x256x3072) (k0_off20 k) ![1, 1, 32, 128] h).toLoadRect X5 (ix4 0 0 i l)
    = xr a5 X5 k i (col 19 (by norm_num) l) :=
  readAt_tile a5 h 0 (32 * k.val) 19 (by norm_num) (by have := lt8 k; omega) (by norm_num) (k0_off20_eq k) X5 i l
theorem s19 (a : Memref sig .tc .vmem S1x2x3072 .f32) (X : BufTy.Contents (Elt Ideal) a.view.ty) (h) (l : Fin 128) : View.readAt (Elt Ideal) a.view (Rect.unit (s := S1x2x3072) ![0, 0, 2432] ![1, 1, 128] h).toLoadRect X (ix3 0 0 l)
    = arow a X 0 (col 19 (by norm_num) l) :=
  readAt_lane a h 0 19 (by norm_num) (by norm_num) rfl X l

theorem x20 (h) (i : Fin 32) (l : Fin 128) : View.readAt (Elt Ideal) a5.view (Rect.unit (s := S1x2x256x3072) (k0_off21 k) ![1, 1, 32, 128] h).toLoadRect X5 (ix4 0 0 i l)
    = xr a5 X5 k i (col 20 (by norm_num) l) :=
  readAt_tile a5 h 0 (32 * k.val) 20 (by norm_num) (by have := lt8 k; omega) (by norm_num) (k0_off21_eq k) X5 i l
theorem s20 (a : Memref sig .tc .vmem S1x2x3072 .f32) (X : BufTy.Contents (Elt Ideal) a.view.ty) (h) (l : Fin 128) : View.readAt (Elt Ideal) a.view (Rect.unit (s := S1x2x3072) ![0, 0, 2560] ![1, 1, 128] h).toLoadRect X (ix3 0 0 l)
    = arow a X 0 (col 20 (by norm_num) l) :=
  readAt_lane a h 0 20 (by norm_num) (by norm_num) rfl X l

theorem x21 (h) (i : Fin 32) (l : Fin 128) : View.readAt (Elt Ideal) a5.view (Rect.unit (s := S1x2x256x3072) (k0_off22 k) ![1, 1, 32, 128] h).toLoadRect X5 (ix4 0 0 i l)
    = xr a5 X5 k i (col 21 (by norm_num) l) :=
  readAt_tile a5 h 0 (32 * k.val) 21 (by norm_num) (by have := lt8 k; omega) (by norm_num) (k0_off22_eq k) X5 i l
theorem s21 (a : Memref sig .tc .vmem S1x2x3072 .f32) (X : BufTy.Contents (Elt Ideal) a.view.ty) (h) (l : Fin 128) : View.readAt (Elt Ideal) a.view (Rect.unit (s := S1x2x3072) ![0, 0, 2688] ![1, 1, 128] h).toLoadRect X (ix3 0 0 l)
    = arow a X 0 (col 21 (by norm_num) l) :=
  readAt_lane a h 0 21 (by norm_num) (by norm_num) rfl X l

theorem x22 (h) (i : Fin 32) (l : Fin 128) : View.readAt (Elt Ideal) a5.view (Rect.unit (s := S1x2x256x3072) (k0_off23 k) ![1, 1, 32, 128] h).toLoadRect X5 (ix4 0 0 i l)
    = xr a5 X5 k i (col 22 (by norm_num) l) :=
  readAt_tile a5 h 0 (32 * k.val) 22 (by norm_num) (by have := lt8 k; omega) (by norm_num) (k0_off23_eq k) X5 i l
theorem s22 (a : Memref sig .tc .vmem S1x2x3072 .f32) (X : BufTy.Contents (Elt Ideal) a.view.ty) (h) (l : Fin 128) : View.readAt (Elt Ideal) a.view (Rect.unit (s := S1x2x3072) ![0, 0, 2816] ![1, 1, 128] h).toLoadRect X (ix3 0 0 l)
    = arow a X 0 (col 22 (by norm_num) l) :=
  readAt_lane a h 0 22 (by norm_num) (by norm_num) rfl X l

theorem x23 (h) (i : Fin 32) (l : Fin 128) : View.readAt (Elt Ideal) a5.view (Rect.unit (s := S1x2x256x3072) (k0_off24 k) ![1, 1, 32, 128] h).toLoadRect X5 (ix4 0 0 i l)
    = xr a5 X5 k i (col 23 (by norm_num) l) :=
  readAt_tile a5 h 0 (32 * k.val) 23 (by norm_num) (by have := lt8 k; omega) (by norm_num) (k0_off24_eq k) X5 i l
theorem s23 (a : Memref sig .tc .vmem S1x2x3072 .f32) (X : BufTy.Contents (Elt Ideal) a.view.ty) (h) (l : Fin 128) : View.readAt (Elt Ideal) a.view (Rect.unit (s := S1x2x3072) ![0, 0, 2944] ![1, 1, 128] h).toLoadRect X (ix3 0 0 l)
    = arow a X 0 (col 23 (by norm_num) l) :=
  readAt_lane a h 0 23 (by norm_num) (by norm_num) rfl X l

theorem mean_at (i : Fin 32) : (trip_k0_t1.sl.r_1 (F := Ideal) a5 X5 k) (ix2 i 0) = rowMean (xr a5 X5 k i) := by
  pointwise [trip_k0_t1.sl.r_1, k0_pay5, trip_k0_t1.sl.v520, trip_k0_t1.sl.v515, trip_k0_t1.sl.v510, trip_k0_t1.sl.v505, trip_k0_t1.sl.v500, trip_k0_t1.sl.v495, trip_k0_t1.sl.v490, trip_k0_t1.sl.v485, trip_k0_t1.sl.v480, trip_k0_t1.sl.v475, trip_k0_t1.sl.v470, trip_k0_t1.sl.v465, trip_k0_t1.sl.v460, trip_k0_t1.sl.v455, trip_k0_t1.sl.v450, trip_k0_t1.sl.v445, trip_k0_t1.sl.v440, trip_k0_t1.sl.v435, trip_k0_t1.sl.v430, trip_k0_t1.sl.v425, trip_k0_t1.sl.v420, trip_k0_t1.sl.v415, trip_k0_t1.sl.v414, trip_k0_t1.sl.v419, trip_k0_t1.sl.v418, trip_k0_t1.sl.v424, trip_k0_t1.sl.v423, trip_k0_t1.sl.v429, trip_k0_t1.sl.v428, trip_k0_t1.sl.v434, trip_k0_t1.sl.v433, trip_k0_t1.sl.v439, trip_k0_t1.sl.v438, trip_k0_t1.sl.v444, trip_k0_t1.sl.v443, trip_k0_t1.sl.v449, trip_k0_t1.sl.v448, trip_k0_t1.sl.v454, trip_k0_t1.sl.v453, trip_k0_t1.sl.v459, trip_k0_t1.sl.v458, trip_k0_t1.sl.v464, trip_k0_t1.sl.v463, trip_k0_t1.sl.v469, trip_k0_t1.sl.v468, trip_k0_t1.sl.v474, trip_k0_t1.sl.v473, trip_k0_t1.sl.v479, trip_k0_t1.sl.v478, trip_k0_t1.sl.v484, trip_k0_t1.sl.v483, trip_k0_t1.sl.r, trip_k0_t1.sl.v489, trip_k0_t1.sl.v488, trip_k0_t1.sl.v494, trip_k0_t1.sl.v493, trip_k0_t1.sl.v499, trip_k0_t1.sl.v498, trip_k0_t1.sl.v504, trip_k0_t1.sl.v503, trip_k0_t1.sl.v509, trip_k0_t1.sl.v508, trip_k0_t1.sl.v514, trip_k0_t1.sl.v513, trip_k0_t1.sl.v519, trip_k0_t1.sl.v518]
  simp only [x0, x1, x2, x3, x4, x5, x6, x7, x8, x9, x10, x11, x12, x13, x14, x15, x16, x17, x18, x19, x20, x21, x22, x23, invD_def]
  rw [sum_chain (xr a5 X5 k i)]
  rfl

theorem mean_pay (h22 h23) (i : Fin 32) : k0_pay5 (F := Ideal) (trip_k0_t1.sl.v520 (F := Ideal) a5 X5 k)
    (View.readAt (Elt Ideal) a5.view (Rect.unit (s := S1x2x256x3072) (k0_off23 k) ![1, 1, 32, 128] h22).toLoadRect X5) (View.readAt (Elt Ideal) a5.view (Rect.unit (s := S1x2x256x3072) (k0_off24 k) ![1, 1, 32, 128] h23).toLoadRect X5) (ix2 i 0) = rowMean (xr a5 X5 k i) :=
  mean_at a5 X5 k i

theorem sq_at (i : Fin 32) (l : Fin 128) : (trip_k0_t1.sl.r_2 (F := Ideal) a5 X5 k) (ix2 i l) = (xr a5 X5 k i (col 0 (by norm_num) l) - rowMean (xr a5 X5 k i)) * (xr a5 X5 k i (col 0 (by norm_num) l) - rowMean (xr a5 X5 k i)) + (xr a5 X5 k i (col 1 (by norm_num) l) - rowMean (xr a5 X5 k i)) * (xr a5 X5 k i (col 1 (by norm_num) l) - rowMean (xr a5 X5 k i)) + (xr a5 X5 k i (col 2 (by norm_num) l) - rowMean (xr a5 X5 k i)) * (xr a5 X5 k i (col 2 (by norm_num) l) - rowMean (xr a5 X5 k i)) := by
  pointwise [trip_k0_t1.sl.r_2, k0_pay6]
  simp only [mean_pay, x0, x1, x2, x3, x4, x5, x6, x7, x8, x9, x10, x11, x12, x13, x14, x15, x16, x17, x18, x19, x20, x21, x22, x23]

theorem rs_at (i : Fin 32) : (trip_k0_t1.sl.r_4 (F := Ideal) a5 X5 k) (ix2 i 0) = rowRs (xr a5 X5 k i) := by
  pointwise [trip_k0_t1.sl.r_4, k0_pay12, trip_k0_t1.sl.v693, trip_k0_t1.sl.v685, trip_k0_t1.sl.v677, trip_k0_t1.sl.v669, trip_k0_t1.sl.v661, trip_k0_t1.sl.v653, trip_k0_t1.sl.v645, trip_k0_t1.sl.v637, trip_k0_t1.sl.v629, trip_k0_t1.sl.v621, trip_k0_t1.sl.v613, trip_k0_t1.sl.v605, trip_k0_t1.sl.v597, trip_k0_t1.sl.v589, trip_k0_t1.sl.v581, trip_k0_t1.sl.v573, trip_k0_t1.sl.v565, trip_k0_t1.sl.v564, trip_k0_t1.sl.v563, trip_k0_t1.sl.r_3, k0_pay7, trip_k0_t1.sl.v562, trip_k0_t1.sl.v572, trip_k0_t1.sl.v571, trip_k0_t1.sl.v434, trip_k0_t1.sl.v433, trip_k0_t1.sl.v580, trip_k0_t1.sl.v579, trip_k0_t1.sl.v439, trip_k0_t1.sl.v438, trip_k0_t1.sl.v588, trip_k0_t1.sl.v587, trip_k0_t1.sl.v444, trip_k0_t1.sl.v443, trip_k0_t1.sl.v596, trip_k0_t1.sl.v595, trip_k0_t1.sl.v449, trip_k0_t1.sl.v448, trip_k0_t1.sl.v604, trip_k0_t1.sl.v603, trip_k0_t1.sl.v454, trip_k0_t1.sl.v453, trip_k0_t1.sl.v612, trip_k0_t1.sl.v611, trip_k0_t1.sl.v459, trip_k0_t1.sl.v458, trip_k0_t1.sl.v620, trip_k0_t1.sl.v619, trip_k0_t1.sl.v464, trip_k0_t1.sl.v463, trip_k0_t1.sl.v628, trip_k0_t1.sl.v627, trip_k0_t1.sl.v469, trip_k0_t1.sl.v468, trip_k0_t1.sl.v636, trip_k0_t1.sl.v635, trip_k0_t1.sl.v474, trip_k0_t1.sl.v473, trip_k0_t1.sl.v644, trip_k0_t1.sl.v643, trip_k0_t1.sl.v479, trip_k0_t1.sl.v478, trip_k0_t1.sl.v652, trip_k0_t1.sl.v651, trip_k0_t1.sl.v649, trip_k0_t1.sl.v648, trip_k0_t1.sl.v660, trip_k0_t1.sl.v659, trip_k0_t1.sl.v489, trip_k0_t1.sl.v488, trip_k0_t1.sl.v668, trip_k0_t1.sl.v667, trip_k0_t1.sl.v494, trip_k0_t1.sl.v493, trip_k0_t1.sl.v676, trip_k0_t1.sl.v675, trip_k0_t1.sl.v499, trip_k0_t1.sl.v498, trip_k0_t1.sl.v684, trip_k0_t1.sl.v683, trip_k0_t1.sl.v504, trip_k0_t1.sl.v503, trip_k0_t1.sl.v692, trip_k0_t1.sl.v691, trip_k0_t1.sl.v509, trip_k0_t1.sl.v508]
  simp only [mean_at, sq_at, x0, x1, x2, x3, x4, x5, x6, x7, x8, x9, x10, x11, x12, x13, x14, x15, x16, x17, x18, x19, x20, x21, x22, x23, invD_def]
  rw [sum_chain (fun d => (xr a5 X5 k i d - rowMean (xr a5 X5 k i)) * (xr a5 X5 k i d - rowMean (xr a5 X5 k i)))]
  rfl

theorem h0 (i : Fin 32) (l : Fin 128) : (trip_k0_t1.sl.v750 (F := Ideal) a5 a6 a7 X5 X6 X7 k) (ix2 i l) = hr a5 a6 a7 X5 X6 X7 k i (col 0 (by norm_num) l) := by
  pointwise [trip_k0_t1.sl.v750, trip_k0_t1.sl.v746, trip_k0_t1.sl.v740, trip_k0_t1.sl.v738, trip_k0_t1.sl.v736, trip_k0_t1.sl.r_5, k0_pay13, trip_k0_t1.sl.v562, trip_k0_t1.sl.v739, trip_k0_t1.sl.v745, trip_k0_t1.sl.v744, trip_k0_t1.sl.v743, trip_k0_t1.sl.cst_358, trip_k0_t1.sl.v742, trip_k0_t1.sl.v749, trip_k0_t1.sl.v748]
  simp only [mean_at, rs_at, x0, s0]
  rfl
theorem p0 (i : Fin 32) (l : Fin 128) : (trip_k0_t1.sl.v753 (F := Ideal) a5 a6 a7 X5 X6 X7 k) (ix2 i l) = hr a5 a6 a7 X5 X6 X7 k i (col 0 (by norm_num) l) := by
  pointwise [trip_k0_t1.sl.v753]
  exact h0 a5 a6 a7 X5 X6 X7 k i l

theorem h1 (i : Fin 32) (l : Fin 128) : (trip_k0_t1.sl.v772 (F := Ideal) a5 a6 a7 X5 X6 X7 k) (ix2 i l) = hr a5 a6 a7 X5 X6 X7 k i (col 1 (by norm_num) l) := by
  pointwise [trip_k0_t1.sl.v772, trip_k0_t1.sl.v768, trip_k0_t1.sl.v762, trip_k0_t1.sl.v760, trip_k0_t1.sl.v419, trip_k0_t1.sl.v418, trip_k0_t1.sl.v562, trip_k0_t1.sl.v739, trip_k0_t1.sl.v767, trip_k0_t1.sl.v766, trip_k0_t1.sl.v743, trip_k0_t1.sl.cst_358, trip_k0_t1.sl.v764, trip_k0_t1.sl.v771, trip_k0_t1.sl.v770]
  simp only [mean_at, rs_at, x1, s1]
  rfl
theorem p1 (i : Fin 32) (l : Fin 128) : (trip_k0_t1.sl.v775 (F := Ideal) a5 a6 a7 X5 X6 X7 k) (ix2 i l) = hr a5 a6 a7 X5 X6 X7 k i (col 1 (by norm_num) l) := by
  pointwise [trip_k0_t1.sl.v775]
  exact h1 a5 a6 a7 X5 X6 X7 k i l

theorem h2 (i : Fin 32) (l : Fin 128) : (trip_k0_t1.sl.v795 (F := Ideal) a5 a6 a7 X5 X6 X7 k) (ix2 i l) = hr a5 a6 a7 X5 X6 X7 k i (col 2 (by norm_num) l) := by
  pointwise [trip_k0_t1.sl.v795, trip_k0_t1.sl.v791, trip_k0_t1.sl.v785, trip_k0_t1.sl.v783, trip_k0_t1.sl.v424, trip_k0_t1.sl.v423, trip_k0_t1.sl.v562, trip_k0_t1.sl.v739, trip_k0_t1.sl.v790, trip_k0_t1.sl.v789, trip_k0_t1.sl.v743, trip_k0_t1.sl.cst_358, trip_k0_t1.sl.v787, trip_k0_t1.sl.v794, trip_k0_t1.sl.v793]
  simp only [mean_at, rs_at, x2, s2]
  rfl
theorem p2 (i : Fin 32) (l : Fin 128) : (trip_k0_t1.sl.v798 (F := Ideal) a5 a6 a7 X5 X6 X7 k) (ix2 i l) = hr a5 a6 a7 X5 X6 X7 k i (col 2 (by norm_num) l) := by
  pointwise [trip_k0_t1.sl.v798]
  exact h2 a5 a6 a7 X5 X6 X7 k i l

theorem h3 (i : Fin 32) (l : Fin 128) : (trip_k0_t1.sl.v818 (F := Ideal) a5 a6 a7 X5 X6 X7 k) (ix2 i l) = hr a5 a6 a7 X5 X6 X7 k i (col 3 (by norm_num) l) := by
  pointwise [trip_k0_t1.sl.v818, trip_k0_t1.sl.v814, trip_k0_t1.sl.v808, trip_k0_t1.sl.v806, trip_k0_t1.sl.v429, trip_k0_t1.sl.v428, trip_k0_t1.sl.v562, trip_k0_t1.sl.v739, trip_k0_t1.sl.v813, trip_k0_t1.sl.v812, trip_k0_t1.sl.v743, trip_k0_t1.sl.cst_358, trip_k0_t1.sl.v810, trip_k0_t1.sl.v817, trip_k0_t1.sl.v816]
  simp only [mean_at, rs_at, x3, s3]
  rfl
theorem p3 (i : Fin 32) (l : Fin 128) : (trip_k0_t1.sl.v821 (F := Ideal) a5 a6 a7 X5 X6 X7 k) (ix2 i l) = hr a5 a6 a7 X5 X6 X7 k i (col 3 (by norm_num) l) := by
  pointwise [trip_k0_t1.sl.v821]
  exact h3 a5 a6 a7 X5 X6 X7 k i l

theorem h4 (i : Fin 32) (l : Fin 128) : (trip_k0_t1.sl.v841 (F := Ideal) a5 a6 a7 X5 X6 X7 k) (ix2 i l) = hr a5 a6 a7 X5 X6 X7 k i (col 4 (by norm_num) l) := by
  pointwise [trip_k0_t1.sl.v841, trip_k0_t1.sl.v837, trip_k0_t1.sl.v831, trip_k0_t1.sl.v571, trip_k0_t1.sl.v434, trip_k0_t1.sl.v433, trip_k0_t1.sl.v562, trip_k0_t1.sl.v739, trip_k0_t1.sl.v836, trip_k0_t1.sl.v835, trip_k0_t1.sl.v743, trip_k0_t1.sl.cst_358, trip_k0_t1.sl.v833, trip_k0_t1.sl.v840, trip_k0_t1.sl.v839]
  simp only [mean_at, rs_at, x4, s4]
  rfl
theorem p4 (i : Fin 32) (l : Fin 128) : (trip_k0_t1.sl.v844 (F := Ideal) a5 a6 a7 X5 X6 X7 k) (ix2 i l) = hr a5 a6 a7 X5 X6 X7 k i (col 4 (by norm_num) l) := by
  pointwise [trip_k0_t1.sl.v844]
  exact h4 a5 a6 a7 X5 X6 X7 k i l

theorem h5 (i : Fin 32) (l : Fin 128) : (trip_k0_t1.sl.v864 (F := Ideal) a5 a6 a7 X5 X6 X7 k) (ix2 i l) = hr a5 a6 a7 X5 X6 X7 k i (col 5 (by norm_num) l) := by
  pointwise [trip_k0_t1.sl.v864, trip_k0_t1.sl.v860, trip_k0_t1.sl.v854, trip_k0_t1.sl.v579, trip_k0_t1.sl.v439, trip_k0_t1.sl.v438, trip_k0_t1.sl.v562, trip_k0_t1.sl.v739, trip_k0_t1.sl.v859, trip_k0_t1.sl.v858, trip_k0_t1.sl.v743, trip_k0_t1.sl.cst_358, trip_k0_t1.sl.v856, trip_k0_t1.sl.v863, trip_k0_t1.sl.v862]
  simp only [mean_at, rs_at, x5, s5]
  rfl
theorem p5 (i : Fin 32) (l : Fin 128) : (trip_k0_t1.sl.v867 (F := Ideal) a5 a6 a7 X5 X6 X7 k) (ix2 i l) = hr a5 a6 a7 X5 X6 X7 k i (col 5 (by norm_num) l) := by
  pointwise [trip_k0_t1.sl.v867]
  exact h5 a5 a6 a7 X5 X6 X7 k i l

theorem h6 (i : Fin 32) (l : Fin 128) : (trip_k0_t1.sl.v887 (F := Ideal) a5 a6 a7 X5 X6 X7 k) (ix2 i l) = hr a5 a6 a7 X5 X6 X7 k i (col 6 (by norm_num) l) := by
  pointwise [trip_k0_t1.sl.v887, trip_k0_t1.sl.v883, trip_k0_t1.sl.v877, trip_k0_t1.sl.v587, trip_k0_t1.sl.v444, trip_k0_t1.sl.v443, trip_k0_t1.sl.v562, trip_k0_t1.sl.v739, trip_k0_t1.sl.v882, trip_k0_t1.sl.v881, trip_k0_t1.sl.v743, trip_k0_t1.sl.cst_358, trip_k0_t1.sl.v879, trip_k0_t1.sl.v886, trip_k0_t1.sl.v885]
  simp only [mean_at, rs_at, x6, s6]
  rfl
theorem p6 (i : Fin 32) (l : Fin 128) : (trip_k0_t1.sl.v890 (F := Ideal) a5 a6 a7 X5 X6 X7 k) (ix2 i l) = hr a5 a6 a7 X5 X6 X7 k i (col 6 (by norm_num) l) := by
  pointwise [trip_k0_t1.sl.v890]
  exact h6 a5 a6 a7 X5 X6 X7 k i l

theorem h7 (i : Fin 32) (l : Fin 128) : (trip_k0_t1.sl.v910 (F := Ideal) a5 a6 a7 X5 X6 X7 k) (ix2 i l) = hr a5 a6 a7 X5 X6 X7 k i (col 7 (by norm_num) l) := by
  pointwise [trip_k0_t1.sl.v910, trip_k0_t1.sl.v906, trip_k0_t1.sl.v900, trip_k0_t1.sl.v595, trip_k0_t1.sl.v449, trip_k0_t1.sl.v448, trip_k0_t1.sl.v562, trip_k0_t1.sl.v739, trip_k0_t1.sl.v905, trip_k0_t1.sl.v904, trip_k0_t1.sl.v743, trip_k0_t1.sl.cst_358, trip_k0_t1.sl.v902, trip_k0_t1.sl.v909, trip_k0_t1.sl.v908]
  simp only [mean_at, rs_at, x7, s7]
  rfl
theorem p7 (i : Fin 32) (l : Fin 128) : (trip_k0_t1.sl.v913 (F := Ideal) a5 a6 a7 X5 X6 X7 k) (ix2 i l) = hr a5 a6 a7 X5 X6 X7 k i (col 7 (by norm_num) l) := by
  pointwise [trip_k0_t1.sl.v913]
  exact h7 a5 a6 a7 X5 X6 X7 k i l

theorem h8 (i : Fin 32) (l : Fin 128) : (trip_k0_t1.sl.v933 (F := Ideal) a5 a6 a7 X5 X6 X7 k) (ix2 i l) = hr a5 a6 a7 X5 X6 X7 k i (col 8 (by norm_num) l) := by
  pointwise [trip_k0_t1.sl.v933, trip_k0_t1.sl.v929, trip_k0_t1.sl.v923, trip_k0_t1.sl.v603, trip_k0_t1.sl.v454, trip_k0_t1.sl.v453, trip_k0_t1.sl.v562, trip_k0_t1.sl.v739, trip_k0_t1.sl.v928, trip_k0_t1.sl.v927, trip_k0_t1.sl.v743, trip_k0_t1.sl.cst_358, trip_k0_t1.sl.v925, trip_k0_t1.sl.v932, trip_k0_t1.sl.v931]
  simp only [mean_at, rs_at, x8, s8]
  rfl
theorem p8 (i : Fin 32) (l : Fin 128) : (trip_k0_t1.sl.v936 (F := Ideal) a5 a6 a7 X5 X6 X7 k) (ix2 i l) = hr a5 a6 a7 X5 X6 X7 k i (col 8 (by norm_num) l) := by
  pointwise [trip_k0_t1.sl.v936]
  exact h8 a5 a6 a7 X5 X6 X7 k i l

theorem h9 (i : Fin 32) (l : Fin 128) : (trip_k0_t1.sl.v956 (F := Ideal) a5 a6 a7 X5 X6 X7 k) (ix2 i l) = hr a5 a6 a7 X5 X6 X7 k i (col 9 (by norm_num) l) := by
  pointwise [trip_k0_t1.sl.v956, trip_k0_t1.sl.v952, trip_k0_t1.sl.v946, trip_k0_t1.sl.v611, trip_k0_t1.sl.v459, trip_k0_t1.sl.v458, trip_k0_t1.sl.v562, trip_k0_t1.sl.v739, trip_k0_t1.sl.v951, trip_k0_t1.sl.v950, trip_k0_t1.sl.v743, trip_k0_t1.sl.cst_358, trip_k0_t1.sl.v948, trip_k0_t1.sl.v955, trip_k0_t1.sl.v954]
  simp only [mean_at, rs_at, x9, s9]
  rfl
theorem p9 (i : Fin 32) (l : Fin 128) : (trip_k0_t1.sl.v959 (F := Ideal) a5 a6 a7 X5 X6 X7 k) (ix2 i l) = hr a5 a6 a7 X5 X6 X7 k i (col 9 (by norm_num) l) := by
  pointwise [trip_k0_t1.sl.v959]
  exact h9 a5 a6 a7 X5 X6 X7 k i l

theorem h10 (i : Fin 32) (l : Fin 128) : (trip_k0_t1.sl.v979 (F := Ideal) a5 a6 a7 X5 X6 X7 k) (ix2 i l) = hr a5 a6 a7 X5 X6 X7 k i (col 10 (by norm_num) l) := by
  pointwise [trip_k0_t1.sl.v979, trip_k0_t1.sl.v975, trip_k0_t1.sl.v969, trip_k0_t1.sl.v619, trip_k0_t1.sl.v464, trip_k0_t1.sl.v463, trip_k0_t1.sl.v562, trip_k0_t1.sl.v739, trip_k0_t1.sl.v974, trip_k0_t1.sl.v973, trip_k0_t1.sl.v743, trip_k0_t1.sl.cst_358, trip_k0_t1.sl.v971, trip_k0_t1.sl.v978, trip_k0_t1.sl.v977]
  simp only [mean_at, rs_at, x10, s10]
  rfl
theorem p10 (i : Fin 32) (l : Fin 128) : (trip_k0_t1.sl.v982 (F := Ideal) a5 a6 a7 X5 X6 X7 k) (ix2 i l) = hr a5 a6 a7 X5 X6 X7 k i (col 10 (by norm_num) l) := by
  pointwise [trip_k0_t1.sl.v982]
  exact h10 a5 a6 a7 X5 X6 X7 k i l

theorem h11 (i : Fin 32) (l : Fin 128) : (trip_k0_t1.sl.v1002 (F := Ideal) a5 a6 a7 X5 X6 X7 k) (ix2 i l) = hr a5 a6 a7 X5 X6 X7 k i (col 11 (by norm_num) l) := by
  pointwise [trip_k0_t1.sl.v1002, trip_k0_t1.sl.v998, trip_k0_t1.sl.v992, trip_k0_t1.sl.v627, trip_k0_t1.sl.v469, trip_k0_t1.sl.v468, trip_k0_t1.sl.v562, trip_k0_t1.sl.v739, trip_k0_t1.sl.v997, trip_k0_t1.sl.v996, trip_k0_t1.sl.v743, trip_k0_t1.sl.cst_358, trip_k0_t1.sl.v994, trip_k0_t1.sl.v1001, trip_k0_t1.sl.v1000]
  simp only [mean_at, rs_at, x11, s11]
  rfl
theorem p11 (i : Fin 32) (l : Fin 128) : (trip_k0_t1.sl.v1005 (F := Ideal) a5 a6 a7 X5 X6 X7 k) (ix2 i l) = hr a5 a6 a7 X5 X6 X7 k i (col 11 (by norm_num) l) := by
  pointwise [trip_k0_t1.sl.v1005]
  exact h11 a5 a6 a7 X5 X6 X7 k i l

theorem h12 (i : Fin 32) (l : Fin 128) : (trip_k0_t1.sl.v1025 (F := Ideal) a5 a6 a7 X5 X6 X7 k) (ix2 i l) = hr a5 a6 a7 X5 X6 X7 k i (col 12 (by norm_num) l) := by
  pointwise [trip_k0_t1.sl.v1025, trip_k0_t1.sl.v1021, trip_k0_t1.sl.v1015, trip_k0_t1.sl.v635, trip_k0_t1.sl.v474, trip_k0_t1.sl.v473, trip_k0_t1.sl.v562, trip_k0_t1.sl.v739, trip_k0_t1.sl.v1020, trip_k0_t1.sl.v1019, trip_k0_t1.sl.v743, trip_k0_t1.sl.cst_358, trip_k0_t1.sl.v1017, trip_k0_t1.sl.v1024, trip_k0_t1.sl.v1023]
  simp only [mean_at, rs_at, x12, s12]
  rfl
theorem p12 (i : Fin 32) (l : Fin 128) : (trip_k0_t1.sl.v1028 (F := Ideal) a5 a6 a7 X5 X6 X7 k) (ix2 i l) = hr a5 a6 a7 X5 X6 X7 k i (col 12 (by norm_num) l) := by
  pointwise [trip_k0_t1.sl.v1028]
  exact h12 a5 a6 a7 X5 X6 X7 k i l

theorem h13 (i : Fin 32) (l : Fin 128) : (trip_k0_t1.sl.v1048 (F := Ideal) a5 a6 a7 X5 X6 X7 k) (ix2 i l) = hr a5 a6 a7 X5 X6 X7 k i (col 13 (by norm_num) l) := by
  pointwise [trip_k0_t1.sl.v1048, trip_k0_t1.sl.v1044, trip_k0_t1.sl.v1038, trip_k0_t1.sl.v643, trip_k0_t1.sl.v479, trip_k0_t1.sl.v478, trip_k0_t1.sl.v562, trip_k0_t1.sl.v739, trip_k0_t1.sl.v1043, trip_k0_t1.sl.v1042, trip_k0_t1.sl.v743, trip_k0_t1.sl.cst_358, trip_k0_t1.sl.v1040, trip_k0_t1.sl.v1047, trip_k0_t1.sl.v1046]
  simp only [mean_at, rs_at, x13, s13]
  rfl
theorem p13 (i : Fin 32) (l : Fin 128) : (trip_k0_t1.sl.v1051 (F := Ideal) a5 a6 a7 X5 X6 X7 k) (ix2 i l) = hr a5 a6 a7 X5 X6 X7 k i (col 13 (by norm_num) l) := by
  pointwise [trip_k0_t1.sl.v1051]
  exact h13 a5 a6 a7 X5 X6 X7 k i l

theorem h14 (i : Fin 32) (l : Fin 128) : (trip_k0_t1.sl.v1071 (F := Ideal) a5 a6 a7 X5 X6 X7 k) (ix2 i l) = hr a5 a6 a7 X5 X6 X7 k i (col 14 (by norm_num) l) := by
  pointwise [trip_k0_t1.sl.v1071, trip_k0_t1.sl.v1067, trip_k0_t1.sl.v1061, trip_k0_t1.sl.v651, trip_k0_t1.sl.v649, trip_k0_t1.sl.v648, trip_k0_t1.sl.v562, trip_k0_t1.sl.v739, trip_k0_t1.sl.v1066, trip_k0_t1.sl.v1065, trip_k0_t1.sl.v743, trip_k0_t1.sl.cst_358, trip_k0_t1.sl.v1063, trip_k0_t1.sl.v1070, trip_k0_t1.sl.v1069]
  simp only [mean_at, rs_at, x14, s14]
  rfl
theorem p14 (i : Fin 32) (l : Fin 128) : (trip_k0_t1.sl.v1074 (F := Ideal) a5 a6 a7 X5 X6 X7 k) (ix2 i l) = hr a5 a6 a7 X5 X6 X7 k i (col 14 (by norm_num) l) := by
  pointwise [trip_k0_t1.sl.v1074]
  exact h14 a5 a6 a7 X5 X6 X7 k i l

theorem h15 (i : Fin 32) (l : Fin 128) : (trip_k0_t1.sl.v1094 (F := Ideal) a5 a6 a7 X5 X6 X7 k) (ix2 i l) = hr a5 a6 a7 X5 X6 X7 k i (col 15 (by norm_num) l) := by
  pointwise [trip_k0_t1.sl.v1094, trip_k0_t1.sl.v1090, trip_k0_t1.sl.v1084, trip_k0_t1.sl.v659, trip_k0_t1.sl.v489, trip_k0_t1.sl.v488, trip_k0_t1.sl.v562, trip_k0_t1.sl.v739, trip_k0_t1.sl.v1089, trip_k0_t1.sl.v1088, trip_k0_t1.sl.v743, trip_k0_t1.sl.cst_358, trip_k0_t1.sl.v1086, trip_k0_t1.sl.v1093, trip_k0_t1.sl.v1092]
  simp only [mean_at, rs_at, x15, s15]
  rfl
theorem p15 (i : Fin 32) (l : Fin 128) : (trip_k0_t1.sl.v1097 (F := Ideal) a5 a6 a7 X5 X6 X7 k) (ix2 i l) = hr a5 a6 a7 X5 X6 X7 k i (col 15 (by norm_num) l) := by
  pointwise [trip_k0_t1.sl.v1097]
  exact h15 a5 a6 a7 X5 X6 X7 k i l

theorem h16 (i : Fin 32) (l : Fin 128) : (trip_k0_t1.sl.v1117 (F := Ideal) a5 a6 a7 X5 X6 X7 k) (ix2 i l) = hr a5 a6 a7 X5 X6 X7 k i (col 16 (by norm_num) l) := by
  pointwise [trip_k0_t1.sl.v1117, trip_k0_t1.sl.v1113, trip_k0_t1.sl.v1107, trip_k0_t1.sl.v667, trip_k0_t1.sl.v494, trip_k0_t1.sl.v493, trip_k0_t1.sl.v562, trip_k0_t1.sl.v739, trip_k0_t1.sl.v1112, trip_k0_t1.sl.v1111, trip_k0_t1.sl.v743, trip_k0_t1.sl.cst_358, trip_k0_t1.sl.v1109, trip_k0_t1.sl.v1116, trip_k0_t1.sl.v1115]
  simp only [mean_at, rs_at, x16, s16]
  rfl
theorem p16 (i : Fin 32) (l : Fin 128) : (trip_k0_t1.sl.v1120 (F := Ideal) a5 a6 a7 X5 X6 X7 k) (ix2 i l) = hr a5 a6 a7 X5 X6 X7 k i (col 16 (by norm_num) l) := by
  pointwise [trip_k0_t1.sl.v1120]
  exact h16 a5 a6 a7 X5 X6 X7 k i l

theorem h17 (i : Fin 32) (l : Fin 128) : (trip_k0_t1.sl.v1140 (F := Ideal) a5 a6 a7 X5 X6 X7 k) (ix2 i l) = hr a5 a6 a7 X5 X6 X7 k i (col 17 (by norm_num) l) := by
  pointwise [trip_k0_t1.sl.v1140, trip_k0_t1.sl.v1136, trip_k0_t1.sl.v1130, trip_k0_t1.sl.v675, trip_k0_t1.sl.v499, trip_k0_t1.sl.v498, trip_k0_t1.sl.v562, trip_k0_t1.sl.v739, trip_k0_t1.sl.v1135, trip_k0_t1.sl.v1134, trip_k0_t1.sl.v743, trip_k0_t1.sl.cst_358, trip_k0_t1.sl.v1132, trip_k0_t1.sl.v1139, trip_k0_t1.sl.v1138]
  simp only [mean_at, rs_at, x17, s17]
  rfl
theorem p17 (i : Fin 32) (l : Fin 128) : (trip_k0_t1.sl.v1143 (F := Ideal) a5 a6 a7 X5 X6 X7 k) (ix2 i l) = hr a5 a6 a7 X5 X6 X7 k i (col 17 (by norm_num) l) := by
  pointwise [trip_k0_t1.sl.v1143]
  exact h17 a5 a6 a7 X5 X6 X7 k i l

theorem h18 (i : Fin 32) (l : Fin 128) : (trip_k0_t1.sl.v1163 (F := Ideal) a5 a6 a7 X5 X6 X7 k) (ix2 i l) = hr a5 a6 a7 X5 X6 X7 k i (col 18 (by norm_num) l) := by
  pointwise [trip_k0_t1.sl.v1163, trip_k0_t1.sl.v1159, trip_k0_t1.sl.v1153, trip_k0_t1.sl.v683, trip_k0_t1.sl.v504, trip_k0_t1.sl.v503, trip_k0_t1.sl.v562, trip_k0_t1.sl.v739, trip_k0_t1.sl.v1158, trip_k0_t1.sl.v1157, trip_k0_t1.sl.v743, trip_k0_t1.sl.cst_358, trip_k0_t1.sl.v1155, trip_k0_t1.sl.v1162, trip_k0_t1.sl.v1161]
  simp only [mean_at, rs_at, x18, s18]
  rfl
theorem p18 (i : Fin 32) (l : Fin 128) : (trip_k0_t1.sl.v1166 (F := Ideal) a5 a6 a7 X5 X6 X7 k) (ix2 i l) = hr a5 a6 a7 X5 X6 X7 k i (col 18 (by norm_num) l) := by
  pointwise [trip_k0_t1.sl.v1166]
  exact h18 a5 a6 a7 X5 X6 X7 k i l

theorem h19 (i : Fin 32) (l : Fin 128) : (trip_k0_t1.sl.v1186 (F := Ideal) a5 a6 a7 X5 X6 X7 k) (ix2 i l) = hr a5 a6 a7 X5 X6 X7 k i (col 19 (by norm_num) l) := by
  pointwise [trip_k0_t1.sl.v1186, trip_k0_t1.sl.v1182, trip_k0_t1.sl.v1176, trip_k0_t1.sl.v691, trip_k0_t1.sl.v509, trip_k0_t1.sl.v508, trip_k0_t1.sl.v562, trip_k0_t1.sl.v739, trip_k0_t1.sl.v1181, trip_k0_t1.sl.v1180, trip_k0_t1.sl.v743, trip_k0_t1.sl.cst_358, trip_k0_t1.sl.v1178, trip_k0_t1.sl.v1185, trip_k0_t1.sl.v1184]
  simp only [mean_at, rs_at, x19, s19]
  rfl
theorem p19 (i : Fin 32) (l : Fin 128) : (trip_k0_t1.sl.v1189 (F := Ideal) a5 a6 a7 X5 X6 X7 k) (ix2 i l) = hr a5 a6 a7 X5 X6 X7 k i (col 19 (by norm_num) l) := by
  pointwise [trip_k0_t1.sl.v1189]
  exact h19 a5 a6 a7 X5 X6 X7 k i l

theorem h20 (i : Fin 32) (l : Fin 128) : (trip_k0_t1.sl.v1209 (F := Ideal) a5 a6 a7 X5 X6 X7 k) (ix2 i l) = hr a5 a6 a7 X5 X6 X7 k i (col 20 (by norm_num) l) := by
  pointwise [trip_k0_t1.sl.v1209, trip_k0_t1.sl.v1205, trip_k0_t1.sl.v1199, trip_k0_t1.sl.v1197, trip_k0_t1.sl.v514, trip_k0_t1.sl.v513, trip_k0_t1.sl.v562, trip_k0_t1.sl.v739, trip_k0_t1.sl.v1204, trip_k0_t1.sl.v1203, trip_k0_t1.sl.v743, trip_k0_t1.sl.cst_358, trip_k0_t1.sl.v1201, trip_k0_t1.sl.v1208, trip_k0_t1.sl.v1207]
  simp only [mean_at, rs_at, x20, s20]
  rfl
theorem p20 (i : Fin 32) (l : Fin 128) : (trip_k0_t1.sl.v1212 (F := Ideal) a5 a6 a7 X5 X6 X7 k) (ix2 i l) = hr a5 a6 a7 X5 X6 X7 k i (col 20 (by norm_num) l) := by
  pointwise [trip_k0_t1.sl.v1212]
  exact h20 a5 a6 a7 X5 X6 X7 k i l

theorem h21 (i : Fin 32) (l : Fin 128) : (trip_k0_t1.sl.v1232 (F := Ideal) a5 a6 a7 X5 X6 X7 k) (ix2 i l) = hr a5 a6 a7 X5 X6 X7 k i (col 21 (by norm_num) l) := by
  pointwise [trip_k0_t1.sl.v1232, trip_k0_t1.sl.v1228, trip_k0_t1.sl.v1222, trip_k0_t1.sl.v1220, trip_k0_t1.sl.v519, trip_k0_t1.sl.v518, trip_k0_t1.sl.v562, trip_k0_t1.sl.v739, trip_k0_t1.sl.v1227, trip_k0_t1.sl.v1226, trip_k0_t1.sl.v743, trip_k0_t1.sl.cst_358, trip_k0_t1.sl.v1224, trip_k0_t1.sl.v1231, trip_k0_t1.sl.v1230]
  simp only [mean_at, rs_at, x21, s21]
  rfl
theorem p21 (i : Fin 32) (l : Fin 128) : (trip_k0_t1.sl.v1235 (F := Ideal) a5 a6 a7 X5 X6 X7 k) (ix2 i l) = hr a5 a6 a7 X5 X6 X7 k i (col 21 (by norm_num) l) := by
  pointwise [trip_k0_t1.sl.v1235]
  exact h21 a5 a6 a7 X5 X6 X7 k i l

theorem h22 (i : Fin 32) (l : Fin 128) : (trip_k0_t1.sl.v1255 (F := Ideal) a5 a6 a7 X5 X6 X7 k) (ix2 i l) = hr a5 a6 a7 X5 X6 X7 k i (col 22 (by norm_num) l) := by
  pointwise [trip_k0_t1.sl.v1255, trip_k0_t1.sl.v1251, trip_k0_t1.sl.v1245, trip_k0_t1.sl.v1243, trip_k0_t1.sl.v1241, trip_k0_t1.sl.v1240, trip_k0_t1.sl.v562, trip_k0_t1.sl.v739, trip_k0_t1.sl.v1250, trip_k0_t1.sl.v1249, trip_k0_t1.sl.v743, trip_k0_t1.sl.cst_358, trip_k0_t1.sl.v1247, trip_k0_t1.sl.v1254, trip_k0_t1.sl.v1253]
  simp only [mean_at, rs_at, x22, s22]
  rfl
theorem p22 (i : Fin 32) (l : Fin 128) : (trip_k0_t1.sl.v1258 (F := Ideal) a5 a6 a7 X5 X6 X7 k) (ix2 i l) = hr a5 a6 a7 X5 X6 X7 k i (col 22 (by norm_num) l) := by
  pointwise [trip_k0_t1.sl.v1258]
  exact h22 a5 a6 a7 X5 X6 X7 k i l

theorem h23 (i : Fin 32) (l : Fin 128) : (trip_k0_t1.sl.v1278 (F := Ideal) a5 a6 a7 X5 X6 X7 k) (ix2 i l) = hr a5 a6 a7 X5 X6 X7 k i (col 23 (by norm_num) l) := by
  pointwise [trip_k0_t1.sl.v1278, trip_k0_t1.sl.v1274, trip_k0_t1.sl.v1268, trip_k0_t1.sl.v1266, trip_k0_t1.sl.v1264, trip_k0_t1.sl.v1263, trip_k0_t1.sl.v562, trip_k0_t1.sl.v739, trip_k0_t1.sl.v1273, trip_k0_t1.sl.v1272, trip_k0_t1.sl.v743, trip_k0_t1.sl.cst_358, trip_k0_t1.sl.v1270, trip_k0_t1.sl.v1277, trip_k0_t1.sl.v1276]
  simp only [mean_at, rs_at, x23, s23]
  rfl
theorem p23 (i : Fin 32) (l : Fin 128) : (trip_k0_t1.sl.v1281 (F := Ideal) a5 a6 a7 X5 X6 X7 k) (ix2 i l) = hr a5 a6 a7 X5 X6 X7 k i (col 23 (by norm_num) l) := by
  pointwise [trip_k0_t1.sl.v1281]
  exact h23 a5 a6 a7 X5 X6 X7 k i l

theorem q_at (i : Fin 32) (l : Fin 128) : (trip_k0_t1.sl.v1289 (F := Ideal) a5 a6 a7 X5 X6 X7 k) (ix2 i l) = rowQ (hr a5 a6 a7 X5 X6 X7 k i) := by
  pointwise [trip_k0_t1.sl.v1289, trip_k0_t1.sl.v1288, trip_k0_t1.sl.v1287, trip_k0_t1.sl.v1285, trip_k0_t1.sl.v1284, trip_k0_t1.sl.v1283, trip_k0_t1.sl.v1260, trip_k0_t1.sl.v1237, trip_k0_t1.sl.v1214, trip_k0_t1.sl.v1191, trip_k0_t1.sl.v1168, trip_k0_t1.sl.v1145, trip_k0_t1.sl.v1122, trip_k0_t1.sl.v1099, trip_k0_t1.sl.v1076, trip_k0_t1.sl.v1053, trip_k0_t1.sl.v1030, trip_k0_t1.sl.v1007, trip_k0_t1.sl.v984, trip_k0_t1.sl.v961, trip_k0_t1.sl.v938, trip_k0_t1.sl.v915, trip_k0_t1.sl.v892, trip_k0_t1.sl.v869, trip_k0_t1.sl.v846, trip_k0_t1.sl.v823, trip_k0_t1.sl.v800, trip_k0_t1.sl.v777, trip_k0_t1.sl.v754, trip_k0_t1.sl.v776, trip_k0_t1.sl.v799, trip_k0_t1.sl.v822, trip_k0_t1.sl.v845, trip_k0_t1.sl.v868, trip_k0_t1.sl.v891, trip_k0_t1.sl.v914, trip_k0_t1.sl.v937, trip_k0_t1.sl.v960, trip_k0_t1.sl.v983, trip_k0_t1.sl.v1006, trip_k0_t1.sl.v1029, trip_k0_t1.sl.v1052, trip_k0_t1.sl.v1075, trip_k0_t1.sl.v1098, trip_k0_t1.sl.v1121, trip_k0_t1.sl.v1144, trip_k0_t1.sl.v1167, trip_k0_t1.sl.v1190, trip_k0_t1.sl.v1213, trip_k0_t1.sl.v1236, trip_k0_t1.sl.v1259, trip_k0_t1.sl.v1282, trip_k0_t1.sl.v1286, trip_k0_t1.sl.cst_641]
  simp only [h0, h1, h2, h3, h4, h5, h6, h7, h8, h9, h10, h11, h12, h13, h14, h15, h16, h17, h18, h19, h20, h21, h22, h23]
  exact congrArg (· * Ideal.ofBits .f32 991054117#32) (max_chain _ (fun d => FloatOps.absf (F := Ideal) (φ := .f32) (hr a5 a6 a7 X5 X6 X7 k i d)))

theorem e0 (i : Fin 32) (l : Fin 128) : (trip_k0_t1.sl.v1299 (F := Ideal) a5 a6 a7 X5 X6 X7 k) (ix2 i l) = efStep (rowQ (hr a5 a6 a7 X5 X6 X7 k i)) 128#32 0#32 := by
  pointwise [trip_k0_t1.sl.v1299, trip_k0_t1.sl.v1296, trip_k0_t1.sl.v1294, trip_k0_t1.sl.v1290, trip_k0_t1.sl.v1291, trip_k0_t1.sl.v1293]
  simp only [q_at]
  rfl

theorem e1 (i : Fin 32) (l : Fin 128) : (trip_k0_t1.sl.v1308 (F := Ideal) a5 a6 a7 X5 X6 X7 k) (ix2 i l) = efStep (rowQ (hr a5 a6 a7 X5 X6 X7 k i)) 64#32 ((trip_k0_t1.sl.v1299 (F := Ideal) a5 a6 a7 X5 X6 X7 k) (ix2 i l)) := by
  pointwise [trip_k0_t1.sl.v1308, trip_k0_t1.sl.v1305, trip_k0_t1.sl.v1304, trip_k0_t1.sl.v1303, trip_k0_t1.sl.v1301, trip_k0_t1.sl.v1300, trip_k0_t1.sl.v1293]
  simp only [q_at]
  rfl

theorem e2 (i : Fin 32) (l : Fin 128) : (trip_k0_t1.sl.v1317 (F := Ideal) a5 a6 a7 X5 X6 X7 k) (ix2 i l) = efStep (rowQ (hr a5 a6 a7 X5 X6 X7 k i)) 32#32 ((trip_k0_t1.sl.v1308 (F := Ideal) a5 a6 a7 X5 X6 X7 k) (ix2 i l)) := by
  pointwise [trip_k0_t1.sl.v1317, trip_k0_t1.sl.v1314, trip_k0_t1.sl.v1313, trip_k0_t1.sl.v1312, trip_k0_t1.sl.v1310, trip_k0_t1.sl.v1309, trip_k0_t1.sl.v1293]
  simp only [q_at]
  rfl

theorem e3 (i : Fin 32) (l : Fin 128) : (trip_k0_t1.sl.v1326 (F := Ideal) a5 a6 a7 X5 X6 X7 k) (ix2 i l) = efStep (rowQ (hr a5 a6 a7 X5 X6 X7 k i)) 16#32 ((trip_k0_t1.sl.v1317 (F := Ideal) a5 a6 a7 X5 X6 X7 k) (ix2 i l)) := by
  pointwise [trip_k0_t1.sl.v1326, trip_k0_t1.sl.v1323, trip_k0_t1.sl.v1322, trip_k0_t1.sl.v1321, trip_k0_t1.sl.v1319, trip_k0_t1.sl.v1318, trip_k0_t1.sl.v1293]
  simp only [q_at]
  rfl

theorem e4 (i : Fin 32) (l : Fin 128) : (trip_k0_t1.sl.v1335 (F := Ideal) a5 a6 a7 X5 X6 X7 k) (ix2 i l) = efStep (rowQ (hr a5 a6 a7 X5 X6 X7 k i)) 8#32 ((trip_k0_t1.sl.v1326 (F := Ideal) a5 a6 a7 X5 X6 X7 k) (ix2 i l)) := by
  pointwise [trip_k0_t1.sl.v1335, trip_k0_t1.sl.v1332, trip_k0_t1.sl.v1331, trip_k0_t1.sl.v1330, trip_k0_t1.sl.v1328, trip_k0_t1.sl.v1327, trip_k0_t1.sl.v1293]
  simp only [q_at]
  rfl

theorem e5 (i : Fin 32) (l : Fin 128) : (trip_k0_t1.sl.v1344 (F := Ideal) a5 a6 a7 X5 X6 X7 k) (ix2 i l) = efStep (rowQ (hr a5 a6 a7 X5 X6 X7 k i)) 4#32 ((trip_k0_t1.sl.v1335 (F := Ideal) a5 a6 a7 X5 X6 X7 k) (ix2 i l)) := by
  pointwise [trip_k0_t1.sl.v1344, trip_k0_t1.sl.v1341, trip_k0_t1.sl.v1340, trip_k0_t1.sl.v1339, trip_k0_t1.sl.v1337, trip_k0_t1.sl.v1336, trip_k0_t1.sl.v1293]
  simp only [q_at]
  rfl

theorem e6 (i : Fin 32) (l : Fin 128) : (trip_k0_t1.sl.v1353 (F := Ideal) a5 a6 a7 X5 X6 X7 k) (ix2 i l) = efStep (rowQ (hr a5 a6 a7 X5 X6 X7 k i)) 2#32 ((trip_k0_t1.sl.v1344 (F := Ideal) a5 a6 a7 X5 X6 X7 k) (ix2 i l)) := by
  pointwise [trip_k0_t1.sl.v1353, trip_k0_t1.sl.v1350, trip_k0_t1.sl.v1349, trip_k0_t1.sl.v1348, trip_k0_t1.sl.v1346, trip_k0_t1.sl.v1345, trip_k0_t1.sl.v1293]
  simp only [q_at]
  rfl

theorem e7 (i : Fin 32) (l : Fin 128) : (trip_k0_t1.sl.v1362 (F := Ideal) a5 a6 a7 X5 X6 X7 k) (ix2 i l) = efStep (rowQ (hr a5 a6 a7 X5 X6 X7 k i)) 1#32 ((trip_k0_t1.sl.v1353 (F := Ideal) a5 a6 a7 X5 X6 X7 k) (ix2 i l)) := by
  pointwise [trip_k0_t1.sl.v1362, trip_k0_t1.sl.v1359, trip_k0_t1.sl.v1358, trip_k0_t1.sl.v1357, trip_k0_t1.sl.v1355, trip_k0_t1.sl.v1354, trip_k0_t1.sl.v1293]
  simp only [q_at]
  rfl

theorem e_at (i : Fin 32) (l : Fin 128) : (trip_k0_t1.sl.v1362 (F := Ideal) a5 a6 a7 X5 X6 X7 k) (ix2 i l) = efOf (rowQ (hr a5 a6 a7 X5 X6 X7 k i)) := by
  rw [e7, e6, e5, e4, e3, e2, e1, e0]
  rfl
theorem fix_at (i : Fin 32) (l : Fin 128) : (trip_k0_t1.sl.v1369 (F := Ideal) a5 a6 a7 X5 X6 X7 k) (ix2 i l) = efFix (rowQ (hr a5 a6 a7 X5 X6 X7 k i)) := by
  pointwise [trip_k0_t1.sl.v1369, trip_k0_t1.sl.v1367, trip_k0_t1.sl.v1364, trip_k0_t1.sl.v1290, trip_k0_t1.sl.v1366, trip_k0_t1.sl.v1365, trip_k0_t1.sl.v1368]
  simp only [e_at]
  rfl

theorem inv_at (i : Fin 32) (l : Fin 128) : (trip_k0_t1.sl.v1379 (F := Ideal) a5 a6 a7 X5 X6 X7 k) (ix2 i l) = kInv (rowQ (hr a5 a6 a7 X5 X6 X7 k i)) := by
  pointwise [trip_k0_t1.sl.v1379, trip_k0_t1.sl.v1378, trip_k0_t1.sl.v1376, trip_k0_t1.sl.v1375, trip_k0_t1.sl.v1293]
  simp only [fix_at]
  rfl
theorem scale_at (i : Fin 32) (l : Fin 128) : (trip_k0_t1.sl.v1383 (F := Ideal) a5 a6 a7 X5 X6 X7 k) (ix3 0 i l) = rowScale (xr a5 X5 k i) (arow a7 X7 0) (arow a6 X6 0) := by
  pointwise [trip_k0_t1.sl.v1383, trip_k0_t1.sl.v1374, trip_k0_t1.sl.v1373, trip_k0_t1.sl.v1371, trip_k0_t1.sl.v1354, trip_k0_t1.sl.v1293]
  simp only [fix_at]
  rfl

theorem rc0 : (trip_k0_t1.sl.v1384 (F := Ideal) a5 a6 a7 a16 X5 X6 X7 k) = (trip_k0_t1.sl.v753 (F := Ideal) a5 a6 a7 X5 X6 X7 k) := by
  unfold trip_k0_t1.sl.v1384 trip_k0_t1.sl.HW_arg16_24
  simp (disch := decide) only [↓ View.readCov_skip, ↓ View.readCov_cons_toLoadRect, ↓ View.readCov_fill]
theorem c0 (i : Fin 32) (l : Fin 128) : (trip_k0_t1.sl.v1394 (F := Ideal) a5 a6 a7 a16 X5 X6 X7 k) (ix4 0 0 i l) = rowCode (xr a5 X5 k i) (arow a7 X7 0) (arow a6 X6 0) (col 0 (by norm_num) l) := by
  pointwise [trip_k0_t1.sl.v1394, trip_k0_t1.sl.v1390, trip_k0_t1.sl.v1389, trip_k0_t1.sl.v1388, trip_k0_t1.sl.cst_672, trip_k0_t1.sl.v1387, trip_k0_t1.sl.v1386, trip_k0_t1.sl.cst_671, trip_k0_t1.sl.v1385]
  simp only [rc0, p0, inv_at]
  rfl

theorem rc1 : (trip_k0_t1.sl.v1395 (F := Ideal) a5 a6 a7 a16 X5 X6 X7 k) = (trip_k0_t1.sl.v775 (F := Ideal) a5 a6 a7 X5 X6 X7 k) := by
  unfold trip_k0_t1.sl.v1395 trip_k0_t1.sl.HW_arg16_24
  simp (disch := decide) only [↓ View.readCov_skip, ↓ View.readCov_cons_toLoadRect, ↓ View.readCov_fill]
theorem c1 (i : Fin 32) (l : Fin 128) : (trip_k0_t1.sl.v1405 (F := Ideal) a5 a6 a7 a16 X5 X6 X7 k) (ix4 0 0 i l) = rowCode (xr a5 X5 k i) (arow a7 X7 0) (arow a6 X6 0) (col 1 (by norm_num) l) := by
  pointwise [trip_k0_t1.sl.v1405, trip_k0_t1.sl.v1401, trip_k0_t1.sl.v1400, trip_k0_t1.sl.v1388, trip_k0_t1.sl.cst_672, trip_k0_t1.sl.v1398, trip_k0_t1.sl.v1386, trip_k0_t1.sl.cst_671, trip_k0_t1.sl.v1396]
  simp only [rc1, p1, inv_at]
  rfl

theorem rc2 : (trip_k0_t1.sl.v1406 (F := Ideal) a5 a6 a7 a16 X5 X6 X7 k) = (trip_k0_t1.sl.v798 (F := Ideal) a5 a6 a7 X5 X6 X7 k) := by
  unfold trip_k0_t1.sl.v1406 trip_k0_t1.sl.HW_arg16_24
  simp (disch := decide) only [↓ View.readCov_skip, ↓ View.readCov_cons_toLoadRect, ↓ View.readCov_fill]
theorem c2 (i : Fin 32) (l : Fin 128) : (trip_k0_t1.sl.v1416 (F := Ideal) a5 a6 a7 a16 X5 X6 X7 k) (ix4 0 0 i l) = rowCode (xr a5 X5 k i) (arow a7 X7 0) (arow a6 X6 0) (col 2 (by norm_num) l) := by
  pointwise [trip_k0_t1.sl.v1416, trip_k0_t1.sl.v1412, trip_k0_t1.sl.v1411, trip_k0_t1.sl.v1388, trip_k0_t1.sl.cst_672, trip_k0_t1.sl.v1409, trip_k0_t1.sl.v1386, trip_k0_t1.sl.cst_671, trip_k0_t1.sl.v1407]
  simp only [rc2, p2, inv_at]
  rfl

theorem rc3 : (trip_k0_t1.sl.v1417 (F := Ideal) a5 a6 a7 a16 X5 X6 X7 k) = (trip_k0_t1.sl.v821 (F := Ideal) a5 a6 a7 X5 X6 X7 k) := by
  unfold trip_k0_t1.sl.v1417 trip_k0_t1.sl.HW_arg16_24
  simp (disch := decide) only [↓ View.readCov_skip, ↓ View.readCov_cons_toLoadRect, ↓ View.readCov_fill]
theorem c3 (i : Fin 32) (l : Fin 128) : (trip_k0_t1.sl.v1427 (F := Ideal) a5 a6 a7 a16 X5 X6 X7 k) (ix4 0 0 i l) = rowCode (xr a5 X5 k i) (arow a7 X7 0) (arow a6 X6 0) (col 3 (by norm_num) l) := by
  pointwise [trip_k0_t1.sl.v1427, trip_k0_t1.sl.v1423, trip_k0_t1.sl.v1422, trip_k0_t1.sl.v1388, trip_k0_t1.sl.cst_672, trip_k0_t1.sl.v1420, trip_k0_t1.sl.v1386, trip_k0_t1.sl.cst_671, trip_k0_t1.sl.v1418]
  simp only [rc3, p3, inv_at]
  rfl

theorem rc4 : (trip_k0_t1.sl.v1428 (F := Ideal) a5 a6 a7 a16 X5 X6 X7 k) = (trip_k0_t1.sl.v844 (F := Ideal) a5 a6 a7 X5 X6 X7 k) := by
  unfold trip_k0_t1.sl.v1428 trip_k0_t1.sl.HW_arg16_24
  simp (disch := decide) only [↓ View.readCov_skip, ↓ View.readCov_cons_toLoadRect, ↓ View.readCov_fill]
theorem c4 (i : Fin 32) (l : Fin 128) : (trip_k0_t1.sl.v1438 (F := Ideal) a5 a6 a7 a16 X5 X6 X7 k) (ix4 0 0 i l) = rowCode (xr a5 X5 k i) (arow a7 X7 0) (arow a6 X6 0) (col 4 (by norm_num) l) := by
  pointwise [trip_k0_t1.sl.v1438, trip_k0_t1.sl.v1434, trip_k0_t1.sl.v1433, trip_k0_t1.sl.v1388, trip_k0_t1.sl.cst_672, trip_k0_t1.sl.v1431, trip_k0_t1.sl.v1386, trip_k0_t1.sl.cst_671, trip_k0_t1.sl.v1429]
  simp only [rc4, p4, inv_at]
  rfl

theorem rc5 : (trip_k0_t1.sl.v1439 (F := Ideal) a5 a6 a7 a16 X5 X6 X7 k) = (trip_k0_t1.sl.v867 (F := Ideal) a5 a6 a7 X5 X6 X7 k) := by
  unfold trip_k0_t1.sl.v1439 trip_k0_t1.sl.HW_arg16_24
  simp (disch := decide) only [↓ View.readCov_skip, ↓ View.readCov_cons_toLoadRect, ↓ View.readCov_fill]
theorem c5 (i : Fin 32) (l : Fin 128) : (trip_k0_t1.sl.v1449 (F := Ideal) a5 a6 a7 a16 X5 X6 X7 k) (ix4 0 0 i l) = rowCode (xr a5 X5 k i) (arow a7 X7 0) (arow a6 X6 0) (col 5 (by norm_num) l) := by
  pointwise [trip_k0_t1.sl.v1449, trip_k0_t1.sl.v1445, trip_k0_t1.sl.v1444, trip_k0_t1.sl.v1388, trip_k0_t1.sl.cst_672, trip_k0_t1.sl.v1442, trip_k0_t1.sl.v1386, trip_k0_t1.sl.cst_671, trip_k0_t1.sl.v1440]
  simp only [rc5, p5, inv_at]
  rfl

theorem rc6 : (trip_k0_t1.sl.v1450 (F := Ideal) a5 a6 a7 a16 X5 X6 X7 k) = (trip_k0_t1.sl.v890 (F := Ideal) a5 a6 a7 X5 X6 X7 k) := by
  unfold trip_k0_t1.sl.v1450 trip_k0_t1.sl.HW_arg16_24
  simp (disch := decide) only [↓ View.readCov_skip, ↓ View.readCov_cons_toLoadRect, ↓ View.readCov_fill]
theorem c6 (i : Fin 32) (l : Fin 128) : (trip_k0_t1.sl.v1460 (F := Ideal) a5 a6 a7 a16 X5 X6 X7 k) (ix4 0 0 i l) = rowCode (xr a5 X5 k i) (arow a7 X7 0) (arow a6 X6 0) (col 6 (by norm_num) l) := by
  pointwise [trip_k0_t1.sl.v1460, trip_k0_t1.sl.v1456, trip_k0_t1.sl.v1455, trip_k0_t1.sl.v1388, trip_k0_t1.sl.cst_672, trip_k0_t1.sl.v1453, trip_k0_t1.sl.v1386, trip_k0_t1.sl.cst_671, trip_k0_t1.sl.v1451]
  simp only [rc6, p6, inv_at]
  rfl

theorem rc7 : (trip_k0_t1.sl.v1461 (F := Ideal) a5 a6 a7 a16 X5 X6 X7 k) = (trip_k0_t1.sl.v913 (F := Ideal) a5 a6 a7 X5 X6 X7 k) := by
  unfold trip_k0_t1.sl.v1461 trip_k0_t1.sl.HW_arg16_24
  simp (disch := decide) only [↓ View.readCov_skip, ↓ View.readCov_cons_toLoadRect, ↓ View.readCov_fill]
theorem c7 (i : Fin 32) (l : Fin 128) : (trip_k0_t1.sl.v1471 (F := Ideal) a5 a6 a7 a16 X5 X6 X7 k) (ix4 0 0 i l) = rowCode (xr a5 X5 k i) (arow a7 X7 0) (arow a6 X6 0) (col 7 (by norm_num) l) := by
  pointwise [trip_k0_t1.sl.v1471, trip_k0_t1.sl.v1467, trip_k0_t1.sl.v1466, trip_k0_t1.sl.v1388, trip_k0_t1.sl.cst_672, trip_k0_t1.sl.v1464, trip_k0_t1.sl.v1386, trip_k0_t1.sl.cst_671, trip_k0_t1.sl.v1462]
  simp only [rc7, p7, inv_at]
  rfl

theorem rc8 : (trip_k0_t1.sl.v1472 (F := Ideal) a5 a6 a7 a16 X5 X6 X7 k) = (trip_k0_t1.sl.v936 (F := Ideal) a5 a6 a7 X5 X6 X7 k) := by
  unfold trip_k0_t1.sl.v1472 trip_k0_t1.sl.HW_arg16_24
  simp (disch := decide) only [↓ View.readCov_skip, ↓ View.readCov_cons_toLoadRect, ↓ View.readCov_fill]
theorem c8 (i : Fin 32) (l : Fin 128) : (trip_k0_t1.sl.v1482 (F := Ideal) a5 a6 a7 a16 X5 X6 X7 k) (ix4 0 0 i l) = rowCode (xr a5 X5 k i) (arow a7 X7 0) (arow a6 X6 0) (col 8 (by norm_num) l) := by
  pointwise [trip_k0_t1.sl.v1482, trip_k0_t1.sl.v1478, trip_k0_t1.sl.v1477, trip_k0_t1.sl.v1388, trip_k0_t1.sl.cst_672, trip_k0_t1.sl.v1475, trip_k0_t1.sl.v1386, trip_k0_t1.sl.cst_671, trip_k0_t1.sl.v1473]
  simp only [rc8, p8, inv_at]
  rfl

theorem rc9 : (trip_k0_t1.sl.v1483 (F := Ideal) a5 a6 a7 a16 X5 X6 X7 k) = (trip_k0_t1.sl.v959 (F := Ideal) a5 a6 a7 X5 X6 X7 k) := by
  unfold trip_k0_t1.sl.v1483 trip_k0_t1.sl.HW_arg16_24
  simp (disch := decide) only [↓ View.readCov_skip, ↓ View.readCov_cons_toLoadRect, ↓ View.readCov_fill]
theorem c9 (i : Fin 32) (l : Fin 128) : (trip_k0_t1.sl.v1493 (F := Ideal) a5 a6 a7 a16 X5 X6 X7 k) (ix4 0 0 i l) = rowCode (xr a5 X5 k i) (arow a7 X7 0) (arow a6 X6 0) (col 9 (by norm_num) l) := by
  pointwise [trip_k0_t1.sl.v1493, trip_k0_t1.sl.v1489, trip_k0_t1.sl.v1488, trip_k0_t1.sl.v1388, trip_k0_t1.sl.cst_672, trip_k0_t1.sl.v1486, trip_k0_t1.sl.v1386, trip_k0_t1.sl.cst_671, trip_k0_t1.sl.v1484]
  simp only [rc9, p9, inv_at]
  rfl

theorem rc10 : (trip_k0_t1.sl.v1494 (F := Ideal) a5 a6 a7 a16 X5 X6 X7 k) = (trip_k0_t1.sl.v982 (F := Ideal) a5 a6 a7 X5 X6 X7 k) := by
  unfold trip_k0_t1.sl.v1494 trip_k0_t1.sl.HW_arg16_24
  simp (disch := decide) only [↓ View.readCov_skip, ↓ View.readCov_cons_toLoadRect, ↓ View.readCov_fill]
theorem c10 (i : Fin 32) (l : Fin 128) : (trip_k0_t1.sl.v1504 (F := Ideal) a5 a6 a7 a16 X5 X6 X7 k) (ix4 0 0 i l) = rowCode (xr a5 X5 k i) (arow a7 X7 0) (arow a6 X6 0) (col 10 (by norm_num) l) := by
  pointwise [trip_k0_t1.sl.v1504, trip_k0_t1.sl.v1500, trip_k0_t1.sl.v1499, trip_k0_t1.sl.v1388, trip_k0_t1.sl.cst_672, trip_k0_t1.sl.v1497, trip_k0_t1.sl.v1386, trip_k0_t1.sl.cst_671, trip_k0_t1.sl.v1495]
  simp only [rc10, p10, inv_at]
  rfl

theorem rc11 : (trip_k0_t1.sl.v1505 (F := Ideal) a5 a6 a7 a16 X5 X6 X7 k) = (trip_k0_t1.sl.v1005 (F := Ideal) a5 a6 a7 X5 X6 X7 k) := by
  unfold trip_k0_t1.sl.v1505 trip_k0_t1.sl.HW_arg16_24
  simp (disch := decide) only [↓ View.readCov_skip, ↓ View.readCov_cons_toLoadRect, ↓ View.readCov_fill]
theorem c11 (i : Fin 32) (l : Fin 128) : (trip_k0_t1.sl.v1515 (F := Ideal) a5 a6 a7 a16 X5 X6 X7 k) (ix4 0 0 i l) = rowCode (xr a5 X5 k i) (arow a7 X7 0) (arow a6 X6 0) (col 11 (by norm_num) l) := by
  pointwise [trip_k0_t1.sl.v1515, trip_k0_t1.sl.v1511, trip_k0_t1.sl.v1510, trip_k0_t1.sl.v1388, trip_k0_t1.sl.cst_672, trip_k0_t1.sl.v1508, trip_k0_t1.sl.v1386, trip_k0_t1.sl.cst_671, trip_k0_t1.sl.v1506]
  simp only [rc11, p11, inv_at]
  rfl

theorem rc12 : (trip_k0_t1.sl.v1516 (F := Ideal) a5 a6 a7 a16 X5 X6 X7 k) = (trip_k0_t1.sl.v1028 (F := Ideal) a5 a6 a7 X5 X6 X7 k) := by
  unfold trip_k0_t1.sl.v1516 trip_k0_t1.sl.HW_arg16_24
  simp (disch := decide) only [↓ View.readCov_skip, ↓ View.readCov_cons_toLoadRect, ↓ View.readCov_fill]
theorem c12 (i : Fin 32) (l : Fin 128) : (trip_k0_t1.sl.v1526 (F := Ideal) a5 a6 a7 a16 X5 X6 X7 k) (ix4 0 0 i l) = rowCode (xr a5 X5 k i) (arow a7 X7 0) (arow a6 X6 0) (col 12 (by norm_num) l) := by
  pointwise [trip_k0_t1.sl.v1526, trip_k0_t1.sl.v1522, trip_k0_t1.sl.v1521, trip_k0_t1.sl.v1388, trip_k0_t1.sl.cst_672, trip_k0_t1.sl.v1519, trip_k0_t1.sl.v1386, trip_k0_t1.sl.cst_671, trip_k0_t1.sl.v1517]
  simp only [rc12, p12, inv_at]
  rfl

theorem rc13 : (trip_k0_t1.sl.v1527 (F := Ideal) a5 a6 a7 a16 X5 X6 X7 k) = (trip_k0_t1.sl.v1051 (F := Ideal) a5 a6 a7 X5 X6 X7 k) := by
  unfold trip_k0_t1.sl.v1527 trip_k0_t1.sl.HW_arg16_24
  simp (disch := decide) only [↓ View.readCov_skip, ↓ View.readCov_cons_toLoadRect, ↓ View.readCov_fill]
theorem c13 (i : Fin 32) (l : Fin 128) : (trip_k0_t1.sl.v1537 (F := Ideal) a5 a6 a7 a16 X5 X6 X7 k) (ix4 0 0 i l) = rowCode (xr a5 X5 k i) (arow a7 X7 0) (arow a6 X6 0) (col 13 (by norm_num) l) := by
  pointwise [trip_k0_t1.sl.v1537, trip_k0_t1.sl.v1533, trip_k0_t1.sl.v1532, trip_k0_t1.sl.v1388, trip_k0_t1.sl.cst_672, trip_k0_t1.sl.v1530, trip_k0_t1.sl.v1386, trip_k0_t1.sl.cst_671, trip_k0_t1.sl.v1528]
  simp only [rc13, p13, inv_at]
  rfl

theorem rc14 : (trip_k0_t1.sl.v1538 (F := Ideal) a5 a6 a7 a16 X5 X6 X7 k) = (trip_k0_t1.sl.v1074 (F := Ideal) a5 a6 a7 X5 X6 X7 k) := by
  unfold trip_k0_t1.sl.v1538 trip_k0_t1.sl.HW_arg16_24
  simp (disch := decide) only [↓ View.readCov_skip, ↓ View.readCov_cons_toLoadRect, ↓ View.readCov_fill]
theorem c14 (i : Fin 32) (l : Fin 128) : (trip_k0_t1.sl.v1548 (F := Ideal) a5 a6 a7 a16 X5 X6 X7 k) (ix4 0 0 i l) = rowCode (xr a5 X5 k i) (arow a7 X7 0) (arow a6 X6 0) (col 14 (by norm_num) l) := by
  pointwise [trip_k0_t1.sl.v1548, trip_k0_t1.sl.v1544, trip_k0_t1.sl.v1543, trip_k0_t1.sl.v1388, trip_k0_t1.sl.cst_672, trip_k0_t1.sl.v1541, trip_k0_t1.sl.v1386, trip_k0_t1.sl.cst_671, trip_k0_t1.sl.v1539]
  simp only [rc14, p14, inv_at]
  rfl

theorem rc15 : (trip_k0_t1.sl.v1549 (F := Ideal) a5 a6 a7 a16 X5 X6 X7 k) = (trip_k0_t1.sl.v1097 (F := Ideal) a5 a6 a7 X5 X6 X7 k) := by
  unfold trip_k0_t1.sl.v1549 trip_k0_t1.sl.HW_arg16_24
  simp (disch := decide) only [↓ View.readCov_skip, ↓ View.readCov_cons_toLoadRect, ↓ View.readCov_fill]
theorem c15 (i : Fin 32) (l : Fin 128) : (trip_k0_t1.sl.v1559 (F := Ideal) a5 a6 a7 a16 X5 X6 X7 k) (ix4 0 0 i l) = rowCode (xr a5 X5 k i) (arow a7 X7 0) (arow a6 X6 0) (col 15 (by norm_num) l) := by
  pointwise [trip_k0_t1.sl.v1559, trip_k0_t1.sl.v1555, trip_k0_t1.sl.v1554, trip_k0_t1.sl.v1388, trip_k0_t1.sl.cst_672, trip_k0_t1.sl.v1552, trip_k0_t1.sl.v1386, trip_k0_t1.sl.cst_671, trip_k0_t1.sl.v1550]
  simp only [rc15, p15, inv_at]
  rfl

theorem rc16 : (trip_k0_t1.sl.v1560 (F := Ideal) a5 a6 a7 a16 X5 X6 X7 k) = (trip_k0_t1.sl.v1120 (F := Ideal) a5 a6 a7 X5 X6 X7 k) := by
  unfold trip_k0_t1.sl.v1560 trip_k0_t1.sl.HW_arg16_24
  simp (disch := decide) only [↓ View.readCov_skip, ↓ View.readCov_cons_toLoadRect, ↓ View.readCov_fill]
theorem c16 (i : Fin 32) (l : Fin 128) : (trip_k0_t1.sl.v1570 (F := Ideal) a5 a6 a7 a16 X5 X6 X7 k) (ix4 0 0 i l) = rowCode (xr a5 X5 k i) (arow a7 X7 0) (arow a6 X6 0) (col 16 (by norm_num) l) := by
  pointwise [trip_k0_t1.sl.v1570, trip_k0_t1.sl.v1566, trip_k0_t1.sl.v1565, trip_k0_t1.sl.v1388, trip_k0_t1.sl.cst_672, trip_k0_t1.sl.v1563, trip_k0_t1.sl.v1386, trip_k0_t1.sl.cst_671, trip_k0_t1.sl.v1561]
  simp only [rc16, p16, inv_at]
  rfl

theorem rc17 : (trip_k0_t1.sl.v (F := Ideal) a5 a6 a7 a16 X5 X6 X7 k) = (trip_k0_t1.sl.v1143 (F := Ideal) a5 a6 a7 X5 X6 X7 k) := by
  unfold trip_k0_t1.sl.v trip_k0_t1.sl.HW_arg16_24
  simp (disch := decide) only [↓ View.readCov_skip, ↓ View.readCov_cons_toLoadRect, ↓ View.readCov_fill]
theorem c17 (i : Fin 32) (l : Fin 128) : (trip_k0_t1.sl.v1581 (F := Ideal) a5 a6 a7 a16 X5 X6 X7 k) (ix4 0 0 i l) = rowCode (xr a5 X5 k i) (arow a7 X7 0) (arow a6 X6 0) (col 17 (by norm_num) l) := by
  pointwise [trip_k0_t1.sl.v1581, trip_k0_t1.sl.v1577, trip_k0_t1.sl.v1576, trip_k0_t1.sl.v1388, trip_k0_t1.sl.cst_672, trip_k0_t1.sl.v1574, trip_k0_t1.sl.v1386, trip_k0_t1.sl.cst_671, trip_k0_t1.sl.v1572]
  simp only [rc17, p17, inv_at]
  rfl

theorem rc18 : (trip_k0_t1.sl.v1582 (F := Ideal) a5 a6 a7 a16 X5 X6 X7 k) = (trip_k0_t1.sl.v1166 (F := Ideal) a5 a6 a7 X5 X6 X7 k) := by
  unfold trip_k0_t1.sl.v1582 trip_k0_t1.sl.HW_arg16_24
  simp (disch := decide) only [↓ View.readCov_skip, ↓ View.readCov_cons_toLoadRect, ↓ View.readCov_fill]
theorem c18 (i : Fin 32) (l : Fin 128) : (trip_k0_t1.sl.v1592 (F := Ideal) a5 a6 a7 a16 X5 X6 X7 k) (ix4 0 0 i l) = rowCode (xr a5 X5 k i) (arow a7 X7 0) (arow a6 X6 0) (col 18 (by norm_num) l) := by
  pointwise [trip_k0_t1.sl.v1592, trip_k0_t1.sl.v1588, trip_k0_t1.sl.v1587, trip_k0_t1.sl.v1388, trip_k0_t1.sl.cst_672, trip_k0_t1.sl.v1585, trip_k0_t1.sl.v1386, trip_k0_t1.sl.cst_671, trip_k0_t1.sl.v1583]
  simp only [rc18, p18, inv_at]
  rfl

theorem rc19 : (trip_k0_t1.sl.v1593 (F := Ideal) a5 a6 a7 a16 X5 X6 X7 k) = (trip_k0_t1.sl.v1189 (F := Ideal) a5 a6 a7 X5 X6 X7 k) := by
  unfold trip_k0_t1.sl.v1593 trip_k0_t1.sl.HW_arg16_24
  simp (disch := decide) only [↓ View.readCov_skip, ↓ View.readCov_cons_toLoadRect, ↓ View.readCov_fill]
theorem c19 (i : Fin 32) (l : Fin 128) : (trip_k0_t1.sl.v1603 (F := Ideal) a5 a6 a7 a16 X5 X6 X7 k) (ix4 0 0 i l) = rowCode (xr a5 X5 k i) (arow a7 X7 0) (arow a6 X6 0) (col 19 (by norm_num) l) := by
  pointwise [trip_k0_t1.sl.v1603, trip_k0_t1.sl.v1599, trip_k0_t1.sl.v1598, trip_k0_t1.sl.v1388, trip_k0_t1.sl.cst_672, trip_k0_t1.sl.v1596, trip_k0_t1.sl.v1386, trip_k0_t1.sl.cst_671, trip_k0_t1.sl.v1594]
  simp only [rc19, p19, inv_at]
  rfl

theorem rc20 : (trip_k0_t1.sl.v1604 (F := Ideal) a5 a6 a7 a16 X5 X6 X7 k) = (trip_k0_t1.sl.v1212 (F := Ideal) a5 a6 a7 X5 X6 X7 k) := by
  unfold trip_k0_t1.sl.v1604 trip_k0_t1.sl.HW_arg16_24
  simp (disch := decide) only [↓ View.readCov_skip, ↓ View.readCov_cons_toLoadRect, ↓ View.readCov_fill]
theorem c20 (i : Fin 32) (l : Fin 128) : (trip_k0_t1.sl.v1614 (F := Ideal) a5 a6 a7 a16 X5 X6 X7 k) (ix4 0 0 i l) = rowCode (xr a5 X5 k i) (arow a7 X7 0) (arow a6 X6 0) (col 20 (by norm_num) l) := by
  pointwise [trip_k0_t1.sl.v1614, trip_k0_t1.sl.v1610, trip_k0_t1.sl.v1609, trip_k0_t1.sl.v1388, trip_k0_t1.sl.cst_672, trip_k0_t1.sl.v1607, trip_k0_t1.sl.v1386, trip_k0_t1.sl.cst_671, trip_k0_t1.sl.v1605]
  simp only [rc20, p20, inv_at]
  rfl

theorem rc21 : (trip_k0_t1.sl.v1615 (F := Ideal) a5 a6 a7 a16 X5 X6 X7 k) = (trip_k0_t1.sl.v1235 (F := Ideal) a5 a6 a7 X5 X6 X7 k) := by
  unfold trip_k0_t1.sl.v1615 trip_k0_t1.sl.HW_arg16_24
  simp (disch := decide) only [↓ View.readCov_skip, ↓ View.readCov_cons_toLoadRect, ↓ View.readCov_fill]
theorem c21 (i : Fin 32) (l : Fin 128) : (trip_k0_t1.sl.v1625 (F := Ideal) a5 a6 a7 a16 X5 X6 X7 k) (ix4 0 0 i l) = rowCode (xr a5 X5 k i) (arow a7 X7 0) (arow a6 X6 0) (col 21 (by norm_num) l) := by
  pointwise [trip_k0_t1.sl.v1625, trip_k0_t1.sl.v1621, trip_k0_t1.sl.v1620, trip_k0_t1.sl.v1388, trip_k0_t1.sl.cst_672, trip_k0_t1.sl.v1618, trip_k0_t1.sl.v1386, trip_k0_t1.sl.cst_671, trip_k0_t1.sl.v1616]
  simp only [rc21, p21, inv_at]
  rfl

theorem rc22 : (trip_k0_t1.sl.v1626 (F := Ideal) a5 a6 a7 a16 X5 X6 X7 k) = (trip_k0_t1.sl.v1258 (F := Ideal) a5 a6 a7 X5 X6 X7 k) := by
  unfold trip_k0_t1.sl.v1626 trip_k0_t1.sl.HW_arg16_24
  simp (disch := decide) only [↓ View.readCov_skip, ↓ View.readCov_cons_toLoadRect, ↓ View.readCov_fill]
theorem c22 (i : Fin 32) (l : Fin 128) : (trip_k0_t1.sl.v1636 (F := Ideal) a5 a6 a7 a16 X5 X6 X7 k) (ix4 0 0 i l) = rowCode (xr a5 X5 k i) (arow a7 X7 0) (arow a6 X6 0) (col 22 (by norm_num) l) := by
  pointwise [trip_k0_t1.sl.v1636, trip_k0_t1.sl.v1632, trip_k0_t1.sl.v1631, trip_k0_t1.sl.v1388, trip_k0_t1.sl.cst_672, trip_k0_t1.sl.v1629, trip_k0_t1.sl.v1386, trip_k0_t1.sl.cst_671, trip_k0_t1.sl.v1627]
  simp only [rc22, p22, inv_at]
  rfl

theorem rc23 : (trip_k0_t1.sl.v1637 (F := Ideal) a5 a6 a7 a16 X5 X6 X7 k) = (trip_k0_t1.sl.v1281 (F := Ideal) a5 a6 a7 X5 X6 X7 k) := by
  unfold trip_k0_t1.sl.v1637 trip_k0_t1.sl.HW_arg16_24
  simp (disch := decide) only [↓ View.readCov_skip, ↓ View.readCov_cons_toLoadRect, ↓ View.readCov_fill]
theorem c23 (i : Fin 32) (l : Fin 128) : (k0_pay256 (F := Ideal) (trip_k0_t1.sl.v1640 (F := Ideal) a5 a6 a7 a16 X5 X6 X7 k) (trip_k0_t1.sl.v1388 (F := Ideal))) (ix4 0 0 i l) = rowCode (xr a5 X5 k i) (arow a7 X7 0) (arow a6 X6 0) (col 23 (by norm_num) l) := by
  pointwise [k0_pay256, trip_k0_t1.sl.v1640, trip_k0_t1.sl.v1386, trip_k0_t1.sl.cst_671, trip_k0_t1.sl.v1638, trip_k0_t1.sl.v1388, trip_k0_t1.sl.cst_672]
  simp only [rc23, p23, inv_at]
  rfl

end t1

end Cert.KernelIdeal

end
-- ==== Proof.Trip2.lean ====
/- One trip of the second loop (plane 1), read entry by entry: what each of its 24 column blocks of codes, and its block of
   scales, holds in terms of the arithmetic of one row. -/
module

public import proofs.«01_k».proof.Proof.Geom
public import proofs.«01_k».proof.Proof.BodyRun
public import Idealize.ShloMosaic.Lib.Pipeline.ReadBack

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (a5 : Memref sig .tc .vmem S1x2x256x3072 .bf16) (a6 a7 : Memref sig .tc .vmem S1x2x3072 .f32)
  (a16 : Memref sig .tc .vmem S32x3072 .f32)
  (X5 : BufTy.Contents (Elt Ideal) a5.view.ty) (X6 : BufTy.Contents (Elt Ideal) a6.view.ty)
  (X7 : BufTy.Contents (Elt Ideal) a7.view.ty) (k : Fin k0_t2_loop.trips)

namespace t2

theorem lt8 : k.val < 8 := Nat.lt_of_lt_of_le k.isLt k0_t2_abs.2.1

/-- The block's row that row `i` of trip `k` is. -/
abbrev row (i : Fin 32) : Fin 256 := ⟨32 * k.val + i.val, by have := lt8 k; omega⟩

/-- The row of tokens, of the scale and of the shift that row `i` of trip `k` works on. -/
abbrev xr (i : Fin 32) : Fin 3072 → EReal := xrow a5 X5 1 (row k i)
abbrev hr (i : Fin 32) : Fin 3072 → EReal := rowH (xr a5 X5 k i) (arow a7 X7 1) (arow a6 X6 1)

theorem x0 (h) (i : Fin 32) (l : Fin 128) : View.readAt (Elt Ideal) a5.view (Rect.unit (s := S1x2x256x3072) (k0_off26 k) ![1, 1, 32, 128] h).toLoadRect X5 (ix4 0 0 i l)
    = xr a5 X5 k i (col 0 (by norm_num) l) :=
  readAt_tile a5 h 1 (32 * k.val) 0 (by norm_num) (by have := lt8 k; omega) (by norm_num) (k0_off26_eq k) X5 i l
theorem s0 (a : Memref sig .tc .vmem S1x2x3072 .f32) (X : BufTy.Contents (Elt Ideal) a.view.ty) (h) (l : Fin 128) : View.readAt (Elt Ideal) a.view (Rect.unit (s := S1x2x3072) ![0, 1, 0] ![1, 1, 128] h).toLoadRect X (ix3 0 0 l)
    = arow a X 1 (col 0 (by norm_num) l) :=
  readAt_lane a h 1 0 (by norm_num) (by norm_num) rfl X l

theorem x1 (h) (i : Fin 32) (l : Fin 128) : View.readAt (Elt Ideal) a5.view (Rect.unit (s := S1x2x256x3072) (k0_off27 k) ![1, 1, 32, 128] h).toLoadRect X5 (ix4 0 0 i l)
    = xr a5 X5 k i (col 1 (by norm_num) l) :=
  readAt_tile a5 h 1 (32 * k.val) 1 (by norm_num) (by have := lt8 k; omega) (by norm_num) (k0_off27_eq k) X5 i l
theorem s1 (a : Memref sig .tc .vmem S1x2x3072 .f32) (X : BufTy.Contents (Elt Ideal) a.view.ty) (h) (l : Fin 128) : View.readAt (Elt Ideal) a.view (Rect.unit (s := S1x2x3072) ![0, 1, 128] ![1, 1, 128] h).toLoadRect X (ix3 0 0 l)
    = arow a X 1 (col 1 (by norm_num) l) :=
  readAt_lane a h 1 1 (by norm_num) (by norm_num) rfl X l

theorem x2 (h) (i : Fin 32) (l : Fin 128) : View.readAt (Elt Ideal) a5.view (Rect.unit (s := S1x2x256x3072) (k0_off28 k) ![1, 1, 32, 128] h).toLoadRect X5 (ix4 0 0 i l)
    = xr a5 X5 k i (col 2 (by norm_num) l) :=
  readAt_tile a5 h 1 (32 * k.val) 2 (by norm_num) (by have := lt8 k; omega) (by norm_num) (k0_off28_eq k) X5 i l
theorem s2 (a : Memref sig .tc .vmem S1x2x3072 .f32) (X : BufTy.Contents (Elt Ideal) a.view.ty) (h) (l : Fin 128) : View.readAt (Elt Ideal) a.view (Rect.unit (s := S1x2x3072) ![0, 1, 256] ![1, 1, 128] h).toLoadRect X (ix3 0 0 l)
    = arow a X 1 (col 2 (by norm_num) l) :=
  readAt_lane a h 1 2 (by norm_num) (by norm_num) rfl X l

theorem x3 (h) (i : Fin 32) (l : Fin 128) : View.readAt (Elt Ideal) a5.view (Rect.unit (s := S1x2x256x3072) (k0_off29 k) ![1, 1, 32, 128] h).toLoadRect X5 (ix4 0 0 i l)
    = xr a5 X5 k i (col 3 (by norm_num) l) :=
  readAt_tile a5 h 1 (32 * k.val) 3 (by norm_num) (by have := lt8 k; omega) (by norm_num) (k0_off29_eq k) X5 i l
theorem s3 (a : Memref sig .tc .vmem S1x2x3072 .f32) (X : BufTy.Contents (Elt Ideal) a.view.ty) (h) (l : Fin 128) : View.readAt (Elt Ideal) a.view (Rect.unit (s := S1x2x3072) ![0, 1, 384] ![1, 1, 128] h).toLoadRect X (ix3 0 0 l)
    = arow a X 1 (col 3 (by norm_num) l) :=
  readAt_lane a h 1 3 (by norm_num) (by norm_num) rfl X l

theorem x4 (h) (i : Fin 32) (l : Fin 128) : View.readAt (Elt Ideal) a5.view (Rect.unit (s := S1x2x256x3072) (k0_off30 k) ![1, 1, 32, 128] h).toLoadRect X5 (ix4 0 0 i l)
    = xr a5 X5 k i (col 4 (by norm_num) l) :=
  readAt_tile a5 h 1 (32 * k.val) 4 (by norm_num) (by have := lt8 k; omega) (by norm_num) (k0_off30_eq k) X5 i l
theorem s4 (a : Memref sig .tc .vmem S1x2x3072 .f32) (X : BufTy.Contents (Elt Ideal) a.view.ty) (h) (l : Fin 128) : View.readAt (Elt Ideal) a.view (Rect.unit (s := S1x2x3072) ![0, 1, 512] ![1, 1, 128] h).toLoadRect X (ix3 0 0 l)
    = arow a X 1 (col 4 (by norm_num) l) :=
  readAt_lane a h 1 4 (by norm_num) (by norm_num) rfl X l

theorem x5 (h) (i : Fin 32) (l : Fin 128) : View.readAt (Elt Ideal) a5.view (Rect.unit (s := S1x2x256x3072) (k0_off31 k) ![1, 1, 32, 128] h).toLoadRect X5 (ix4 0 0 i l)
    = xr a5 X5 k i (col 5 (by norm_num) l) :=
  readAt_tile a5 h 1 (32 * k.val) 5 (by norm_num) (by have := lt8 k; omega) (by norm_num) (k0_off31_eq k) X5 i l
theorem s5 (a : Memref sig .tc .vmem S1x2x3072 .f32) (X : BufTy.Contents (Elt Ideal) a.view.ty) (h) (l : Fin 128) : View.readAt (Elt Ideal) a.view (Rect.unit (s := S1x2x3072) ![0, 1, 640] ![1, 1, 128] h).toLoadRect X (ix3 0 0 l)
    = arow a X 1 (col 5 (by norm_num) l) :=
  readAt_lane a h 1 5 (by norm_num) (by norm_num) rfl X l

theorem x6 (h) (i : Fin 32) (l : Fin 128) : View.readAt (Elt Ideal) a5.view (Rect.unit (s := S1x2x256x3072) (k0_off32 k) ![1, 1, 32, 128] h).toLoadRect X5 (ix4 0 0 i l)
    = xr a5 X5 k i (col 6 (by norm_num) l) :=
  readAt_tile a5 h 1 (32 * k.val) 6 (by norm_num) (by have := lt8 k; omega) (by norm_num) (k0_off32_eq k) X5 i l
theorem s6 (a : Memref sig .tc .vmem S1x2x3072 .f32) (X : BufTy.Contents (Elt Ideal) a.view.ty) (h) (l : Fin 128) : View.readAt (Elt Ideal) a.view (Rect.unit (s := S1x2x3072) ![0, 1, 768] ![1, 1, 128] h).toLoadRect X (ix3 0 0 l)
    = arow a X 1 (col 6 (by norm_num) l) :=
  readAt_lane a h 1 6 (by norm_num) (by norm_num) rfl X l

theorem x7 (h) (i : Fin 32) (l : Fin 128) : View.readAt (Elt Ideal) a5.view (Rect.unit (s := S1x2x256x3072) (k0_off33 k) ![1, 1, 32, 128] h).toLoadRect X5 (ix4 0 0 i l)
    = xr a5 X5 k i (col 7 (by norm_num) l) :=
  readAt_tile a5 h 1 (32 * k.val) 7 (by norm_num) (by have := lt8 k; omega) (by norm_num) (k0_off33_eq k) X5 i l
theorem s7 (a : Memref sig .tc .vmem S1x2x3072 .f32) (X : BufTy.Contents (Elt Ideal) a.view.ty) (h) (l : Fin 128) : View.readAt (Elt Ideal) a.view (Rect.unit (s := S1x2x3072) ![0, 1, 896] ![1, 1, 128] h).toLoadRect X (ix3 0 0 l)
    = arow a X 1 (col 7 (by norm_num) l) :=
  readAt_lane a h 1 7 (by norm_num) (by norm_num) rfl X l

theorem x8 (h) (i : Fin 32) (l : Fin 128) : View.readAt (Elt Ideal) a5.view (Rect.unit (s := S1x2x256x3072) (k0_off34 k) ![1, 1, 32, 128] h).toLoadRect X5 (ix4 0 0 i l)
    = xr a5 X5 k i (col 8 (by norm_num) l) :=
  readAt_tile a5 h 1 (32 * k.val) 8 (by norm_num) (by have := lt8 k; omega) (by norm_num) (k0_off34_eq k) X5 i l
theorem s8 (a : Memref sig .tc .vmem S1x2x3072 .f32) (X : BufTy.Contents (Elt Ideal) a.view.ty) (h) (l : Fin 128) : View.readAt (Elt Ideal) a.view (Rect.unit (s := S1x2x3072) ![0, 1, 1024] ![1, 1, 128] h).toLoadRect X (ix3 0 0 l)
    = arow a X 1 (col 8 (by norm_num) l) :=
  readAt_lane a h 1 8 (by norm_num) (by norm_num) rfl X l

theorem x9 (h) (i : Fin 32) (l : Fin 128) : View.readAt (Elt Ideal) a5.view (Rect.unit (s := S1x2x256x3072) (k0_off35 k) ![1, 1, 32, 128] h).toLoadRect X5 (ix4 0 0 i l)
    = xr a5 X5 k i (col 9 (by norm_num) l) :=
  readAt_tile a5 h 1 (32 * k.val) 9 (by norm_num) (by have := lt8 k; omega) (by norm_num) (k0_off35_eq k) X5 i l
theorem s9 (a : Memref sig .tc .vmem S1x2x3072 .f32) (X : BufTy.Contents (Elt Ideal) a.view.ty) (h) (l : Fin 128) : View.readAt (Elt Ideal) a.view (Rect.unit (s := S1x2x3072) ![0, 1, 1152] ![1, 1, 128] h).toLoadRect X (ix3 0 0 l)
    = arow a X 1 (col 9 (by norm_num) l) :=
  readAt_lane a h 1 9 (by norm_num) (by norm_num) rfl X l

theorem x10 (h) (i : Fin 32) (l : Fin 128) : View.readAt (Elt Ideal) a5.view (Rect.unit (s := S1x2x256x3072) (k0_off36 k) ![1, 1, 32, 128] h).toLoadRect X5 (ix4 0 0 i l)
    = xr a5 X5 k i (col 10 (by norm_num) l) :=
  readAt_tile a5 h 1 (32 * k.val) 10 (by norm_num) (by have := lt8 k; omega) (by norm_num) (k0_off36_eq k) X5 i l
theorem s10 (a : Memref sig .tc .vmem S1x2x3072 .f32) (X : BufTy.Contents (Elt Ideal) a.view.ty) (h) (l : Fin 128) : View.readAt (Elt Ideal) a.view (Rect.unit (s := S1x2x3072) ![0, 1, 1280] ![1, 1, 128] h).toLoadRect X (ix3 0 0 l)
    = arow a X 1 (col 10 (by norm_num) l) :=
  readAt_lane a h 1 10 (by norm_num) (by norm_num) rfl X l

theorem x11 (h) (i : Fin 32) (l : Fin 128) : View.readAt (Elt Ideal) a5.view (Rect.unit (s := S1x2x256x3072) (k0_off37 k) ![1, 1, 32, 128] h).toLoadRect X5 (ix4 0 0 i l)
    = xr a5 X5 k i (col 11 (by norm_num) l) :=
  readAt_tile a5 h 1 (32 * k.val) 11 (by norm_num) (by have := lt8 k; omega) (by norm_num) (k0_off37_eq k) X5 i l
theorem s11 (a : Memref sig .tc .vmem S1x2x3072 .f32) (X : BufTy.Contents (Elt Ideal) a.view.ty) (h) (l : Fin 128) : View.readAt (Elt Ideal) a.view (Rect.unit (s := S1x2x3072) ![0, 1, 1408] ![1, 1, 128] h).toLoadRect X (ix3 0 0 l)
    = arow a X 1 (col 11 (by norm_num) l) :=
  readAt_lane a h 1 11 (by norm_num) (by norm_num) rfl X l

theorem x12 (h) (i : Fin 32) (l : Fin 128) : View.readAt (Elt Ideal) a5.view (Rect.unit (s := S1x2x256x3072) (k0_off38 k) ![1, 1, 32, 128] h).toLoadRect X5 (ix4 0 0 i l)
    = xr a5 X5 k i (col 12 (by norm_num) l) :=
  readAt_tile a5 h 1 (32 * k.val) 12 (by norm_num) (by have := lt8 k; omega) (by norm_num) (k0_off38_eq k) X5 i l
theorem s12 (a : Memref sig .tc .vmem S1x2x3072 .f32) (X : BufTy.Contents (Elt Ideal) a.view.ty) (h) (l : Fin 128) : View.readAt (Elt Ideal) a.view (Rect.unit (s := S1x2x3072) ![0, 1, 1536] ![1, 1, 128] h).toLoadRect X (ix3 0 0 l)
    = arow a X 1 (col 12 (by norm_num) l) :=
  readAt_lane a h 1 12 (by norm_num) (by norm_num) rfl X l

theorem x13 (h) (i : Fin 32) (l : Fin 128) : View.readAt (Elt Ideal) a5.view (Rect.unit (s := S1x2x256x3072) (k0_off39 k) ![1, 1, 32, 128] h).toLoadRect X5 (ix4 0 0 i l)
    = xr a5 X5 k i (col 13 (by norm_num) l) :=
  readAt_tile a5 h 1 (32 * k.val) 13 (by norm_num) (by have := lt8 k; omega) (by norm_num) (k0_off39_eq k) X5 i l
theorem s13 (a : Memref sig .tc .vmem S1x2x3072 .f32) (X : BufTy.Contents (Elt Ideal) a.view.ty) (h) (l : Fin 128) : View.readAt (Elt Ideal) a.view (Rect.unit (s := S1x2x3072) ![0, 1, 1664] ![1, 1, 128] h).toLoadRect X (ix3 0 0 l)
    = arow a X 1 (col 13 (by norm_num) l) :=
  readAt_lane a h 1 13 (by norm_num) (by norm_num) rfl X l

theorem x14 (h) (i : Fin 32) (l : Fin 128) : View.readAt (Elt Ideal) a5.view (Rect.unit (s := S1x2x256x3072) (k0_off40 k) ![1, 1, 32, 128] h).toLoadRect X5 (ix4 0 0 i l)
    = xr a5 X5 k i (col 14 (by norm_num) l) :=
  readAt_tile a5 h 1 (32 * k.val) 14 (by norm_num) (by have := lt8 k; omega) (by norm_num) (k0_off40_eq k) X5 i l
theorem s14 (a : Memref sig .tc .vmem S1x2x3072 .f32) (X : BufTy.Contents (Elt Ideal) a.view.ty) (h) (l : Fin 128) : View.readAt (Elt Ideal) a.view (Rect.unit (s := S1x2x3072) ![0, 1, 1792] ![1, 1, 128] h).toLoadRect X (ix3 0 0 l)
    = arow a X 1 (col 14 (by norm_num) l) :=
  readAt_lane a h 1 14 (by norm_num) (by norm_num) rfl X l

theorem x15 (h) (i : Fin 32) (l : Fin 128) : View.readAt (Elt Ideal) a5.view (Rect.unit (s := S1x2x256x3072) (k0_off41 k) ![1, 1, 32, 128] h).toLoadRect X5 (ix4 0 0 i l)
    = xr a5 X5 k i (col 15 (by norm_num) l) :=
  readAt_tile a5 h 1 (32 * k.val) 15 (by norm_num) (by have := lt8 k; omega) (by norm_num) (k0_off41_eq k) X5 i l
theorem s15 (a : Memref sig .tc .vmem S1x2x3072 .f32) (X : BufTy.Contents (Elt Ideal) a.view.ty) (h) (l : Fin 128) : View.readAt (Elt Ideal) a.view (Rect.unit (s := S1x2x3072) ![0, 1, 1920] ![1, 1, 128] h).toLoadRect X (ix3 0 0 l)
    = arow a X 1 (col 15 (by norm_num) l) :=
  readAt_lane a h 1 15 (by norm_num) (by norm_num) rfl X l

theorem x16 (h) (i : Fin 32) (l : Fin 128) : View.readAt (Elt Ideal) a5.view (Rect.unit (s := S1x2x256x3072) (k0_off42 k) ![1, 1, 32, 128] h).toLoadRect X5 (ix4 0 0 i l)
    = xr a5 X5 k i (col 16 (by norm_num) l) :=
  readAt_tile a5 h 1 (32 * k.val) 16 (by norm_num) (by have := lt8 k; omega) (by norm_num) (k0_off42_eq k) X5 i l
theorem s16 (a : Memref sig .tc .vmem S1x2x3072 .f32) (X : BufTy.Contents (Elt Ideal) a.view.ty) (h) (l : Fin 128) : View.readAt (Elt Ideal) a.view (Rect.unit (s := S1x2x3072) ![0, 1, 2048] ![1, 1, 128] h).toLoadRect X (ix3 0 0 l)
    = arow a X 1 (col 16 (by norm_num) l) :=
  readAt_lane a h 1 16 (by norm_num) (by norm_num) rfl X l

theorem x17 (h) (i : Fin 32) (l : Fin 128) : View.readAt (Elt Ideal) a5.view (Rect.unit (s := S1x2x256x3072) (k0_off43 k) ![1, 1, 32, 128] h).toLoadRect X5 (ix4 0 0 i l)
    = xr a5 X5 k i (col 17 (by norm_num) l) :=
  readAt_tile a5 h 1 (32 * k.val) 17 (by norm_num) (by have := lt8 k; omega) (by norm_num) (k0_off43_eq k) X5 i l
theorem s17 (a : Memref sig .tc .vmem S1x2x3072 .f32) (X : BufTy.Contents (Elt Ideal) a.view.ty) (h) (l : Fin 128) : View.readAt (Elt Ideal) a.view (Rect.unit (s := S1x2x3072) ![0, 1, 2176] ![1, 1, 128] h).toLoadRect X (ix3 0 0 l)
    = arow a X 1 (col 17 (by norm_num) l) :=
  readAt_lane a h 1 17 (by norm_num) (by norm_num) rfl X l

theorem x18 (h) (i : Fin 32) (l : Fin 128) : View.readAt (Elt Ideal) a5.view (Rect.unit (s := S1x2x256x3072) (k0_off44 k) ![1, 1, 32, 128] h).toLoadRect X5 (ix4 0 0 i l)
    = xr a5 X5 k i (col 18 (by norm_num) l) :=
  readAt_tile a5 h 1 (32 * k.val) 18 (by norm_num) (by have := lt8 k; omega) (by norm_num) (k0_off44_eq k) X5 i l
theorem s18 (a : Memref sig .tc .vmem S1x2x3072 .f32) (X : BufTy.Contents (Elt Ideal) a.view.ty) (h) (l : Fin 128) : View.readAt (Elt Ideal) a.view (Rect.unit (s := S1x2x3072) ![0, 1, 2304] ![1, 1, 128] h).toLoadRect X (ix3 0 0 l)
    = arow a X 1 (col 18 (by norm_num) l) :=
  readAt_lane a h 1 18 (by norm_num) (by norm_num) rfl X l

theorem x19 (h) (i : Fin 32) (l : Fin 128) : View.readAt (Elt Ideal) a5.view (Rect.unit (s := S1x2x256x3072) (k0_off45 k) ![1, 1, 32, 128] h).toLoadRect X5 (ix4 0 0 i l)
    = xr a5 X5 k i (col 19 (by norm_num) l) :=
  readAt_tile a5 h 1 (32 * k.val) 19 (by norm_num) (by have := lt8 k; omega) (by norm_num) (k0_off45_eq k) X5 i l
theorem s19 (a : Memref sig .tc .vmem S1x2x3072 .f32) (X : BufTy.Contents (Elt Ideal) a.view.ty) (h) (l : Fin 128) : View.readAt (Elt Ideal) a.view (Rect.unit (s := S1x2x3072) ![0, 1, 2432] ![1, 1, 128] h).toLoadRect X (ix3 0 0 l)
    = arow a X 1 (col 19 (by norm_num) l) :=
  readAt_lane a h 1 19 (by norm_num) (by norm_num) rfl X l

theorem x20 (h) (i : Fin 32) (l : Fin 128) : View.readAt (Elt Ideal) a5.view (Rect.unit (s := S1x2x256x3072) (k0_off46 k) ![1, 1, 32, 128] h).toLoadRect X5 (ix4 0 0 i l)
    = xr a5 X5 k i (col 20 (by norm_num) l) :=
  readAt_tile a5 h 1 (32 * k.val) 20 (by norm_num) (by have := lt8 k; omega) (by norm_num) (k0_off46_eq k) X5 i l
theorem s20 (a : Memref sig .tc .vmem S1x2x3072 .f32) (X : BufTy.Contents (Elt Ideal) a.view.ty) (h) (l : Fin 128) : View.readAt (Elt Ideal) a.view (Rect.unit (s := S1x2x3072) ![0, 1, 2560] ![1, 1, 128] h).toLoadRect X (ix3 0 0 l)
    = arow a X 1 (col 20 (by norm_num) l) :=
  readAt_lane a h 1 20 (by norm_num) (by norm_num) rfl X l

theorem x21 (h) (i : Fin 32) (l : Fin 128) : View.readAt (Elt Ideal) a5.view (Rect.unit (s := S1x2x256x3072) (k0_off47 k) ![1, 1, 32, 128] h).toLoadRect X5 (ix4 0 0 i l)
    = xr a5 X5 k i (col 21 (by norm_num) l) :=
  readAt_tile a5 h 1 (32 * k.val) 21 (by norm_num) (by have := lt8 k; omega) (by norm_num) (k0_off47_eq k) X5 i l
theorem s21 (a : Memref sig .tc .vmem S1x2x3072 .f32) (X : BufTy.Contents (Elt Ideal) a.view.ty) (h) (l : Fin 128) : View.readAt (Elt Ideal) a.view (Rect.unit (s := S1x2x3072) ![0, 1, 2688] ![1, 1, 128] h).toLoadRect X (ix3 0 0 l)
    = arow a X 1 (col 21 (by norm_num) l) :=
  readAt_lane a h 1 21 (by norm_num) (by norm_num) rfl X l

theorem x22 (h) (i : Fin 32) (l : Fin 128) : View.readAt (Elt Ideal) a5.view (Rect.unit (s := S1x2x256x3072) (k0_off48 k) ![1, 1, 32, 128] h).toLoadRect X5 (ix4 0 0 i l)
    = xr a5 X5 k i (col 22 (by norm_num) l) :=
  readAt_tile a5 h 1 (32 * k.val) 22 (by norm_num) (by have := lt8 k; omega) (by norm_num) (k0_off48_eq k) X5 i l
theorem s22 (a : Memref sig .tc .vmem S1x2x3072 .f32) (X : BufTy.Contents (Elt Ideal) a.view.ty) (h) (l : Fin 128) : View.readAt (Elt Ideal) a.view (Rect.unit (s := S1x2x3072) ![0, 1, 2816] ![1, 1, 128] h).toLoadRect X (ix3 0 0 l)
    = arow a X 1 (col 22 (by norm_num) l) :=
  readAt_lane a h 1 22 (by norm_num) (by norm_num) rfl X l

theorem x23 (h) (i : Fin 32) (l : Fin 128) : View.readAt (Elt Ideal) a5.view (Rect.unit (s := S1x2x256x3072) (k0_off49 k) ![1, 1, 32, 128] h).toLoadRect X5 (ix4 0 0 i l)
    = xr a5 X5 k i (col 23 (by norm_num) l) :=
  readAt_tile a5 h 1 (32 * k.val) 23 (by norm_num) (by have := lt8 k; omega) (by norm_num) (k0_off49_eq k) X5 i l
theorem s23 (a : Memref sig .tc .vmem S1x2x3072 .f32) (X : BufTy.Contents (Elt Ideal) a.view.ty) (h) (l : Fin 128) : View.readAt (Elt Ideal) a.view (Rect.unit (s := S1x2x3072) ![0, 1, 2944] ![1, 1, 128] h).toLoadRect X (ix3 0 0 l)
    = arow a X 1 (col 23 (by norm_num) l) :=
  readAt_lane a h 1 23 (by norm_num) (by norm_num) rfl X l

theorem mean_at (i : Fin 32) : (trip_k0_t2.sl.r_1 (F := Ideal) a5 X5 k) (ix2 i 0) = rowMean (xr a5 X5 k i) := by
  pointwise [trip_k0_t2.sl.r_1, k0_pay132, trip_k0_t2.sl.v520, trip_k0_t2.sl.v515, trip_k0_t2.sl.v510, trip_k0_t2.sl.v505, trip_k0_t2.sl.v500, trip_k0_t2.sl.v495, trip_k0_t2.sl.v490, trip_k0_t2.sl.v485, trip_k0_t2.sl.v480, trip_k0_t2.sl.v475, trip_k0_t2.sl.v470, trip_k0_t2.sl.v465, trip_k0_t2.sl.v460, trip_k0_t2.sl.v455, trip_k0_t2.sl.v450, trip_k0_t2.sl.v445, trip_k0_t2.sl.v440, trip_k0_t2.sl.v435, trip_k0_t2.sl.v430, trip_k0_t2.sl.v425, trip_k0_t2.sl.v420, trip_k0_t2.sl.v415, trip_k0_t2.sl.v414, trip_k0_t2.sl.v419, trip_k0_t2.sl.v418, trip_k0_t2.sl.v424, trip_k0_t2.sl.v423, trip_k0_t2.sl.v429, trip_k0_t2.sl.v428, trip_k0_t2.sl.v434, trip_k0_t2.sl.v433, trip_k0_t2.sl.v439, trip_k0_t2.sl.v438, trip_k0_t2.sl.v444, trip_k0_t2.sl.v443, trip_k0_t2.sl.v449, trip_k0_t2.sl.v448, trip_k0_t2.sl.v454, trip_k0_t2.sl.v453, trip_k0_t2.sl.v459, trip_k0_t2.sl.v458, trip_k0_t2.sl.v464, trip_k0_t2.sl.v463, trip_k0_t2.sl.v469, trip_k0_t2.sl.v468, trip_k0_t2.sl.v474, trip_k0_t2.sl.v473, trip_k0_t2.sl.v479, trip_k0_t2.sl.v478, trip_k0_t2.sl.v484, trip_k0_t2.sl.v483, trip_k0_t2.sl.r, trip_k0_t2.sl.v489, trip_k0_t2.sl.v488, trip_k0_t2.sl.v494, trip_k0_t2.sl.v493, trip_k0_t2.sl.v499, trip_k0_t2.sl.v498, trip_k0_t2.sl.v504, trip_k0_t2.sl.v503, trip_k0_t2.sl.v509, trip_k0_t2.sl.v508, trip_k0_t2.sl.v514, trip_k0_t2.sl.v513, trip_k0_t2.sl.v519, trip_k0_t2.sl.v518]
  simp only [x0, x1, x2, x3, x4, x5, x6, x7, x8, x9, x10, x11, x12, x13, x14, x15, x16, x17, x18, x19, x20, x21, x22, x23, invD_def]
  rw [sum_chain (xr a5 X5 k i)]
  rfl

theorem mean_pay (h22 h23) (i : Fin 32) : k0_pay132 (F := Ideal) (trip_k0_t2.sl.v520 (F := Ideal) a5 X5 k)
    (View.readAt (Elt Ideal) a5.view (Rect.unit (s := S1x2x256x3072) (k0_off48 k) ![1, 1, 32, 128] h22).toLoadRect X5) (View.readAt (Elt Ideal) a5.view (Rect.unit (s := S1x2x256x3072) (k0_off49 k) ![1, 1, 32, 128] h23).toLoadRect X5) (ix2 i 0) = rowMean (xr a5 X5 k i) :=
  mean_at a5 X5 k i

theorem sq_at (i : Fin 32) (l : Fin 128) : (trip_k0_t2.sl.r_2 (F := Ideal) a5 X5 k) (ix2 i l) = (xr a5 X5 k i (col 0 (by norm_num) l) - rowMean (xr a5 X5 k i)) * (xr a5 X5 k i (col 0 (by norm_num) l) - rowMean (xr a5 X5 k i)) + (xr a5 X5 k i (col 1 (by norm_num) l) - rowMean (xr a5 X5 k i)) * (xr a5 X5 k i (col 1 (by norm_num) l) - rowMean (xr a5 X5 k i)) + (xr a5 X5 k i (col 2 (by norm_num) l) - rowMean (xr a5 X5 k i)) * (xr a5 X5 k i (col 2 (by norm_num) l) - rowMean (xr a5 X5 k i)) := by
  pointwise [trip_k0_t2.sl.r_2, k0_pay133]
  simp only [mean_pay, x0, x1, x2, x3, x4, x5, x6, x7, x8, x9, x10, x11, x12, x13, x14, x15, x16, x17, x18, x19, x20, x21, x22, x23]

theorem rs_at (i : Fin 32) : (trip_k0_t2.sl.r_4 (F := Ideal) a5 X5 k) (ix2 i 0) = rowRs (xr a5 X5 k i) := by
  pointwise [trip_k0_t2.sl.r_4, k0_pay139, trip_k0_t2.sl.v693, trip_k0_t2.sl.v685, trip_k0_t2.sl.v677, trip_k0_t2.sl.v669, trip_k0_t2.sl.v661, trip_k0_t2.sl.v653, trip_k0_t2.sl.v645, trip_k0_t2.sl.v637, trip_k0_t2.sl.v629, trip_k0_t2.sl.v621, trip_k0_t2.sl.v613, trip_k0_t2.sl.v605, trip_k0_t2.sl.v597, trip_k0_t2.sl.v589, trip_k0_t2.sl.v581, trip_k0_t2.sl.v573, trip_k0_t2.sl.v565, trip_k0_t2.sl.v564, trip_k0_t2.sl.v563, trip_k0_t2.sl.r_3, k0_pay134, trip_k0_t2.sl.v562, trip_k0_t2.sl.v572, trip_k0_t2.sl.v571, trip_k0_t2.sl.v434, trip_k0_t2.sl.v433, trip_k0_t2.sl.v580, trip_k0_t2.sl.v579, trip_k0_t2.sl.v439, trip_k0_t2.sl.v438, trip_k0_t2.sl.v588, trip_k0_t2.sl.v587, trip_k0_t2.sl.v444, trip_k0_t2.sl.v443, trip_k0_t2.sl.v596, trip_k0_t2.sl.v595, trip_k0_t2.sl.v449, trip_k0_t2.sl.v448, trip_k0_t2.sl.v604, trip_k0_t2.sl.v603, trip_k0_t2.sl.v454, trip_k0_t2.sl.v453, trip_k0_t2.sl.v612, trip_k0_t2.sl.v611, trip_k0_t2.sl.v459, trip_k0_t2.sl.v458, trip_k0_t2.sl.v620, trip_k0_t2.sl.v619, trip_k0_t2.sl.v464, trip_k0_t2.sl.v463, trip_k0_t2.sl.v628, trip_k0_t2.sl.v627, trip_k0_t2.sl.v469, trip_k0_t2.sl.v468, trip_k0_t2.sl.v636, trip_k0_t2.sl.v635, trip_k0_t2.sl.v474, trip_k0_t2.sl.v473, trip_k0_t2.sl.v644, trip_k0_t2.sl.v643, trip_k0_t2.sl.v479, trip_k0_t2.sl.v478, trip_k0_t2.sl.v652, trip_k0_t2.sl.v651, trip_k0_t2.sl.v649, trip_k0_t2.sl.v648, trip_k0_t2.sl.v660, trip_k0_t2.sl.v659, trip_k0_t2.sl.v489, trip_k0_t2.sl.v488, trip_k0_t2.sl.v668, trip_k0_t2.sl.v667, trip_k0_t2.sl.v494, trip_k0_t2.sl.v493, trip_k0_t2.sl.v676, trip_k0_t2.sl.v675, trip_k0_t2.sl.v499, trip_k0_t2.sl.v498, trip_k0_t2.sl.v684, trip_k0_t2.sl.v683, trip_k0_t2.sl.v504, trip_k0_t2.sl.v503, trip_k0_t2.sl.v692, trip_k0_t2.sl.v691, trip_k0_t2.sl.v509, trip_k0_t2.sl.v508]
  simp only [mean_at, sq_at, x0, x1, x2, x3, x4, x5, x6, x7, x8, x9, x10, x11, x12, x13, x14, x15, x16, x17, x18, x19, x20, x21, x22, x23, invD_def]
  rw [sum_chain (fun d => (xr a5 X5 k i d - rowMean (xr a5 X5 k i)) * (xr a5 X5 k i d - rowMean (xr a5 X5 k i)))]
  rfl

theorem h0 (i : Fin 32) (l : Fin 128) : (trip_k0_t2.sl.v750 (F := Ideal) a5 a6 a7 X5 X6 X7 k) (ix2 i l) = hr a5 a6 a7 X5 X6 X7 k i (col 0 (by norm_num) l) := by
  pointwise [trip_k0_t2.sl.v750, trip_k0_t2.sl.v746, trip_k0_t2.sl.v740, trip_k0_t2.sl.v738, trip_k0_t2.sl.v736, trip_k0_t2.sl.r_5, k0_pay140, trip_k0_t2.sl.v562, trip_k0_t2.sl.v739, trip_k0_t2.sl.v745, trip_k0_t2.sl.v744, trip_k0_t2.sl.v743, trip_k0_t2.sl.cst_358, trip_k0_t2.sl.v742, trip_k0_t2.sl.v749, trip_k0_t2.sl.v748]
  simp only [mean_at, rs_at, x0, s0]
  rfl
theorem p0 (i : Fin 32) (l : Fin 128) : (trip_k0_t2.sl.v753 (F := Ideal) a5 a6 a7 X5 X6 X7 k) (ix2 i l) = hr a5 a6 a7 X5 X6 X7 k i (col 0 (by norm_num) l) := by
  pointwise [trip_k0_t2.sl.v753]
  exact h0 a5 a6 a7 X5 X6 X7 k i l

theorem h1 (i : Fin 32) (l : Fin 128) : (trip_k0_t2.sl.v772 (F := Ideal) a5 a6 a7 X5 X6 X7 k) (ix2 i l) = hr a5 a6 a7 X5 X6 X7 k i (col 1 (by norm_num) l) := by
  pointwise [trip_k0_t2.sl.v772, trip_k0_t2.sl.v768, trip_k0_t2.sl.v762, trip_k0_t2.sl.v760, trip_k0_t2.sl.v419, trip_k0_t2.sl.v418, trip_k0_t2.sl.v562, trip_k0_t2.sl.v739, trip_k0_t2.sl.v767, trip_k0_t2.sl.v766, trip_k0_t2.sl.v743, trip_k0_t2.sl.cst_358, trip_k0_t2.sl.v764, trip_k0_t2.sl.v771, trip_k0_t2.sl.v770]
  simp only [mean_at, rs_at, x1, s1]
  rfl
theorem p1 (i : Fin 32) (l : Fin 128) : (trip_k0_t2.sl.v775 (F := Ideal) a5 a6 a7 X5 X6 X7 k) (ix2 i l) = hr a5 a6 a7 X5 X6 X7 k i (col 1 (by norm_num) l) := by
  pointwise [trip_k0_t2.sl.v775]
  exact h1 a5 a6 a7 X5 X6 X7 k i l

theorem h2 (i : Fin 32) (l : Fin 128) : (trip_k0_t2.sl.v795 (F := Ideal) a5 a6 a7 X5 X6 X7 k) (ix2 i l) = hr a5 a6 a7 X5 X6 X7 k i (col 2 (by norm_num) l) := by
  pointwise [trip_k0_t2.sl.v795, trip_k0_t2.sl.v791, trip_k0_t2.sl.v785, trip_k0_t2.sl.v783, trip_k0_t2.sl.v424, trip_k0_t2.sl.v423, trip_k0_t2.sl.v562, trip_k0_t2.sl.v739, trip_k0_t2.sl.v790, trip_k0_t2.sl.v789, trip_k0_t2.sl.v743, trip_k0_t2.sl.cst_358, trip_k0_t2.sl.v787, trip_k0_t2.sl.v794, trip_k0_t2.sl.v793]
  simp only [mean_at, rs_at, x2, s2]
  rfl
theorem p2 (i : Fin 32) (l : Fin 128) : (trip_k0_t2.sl.v798 (F := Ideal) a5 a6 a7 X5 X6 X7 k) (ix2 i l) = hr a5 a6 a7 X5 X6 X7 k i (col 2 (by norm_num) l) := by
  pointwise [trip_k0_t2.sl.v798]
  exact h2 a5 a6 a7 X5 X6 X7 k i l

theorem h3 (i : Fin 32) (l : Fin 128) : (trip_k0_t2.sl.v818 (F := Ideal) a5 a6 a7 X5 X6 X7 k) (ix2 i l) = hr a5 a6 a7 X5 X6 X7 k i (col 3 (by norm_num) l) := by
  pointwise [trip_k0_t2.sl.v818, trip_k0_t2.sl.v814, trip_k0_t2.sl.v808, trip_k0_t2.sl.v806, trip_k0_t2.sl.v429, trip_k0_t2.sl.v428, trip_k0_t2.sl.v562, trip_k0_t2.sl.v739, trip_k0_t2.sl.v813, trip_k0_t2.sl.v812, trip_k0_t2.sl.v743, trip_k0_t2.sl.cst_358, trip_k0_t2.sl.v810, trip_k0_t2.sl.v817, trip_k0_t2.sl.v816]
  simp only [mean_at, rs_at, x3, s3]
  rfl
theorem p3 (i : Fin 32) (l : Fin 128) : (trip_k0_t2.sl.v821 (F := Ideal) a5 a6 a7 X5 X6 X7 k) (ix2 i l) = hr a5 a6 a7 X5 X6 X7 k i (col 3 (by norm_num) l) := by
  pointwise [trip_k0_t2.sl.v821]
  exact h3 a5 a6 a7 X5 X6 X7 k i l

theorem h4 (i : Fin 32) (l : Fin 128) : (trip_k0_t2.sl.v841 (F := Ideal) a5 a6 a7 X5 X6 X7 k) (ix2 i l) = hr a5 a6 a7 X5 X6 X7 k i (col 4 (by norm_num) l) := by
  pointwise [trip_k0_t2.sl.v841, trip_k0_t2.sl.v837, trip_k0_t2.sl.v831, trip_k0_t2.sl.v571, trip_k0_t2.sl.v434, trip_k0_t2.sl.v433, trip_k0_t2.sl.v562, trip_k0_t2.sl.v739, trip_k0_t2.sl.v836, trip_k0_t2.sl.v835, trip_k0_t2.sl.v743, trip_k0_t2.sl.cst_358, trip_k0_t2.sl.v833, trip_k0_t2.sl.v840, trip_k0_t2.sl.v839]
  simp only [mean_at, rs_at, x4, s4]
  rfl
theorem p4 (i : Fin 32) (l : Fin 128) : (trip_k0_t2.sl.v844 (F := Ideal) a5 a6 a7 X5 X6 X7 k) (ix2 i l) = hr a5 a6 a7 X5 X6 X7 k i (col 4 (by norm_num) l) := by
  pointwise [trip_k0_t2.sl.v844]
  exact h4 a5 a6 a7 X5 X6 X7 k i l

theorem h5 (i : Fin 32) (l : Fin 128) : (trip_k0_t2.sl.v864 (F := Ideal) a5 a6 a7 X5 X6 X7 k) (ix2 i l) = hr a5 a6 a7 X5 X6 X7 k i (col 5 (by norm_num) l) := by
  pointwise [trip_k0_t2.sl.v864, trip_k0_t2.sl.v860, trip_k0_t2.sl.v854, trip_k0_t2.sl.v579, trip_k0_t2.sl.v439, trip_k0_t2.sl.v438, trip_k0_t2.sl.v562, trip_k0_t2.sl.v739, trip_k0_t2.sl.v859, trip_k0_t2.sl.v858, trip_k0_t2.sl.v743, trip_k0_t2.sl.cst_358, trip_k0_t2.sl.v856, trip_k0_t2.sl.v863, trip_k0_t2.sl.v862]
  simp only [mean_at, rs_at, x5, s5]
  rfl
theorem p5 (i : Fin 32) (l : Fin 128) : (trip_k0_t2.sl.v867 (F := Ideal) a5 a6 a7 X5 X6 X7 k) (ix2 i l) = hr a5 a6 a7 X5 X6 X7 k i (col 5 (by norm_num) l) := by
  pointwise [trip_k0_t2.sl.v867]
  exact h5 a5 a6 a7 X5 X6 X7 k i l

theorem h6 (i : Fin 32) (l : Fin 128) : (trip_k0_t2.sl.v887 (F := Ideal) a5 a6 a7 X5 X6 X7 k) (ix2 i l) = hr a5 a6 a7 X5 X6 X7 k i (col 6 (by norm_num) l) := by
  pointwise [trip_k0_t2.sl.v887, trip_k0_t2.sl.v883, trip_k0_t2.sl.v877, trip_k0_t2.sl.v587, trip_k0_t2.sl.v444, trip_k0_t2.sl.v443, trip_k0_t2.sl.v562, trip_k0_t2.sl.v739, trip_k0_t2.sl.v882, trip_k0_t2.sl.v881, trip_k0_t2.sl.v743, trip_k0_t2.sl.cst_358, trip_k0_t2.sl.v879, trip_k0_t2.sl.v886, trip_k0_t2.sl.v885]
  simp only [mean_at, rs_at, x6, s6]
  rfl
theorem p6 (i : Fin 32) (l : Fin 128) : (trip_k0_t2.sl.v890 (F := Ideal) a5 a6 a7 X5 X6 X7 k) (ix2 i l) = hr a5 a6 a7 X5 X6 X7 k i (col 6 (by norm_num) l) := by
  pointwise [trip_k0_t2.sl.v890]
  exact h6 a5 a6 a7 X5 X6 X7 k i l

theorem h7 (i : Fin 32) (l : Fin 128) : (trip_k0_t2.sl.v910 (F := Ideal) a5 a6 a7 X5 X6 X7 k) (ix2 i l) = hr a5 a6 a7 X5 X6 X7 k i (col 7 (by norm_num) l) := by
  pointwise [trip_k0_t2.sl.v910, trip_k0_t2.sl.v906, trip_k0_t2.sl.v900, trip_k0_t2.sl.v595, trip_k0_t2.sl.v449, trip_k0_t2.sl.v448, trip_k0_t2.sl.v562, trip_k0_t2.sl.v739, trip_k0_t2.sl.v905, trip_k0_t2.sl.v904, trip_k0_t2.sl.v743, trip_k0_t2.sl.cst_358, trip_k0_t2.sl.v902, trip_k0_t2.sl.v909, trip_k0_t2.sl.v908]
  simp only [mean_at, rs_at, x7, s7]
  rfl
theorem p7 (i : Fin 32) (l : Fin 128) : (trip_k0_t2.sl.v913 (F := Ideal) a5 a6 a7 X5 X6 X7 k) (ix2 i l) = hr a5 a6 a7 X5 X6 X7 k i (col 7 (by norm_num) l) := by
  pointwise [trip_k0_t2.sl.v913]
  exact h7 a5 a6 a7 X5 X6 X7 k i l

theorem h8 (i : Fin 32) (l : Fin 128) : (trip_k0_t2.sl.v933 (F := Ideal) a5 a6 a7 X5 X6 X7 k) (ix2 i l) = hr a5 a6 a7 X5 X6 X7 k i (col 8 (by norm_num) l) := by
  pointwise [trip_k0_t2.sl.v933, trip_k0_t2.sl.v929, trip_k0_t2.sl.v923, trip_k0_t2.sl.v603, trip_k0_t2.sl.v454, trip_k0_t2.sl.v453, trip_k0_t2.sl.v562, trip_k0_t2.sl.v739, trip_k0_t2.sl.v928, trip_k0_t2.sl.v927, trip_k0_t2.sl.v743, trip_k0_t2.sl.cst_358, trip_k0_t2.sl.v925, trip_k0_t2.sl.v932, trip_k0_t2.sl.v931]
  simp only [mean_at, rs_at, x8, s8]
  rfl
theorem p8 (i : Fin 32) (l : Fin 128) : (trip_k0_t2.sl.v936 (F := Ideal) a5 a6 a7 X5 X6 X7 k) (ix2 i l) = hr a5 a6 a7 X5 X6 X7 k i (col 8 (by norm_num) l) := by
  pointwise [trip_k0_t2.sl.v936]
  exact h8 a5 a6 a7 X5 X6 X7 k i l

theorem h9 (i : Fin 32) (l : Fin 128) : (trip_k0_t2.sl.v956 (F := Ideal) a5 a6 a7 X5 X6 X7 k) (ix2 i l) = hr a5 a6 a7 X5 X6 X7 k i (col 9 (by norm_num) l) := by
  pointwise [trip_k0_t2.sl.v956, trip_k0_t2.sl.v952, trip_k0_t2.sl.v946, trip_k0_t2.sl.v611, trip_k0_t2.sl.v459, trip_k0_t2.sl.v458, trip_k0_t2.sl.v562, trip_k0_t2.sl.v739, trip_k0_t2.sl.v951, trip_k0_t2.sl.v950, trip_k0_t2.sl.v743, trip_k0_t2.sl.cst_358, trip_k0_t2.sl.v948, trip_k0_t2.sl.v955, trip_k0_t2.sl.v954]
  simp only [mean_at, rs_at, x9, s9]
  rfl
theorem p9 (i : Fin 32) (l : Fin 128) : (trip_k0_t2.sl.v959 (F := Ideal) a5 a6 a7 X5 X6 X7 k) (ix2 i l) = hr a5 a6 a7 X5 X6 X7 k i (col 9 (by norm_num) l) := by
  pointwise [trip_k0_t2.sl.v959]
  exact h9 a5 a6 a7 X5 X6 X7 k i l

theorem h10 (i : Fin 32) (l : Fin 128) : (trip_k0_t2.sl.v979 (F := Ideal) a5 a6 a7 X5 X6 X7 k) (ix2 i l) = hr a5 a6 a7 X5 X6 X7 k i (col 10 (by norm_num) l) := by
  pointwise [trip_k0_t2.sl.v979, trip_k0_t2.sl.v975, trip_k0_t2.sl.v969, trip_k0_t2.sl.v619, trip_k0_t2.sl.v464, trip_k0_t2.sl.v463, trip_k0_t2.sl.v562, trip_k0_t2.sl.v739, trip_k0_t2.sl.v974, trip_k0_t2.sl.v973, trip_k0_t2.sl.v743, trip_k0_t2.sl.cst_358, trip_k0_t2.sl.v971, trip_k0_t2.sl.v978, trip_k0_t2.sl.v977]
  simp only [mean_at, rs_at, x10, s10]
  rfl
theorem p10 (i : Fin 32) (l : Fin 128) : (trip_k0_t2.sl.v982 (F := Ideal) a5 a6 a7 X5 X6 X7 k) (ix2 i l) = hr a5 a6 a7 X5 X6 X7 k i (col 10 (by norm_num) l) := by
  pointwise [trip_k0_t2.sl.v982]
  exact h10 a5 a6 a7 X5 X6 X7 k i l

theorem h11 (i : Fin 32) (l : Fin 128) : (trip_k0_t2.sl.v1002 (F := Ideal) a5 a6 a7 X5 X6 X7 k) (ix2 i l) = hr a5 a6 a7 X5 X6 X7 k i (col 11 (by norm_num) l) := by
  pointwise [trip_k0_t2.sl.v1002, trip_k0_t2.sl.v998, trip_k0_t2.sl.v992, trip_k0_t2.sl.v627, trip_k0_t2.sl.v469, trip_k0_t2.sl.v468, trip_k0_t2.sl.v562, trip_k0_t2.sl.v739, trip_k0_t2.sl.v997, trip_k0_t2.sl.v996, trip_k0_t2.sl.v743, trip_k0_t2.sl.cst_358, trip_k0_t2.sl.v994, trip_k0_t2.sl.v1001, trip_k0_t2.sl.v1000]
  simp only [mean_at, rs_at, x11, s11]
  rfl
theorem p11 (i : Fin 32) (l : Fin 128) : (trip_k0_t2.sl.v1005 (F := Ideal) a5 a6 a7 X5 X6 X7 k) (ix2 i l) = hr a5 a6 a7 X5 X6 X7 k i (col 11 (by norm_num) l) := by
  pointwise [trip_k0_t2.sl.v1005]
  exact h11 a5 a6 a7 X5 X6 X7 k i l

theorem h12 (i : Fin 32) (l : Fin 128) : (trip_k0_t2.sl.v1025 (F := Ideal) a5 a6 a7 X5 X6 X7 k) (ix2 i l) = hr a5 a6 a7 X5 X6 X7 k i (col 12 (by norm_num) l) := by
  pointwise [trip_k0_t2.sl.v1025, trip_k0_t2.sl.v1021, trip_k0_t2.sl.v1015, trip_k0_t2.sl.v635, trip_k0_t2.sl.v474, trip_k0_t2.sl.v473, trip_k0_t2.sl.v562, trip_k0_t2.sl.v739, trip_k0_t2.sl.v1020, trip_k0_t2.sl.v1019, trip_k0_t2.sl.v743, trip_k0_t2.sl.cst_358, trip_k0_t2.sl.v1017, trip_k0_t2.sl.v1024, trip_k0_t2.sl.v1023]
  simp only [mean_at, rs_at, x12, s12]
  rfl
theorem p12 (i : Fin 32) (l : Fin 128) : (trip_k0_t2.sl.v1028 (F := Ideal) a5 a6 a7 X5 X6 X7 k) (ix2 i l) = hr a5 a6 a7 X5 X6 X7 k i (col 12 (by norm_num) l) := by
  pointwise [trip_k0_t2.sl.v1028]
  exact h12 a5 a6 a7 X5 X6 X7 k i l

theorem h13 (i : Fin 32) (l : Fin 128) : (trip_k0_t2.sl.v1048 (F := Ideal) a5 a6 a7 X5 X6 X7 k) (ix2 i l) = hr a5 a6 a7 X5 X6 X7 k i (col 13 (by norm_num) l) := by
  pointwise [trip_k0_t2.sl.v1048, trip_k0_t2.sl.v1044, trip_k0_t2.sl.v1038, trip_k0_t2.sl.v643, trip_k0_t2.sl.v479, trip_k0_t2.sl.v478, trip_k0_t2.sl.v562, trip_k0_t2.sl.v739, trip_k0_t2.sl.v1043, trip_k0_t2.sl.v1042, trip_k0_t2.sl.v743, trip_k0_t2.sl.cst_358, trip_k0_t2.sl.v1040, trip_k0_t2.sl.v1047, trip_k0_t2.sl.v1046]
  simp only [mean_at, rs_at, x13, s13]
  rfl
theorem p13 (i : Fin 32) (l : Fin 128) : (trip_k0_t2.sl.v1051 (F := Ideal) a5 a6 a7 X5 X6 X7 k) (ix2 i l) = hr a5 a6 a7 X5 X6 X7 k i (col 13 (by norm_num) l) := by
  pointwise [trip_k0_t2.sl.v1051]
  exact h13 a5 a6 a7 X5 X6 X7 k i l

theorem h14 (i : Fin 32) (l : Fin 128) : (trip_k0_t2.sl.v1071 (F := Ideal) a5 a6 a7 X5 X6 X7 k) (ix2 i l) = hr a5 a6 a7 X5 X6 X7 k i (col 14 (by norm_num) l) := by
  pointwise [trip_k0_t2.sl.v1071, trip_k0_t2.sl.v1067, trip_k0_t2.sl.v1061, trip_k0_t2.sl.v651, trip_k0_t2.sl.v649, trip_k0_t2.sl.v648, trip_k0_t2.sl.v562, trip_k0_t2.sl.v739, trip_k0_t2.sl.v1066, trip_k0_t2.sl.v1065, trip_k0_t2.sl.v743, trip_k0_t2.sl.cst_358, trip_k0_t2.sl.v1063, trip_k0_t2.sl.v1070, trip_k0_t2.sl.v1069]
  simp only [mean_at, rs_at, x14, s14]
  rfl
theorem p14 (i : Fin 32) (l : Fin 128) : (trip_k0_t2.sl.v1074 (F := Ideal) a5 a6 a7 X5 X6 X7 k) (ix2 i l) = hr a5 a6 a7 X5 X6 X7 k i (col 14 (by norm_num) l) := by
  pointwise [trip_k0_t2.sl.v1074]
  exact h14 a5 a6 a7 X5 X6 X7 k i l

theorem h15 (i : Fin 32) (l : Fin 128) : (trip_k0_t2.sl.v1094 (F := Ideal) a5 a6 a7 X5 X6 X7 k) (ix2 i l) = hr a5 a6 a7 X5 X6 X7 k i (col 15 (by norm_num) l) := by
  pointwise [trip_k0_t2.sl.v1094, trip_k0_t2.sl.v1090, trip_k0_t2.sl.v1084, trip_k0_t2.sl.v659, trip_k0_t2.sl.v489, trip_k0_t2.sl.v488, trip_k0_t2.sl.v562, trip_k0_t2.sl.v739, trip_k0_t2.sl.v1089, trip_k0_t2.sl.v1088, trip_k0_t2.sl.v743, trip_k0_t2.sl.cst_358, trip_k0_t2.sl.v1086, trip_k0_t2.sl.v1093, trip_k0_t2.sl.v1092]
  simp only [mean_at, rs_at, x15, s15]
  rfl
theorem p15 (i : Fin 32) (l : Fin 128) : (trip_k0_t2.sl.v1097 (F := Ideal) a5 a6 a7 X5 X6 X7 k) (ix2 i l) = hr a5 a6 a7 X5 X6 X7 k i (col 15 (by norm_num) l) := by
  pointwise [trip_k0_t2.sl.v1097]
  exact h15 a5 a6 a7 X5 X6 X7 k i l

theorem h16 (i : Fin 32) (l : Fin 128) : (trip_k0_t2.sl.v1117 (F := Ideal) a5 a6 a7 X5 X6 X7 k) (ix2 i l) = hr a5 a6 a7 X5 X6 X7 k i (col 16 (by norm_num) l) := by
  pointwise [trip_k0_t2.sl.v1117, trip_k0_t2.sl.v1113, trip_k0_t2.sl.v1107, trip_k0_t2.sl.v667, trip_k0_t2.sl.v494, trip_k0_t2.sl.v493, trip_k0_t2.sl.v562, trip_k0_t2.sl.v739, trip_k0_t2.sl.v1112, trip_k0_t2.sl.v1111, trip_k0_t2.sl.v743, trip_k0_t2.sl.cst_358, trip_k0_t2.sl.v1109, trip_k0_t2.sl.v1116, trip_k0_t2.sl.v1115]
  simp only [mean_at, rs_at, x16, s16]
  rfl
theorem p16 (i : Fin 32) (l : Fin 128) : (trip_k0_t2.sl.v1120 (F := Ideal) a5 a6 a7 X5 X6 X7 k) (ix2 i l) = hr a5 a6 a7 X5 X6 X7 k i (col 16 (by norm_num) l) := by
  pointwise [trip_k0_t2.sl.v1120]
  exact h16 a5 a6 a7 X5 X6 X7 k i l

theorem h17 (i : Fin 32) (l : Fin 128) : (trip_k0_t2.sl.v1140 (F := Ideal) a5 a6 a7 X5 X6 X7 k) (ix2 i l) = hr a5 a6 a7 X5 X6 X7 k i (col 17 (by norm_num) l) := by
  pointwise [trip_k0_t2.sl.v1140, trip_k0_t2.sl.v1136, trip_k0_t2.sl.v1130, trip_k0_t2.sl.v675, trip_k0_t2.sl.v499, trip_k0_t2.sl.v498, trip_k0_t2.sl.v562, trip_k0_t2.sl.v739, trip_k0_t2.sl.v1135, trip_k0_t2.sl.v1134, trip_k0_t2.sl.v743, trip_k0_t2.sl.cst_358, trip_k0_t2.sl.v1132, trip_k0_t2.sl.v1139, trip_k0_t2.sl.v1138]
  simp only [mean_at, rs_at, x17, s17]
  rfl
theorem p17 (i : Fin 32) (l : Fin 128) : (trip_k0_t2.sl.v1143 (F := Ideal) a5 a6 a7 X5 X6 X7 k) (ix2 i l) = hr a5 a6 a7 X5 X6 X7 k i (col 17 (by norm_num) l) := by
  pointwise [trip_k0_t2.sl.v1143]
  exact h17 a5 a6 a7 X5 X6 X7 k i l

theorem h18 (i : Fin 32) (l : Fin 128) : (trip_k0_t2.sl.v1163 (F := Ideal) a5 a6 a7 X5 X6 X7 k) (ix2 i l) = hr a5 a6 a7 X5 X6 X7 k i (col 18 (by norm_num) l) := by
  pointwise [trip_k0_t2.sl.v1163, trip_k0_t2.sl.v1159, trip_k0_t2.sl.v1153, trip_k0_t2.sl.v683, trip_k0_t2.sl.v504, trip_k0_t2.sl.v503, trip_k0_t2.sl.v562, trip_k0_t2.sl.v739, trip_k0_t2.sl.v1158, trip_k0_t2.sl.v1157, trip_k0_t2.sl.v743, trip_k0_t2.sl.cst_358, trip_k0_t2.sl.v1155, trip_k0_t2.sl.v1162, trip_k0_t2.sl.v1161]
  simp only [mean_at, rs_at, x18, s18]
  rfl
theorem p18 (i : Fin 32) (l : Fin 128) : (trip_k0_t2.sl.v1166 (F := Ideal) a5 a6 a7 X5 X6 X7 k) (ix2 i l) = hr a5 a6 a7 X5 X6 X7 k i (col 18 (by norm_num) l) := by
  pointwise [trip_k0_t2.sl.v1166]
  exact h18 a5 a6 a7 X5 X6 X7 k i l

theorem h19 (i : Fin 32) (l : Fin 128) : (trip_k0_t2.sl.v1186 (F := Ideal) a5 a6 a7 X5 X6 X7 k) (ix2 i l) = hr a5 a6 a7 X5 X6 X7 k i (col 19 (by norm_num) l) := by
  pointwise [trip_k0_t2.sl.v1186, trip_k0_t2.sl.v1182, trip_k0_t2.sl.v1176, trip_k0_t2.sl.v691, trip_k0_t2.sl.v509, trip_k0_t2.sl.v508, trip_k0_t2.sl.v562, trip_k0_t2.sl.v739, trip_k0_t2.sl.v1181, trip_k0_t2.sl.v1180, trip_k0_t2.sl.v743, trip_k0_t2.sl.cst_358, trip_k0_t2.sl.v1178, trip_k0_t2.sl.v1185, trip_k0_t2.sl.v1184]
  simp only [mean_at, rs_at, x19, s19]
  rfl
theorem p19 (i : Fin 32) (l : Fin 128) : (trip_k0_t2.sl.v1189 (F := Ideal) a5 a6 a7 X5 X6 X7 k) (ix2 i l) = hr a5 a6 a7 X5 X6 X7 k i (col 19 (by norm_num) l) := by
  pointwise [trip_k0_t2.sl.v1189]
  exact h19 a5 a6 a7 X5 X6 X7 k i l

theorem h20 (i : Fin 32) (l : Fin 128) : (trip_k0_t2.sl.v1209 (F := Ideal) a5 a6 a7 X5 X6 X7 k) (ix2 i l) = hr a5 a6 a7 X5 X6 X7 k i (col 20 (by norm_num) l) := by
  pointwise [trip_k0_t2.sl.v1209, trip_k0_t2.sl.v1205, trip_k0_t2.sl.v1199, trip_k0_t2.sl.v1197, trip_k0_t2.sl.v514, trip_k0_t2.sl.v513, trip_k0_t2.sl.v562, trip_k0_t2.sl.v739, trip_k0_t2.sl.v1204, trip_k0_t2.sl.v1203, trip_k0_t2.sl.v743, trip_k0_t2.sl.cst_358, trip_k0_t2.sl.v1201, trip_k0_t2.sl.v1208, trip_k0_t2.sl.v1207]
  simp only [mean_at, rs_at, x20, s20]
  rfl
theorem p20 (i : Fin 32) (l : Fin 128) : (trip_k0_t2.sl.v1212 (F := Ideal) a5 a6 a7 X5 X6 X7 k) (ix2 i l) = hr a5 a6 a7 X5 X6 X7 k i (col 20 (by norm_num) l) := by
  pointwise [trip_k0_t2.sl.v1212]
  exact h20 a5 a6 a7 X5 X6 X7 k i l

theorem h21 (i : Fin 32) (l : Fin 128) : (trip_k0_t2.sl.v1232 (F := Ideal) a5 a6 a7 X5 X6 X7 k) (ix2 i l) = hr a5 a6 a7 X5 X6 X7 k i (col 21 (by norm_num) l) := by
  pointwise [trip_k0_t2.sl.v1232, trip_k0_t2.sl.v1228, trip_k0_t2.sl.v1222, trip_k0_t2.sl.v1220, trip_k0_t2.sl.v519, trip_k0_t2.sl.v518, trip_k0_t2.sl.v562, trip_k0_t2.sl.v739, trip_k0_t2.sl.v1227, trip_k0_t2.sl.v1226, trip_k0_t2.sl.v743, trip_k0_t2.sl.cst_358, trip_k0_t2.sl.v1224, trip_k0_t2.sl.v1231, trip_k0_t2.sl.v1230]
  simp only [mean_at, rs_at, x21, s21]
  rfl
theorem p21 (i : Fin 32) (l : Fin 128) : (trip_k0_t2.sl.v1235 (F := Ideal) a5 a6 a7 X5 X6 X7 k) (ix2 i l) = hr a5 a6 a7 X5 X6 X7 k i (col 21 (by norm_num) l) := by
  pointwise [trip_k0_t2.sl.v1235]
  exact h21 a5 a6 a7 X5 X6 X7 k i l

theorem h22 (i : Fin 32) (l : Fin 128) : (trip_k0_t2.sl.v1255 (F := Ideal) a5 a6 a7 X5 X6 X7 k) (ix2 i l) = hr a5 a6 a7 X5 X6 X7 k i (col 22 (by norm_num) l) := by
  pointwise [trip_k0_t2.sl.v1255, trip_k0_t2.sl.v1251, trip_k0_t2.sl.v1245, trip_k0_t2.sl.v1243, trip_k0_t2.sl.v1241, trip_k0_t2.sl.v1240, trip_k0_t2.sl.v562, trip_k0_t2.sl.v739, trip_k0_t2.sl.v1250, trip_k0_t2.sl.v1249, trip_k0_t2.sl.v743, trip_k0_t2.sl.cst_358, trip_k0_t2.sl.v1247, trip_k0_t2.sl.v1254, trip_k0_t2.sl.v1253]
  simp only [mean_at, rs_at, x22, s22]
  rfl
theorem p22 (i : Fin 32) (l : Fin 128) : (trip_k0_t2.sl.v1258 (F := Ideal) a5 a6 a7 X5 X6 X7 k) (ix2 i l) = hr a5 a6 a7 X5 X6 X7 k i (col 22 (by norm_num) l) := by
  pointwise [trip_k0_t2.sl.v1258]
  exact h22 a5 a6 a7 X5 X6 X7 k i l

theorem h23 (i : Fin 32) (l : Fin 128) : (trip_k0_t2.sl.v1278 (F := Ideal) a5 a6 a7 X5 X6 X7 k) (ix2 i l) = hr a5 a6 a7 X5 X6 X7 k i (col 23 (by norm_num) l) := by
  pointwise [trip_k0_t2.sl.v1278, trip_k0_t2.sl.v1274, trip_k0_t2.sl.v1268, trip_k0_t2.sl.v1266, trip_k0_t2.sl.v1264, trip_k0_t2.sl.v1263, trip_k0_t2.sl.v562, trip_k0_t2.sl.v739, trip_k0_t2.sl.v1273, trip_k0_t2.sl.v1272, trip_k0_t2.sl.v743, trip_k0_t2.sl.cst_358, trip_k0_t2.sl.v1270, trip_k0_t2.sl.v1277, trip_k0_t2.sl.v1276]
  simp only [mean_at, rs_at, x23, s23]
  rfl
theorem p23 (i : Fin 32) (l : Fin 128) : (trip_k0_t2.sl.v1281 (F := Ideal) a5 a6 a7 X5 X6 X7 k) (ix2 i l) = hr a5 a6 a7 X5 X6 X7 k i (col 23 (by norm_num) l) := by
  pointwise [trip_k0_t2.sl.v1281]
  exact h23 a5 a6 a7 X5 X6 X7 k i l

theorem q_at (i : Fin 32) (l : Fin 128) : (trip_k0_t2.sl.v1289 (F := Ideal) a5 a6 a7 X5 X6 X7 k) (ix2 i l) = rowQ (hr a5 a6 a7 X5 X6 X7 k i) := by
  pointwise [trip_k0_t2.sl.v1289, trip_k0_t2.sl.v1288, trip_k0_t2.sl.v1287, trip_k0_t2.sl.v1285, trip_k0_t2.sl.v1284, trip_k0_t2.sl.v1283, trip_k0_t2.sl.v1260, trip_k0_t2.sl.v1237, trip_k0_t2.sl.v1214, trip_k0_t2.sl.v1191, trip_k0_t2.sl.v1168, trip_k0_t2.sl.v1145, trip_k0_t2.sl.v1122, trip_k0_t2.sl.v1099, trip_k0_t2.sl.v1076, trip_k0_t2.sl.v1053, trip_k0_t2.sl.v1030, trip_k0_t2.sl.v1007, trip_k0_t2.sl.v984, trip_k0_t2.sl.v961, trip_k0_t2.sl.v938, trip_k0_t2.sl.v915, trip_k0_t2.sl.v892, trip_k0_t2.sl.v869, trip_k0_t2.sl.v846, trip_k0_t2.sl.v823, trip_k0_t2.sl.v800, trip_k0_t2.sl.v777, trip_k0_t2.sl.v754, trip_k0_t2.sl.v776, trip_k0_t2.sl.v799, trip_k0_t2.sl.v822, trip_k0_t2.sl.v845, trip_k0_t2.sl.v868, trip_k0_t2.sl.v891, trip_k0_t2.sl.v914, trip_k0_t2.sl.v937, trip_k0_t2.sl.v960, trip_k0_t2.sl.v983, trip_k0_t2.sl.v1006, trip_k0_t2.sl.v1029, trip_k0_t2.sl.v1052, trip_k0_t2.sl.v1075, trip_k0_t2.sl.v1098, trip_k0_t2.sl.v1121, trip_k0_t2.sl.v1144, trip_k0_t2.sl.v1167, trip_k0_t2.sl.v1190, trip_k0_t2.sl.v1213, trip_k0_t2.sl.v1236, trip_k0_t2.sl.v1259, trip_k0_t2.sl.v1282, trip_k0_t2.sl.v1286, trip_k0_t2.sl.cst_641]
  simp only [h0, h1, h2, h3, h4, h5, h6, h7, h8, h9, h10, h11, h12, h13, h14, h15, h16, h17, h18, h19, h20, h21, h22, h23]
  exact congrArg (· * Ideal.ofBits .f32 991054117#32) (max_chain _ (fun d => FloatOps.absf (F := Ideal) (φ := .f32) (hr a5 a6 a7 X5 X6 X7 k i d)))

theorem e0 (i : Fin 32) (l : Fin 128) : (trip_k0_t2.sl.v1299 (F := Ideal) a5 a6 a7 X5 X6 X7 k) (ix2 i l) = efStep (rowQ (hr a5 a6 a7 X5 X6 X7 k i)) 128#32 0#32 := by
  pointwise [trip_k0_t2.sl.v1299, trip_k0_t2.sl.v1296, trip_k0_t2.sl.v1294, trip_k0_t2.sl.v1290, trip_k0_t2.sl.v1291, trip_k0_t2.sl.v1293]
  simp only [q_at]
  rfl

theorem e1 (i : Fin 32) (l : Fin 128) : (trip_k0_t2.sl.v1308 (F := Ideal) a5 a6 a7 X5 X6 X7 k) (ix2 i l) = efStep (rowQ (hr a5 a6 a7 X5 X6 X7 k i)) 64#32 ((trip_k0_t2.sl.v1299 (F := Ideal) a5 a6 a7 X5 X6 X7 k) (ix2 i l)) := by
  pointwise [trip_k0_t2.sl.v1308, trip_k0_t2.sl.v1305, trip_k0_t2.sl.v1304, trip_k0_t2.sl.v1303, trip_k0_t2.sl.v1301, trip_k0_t2.sl.v1300, trip_k0_t2.sl.v1293]
  simp only [q_at]
  rfl

theorem e2 (i : Fin 32) (l : Fin 128) : (trip_k0_t2.sl.v1317 (F := Ideal) a5 a6 a7 X5 X6 X7 k) (ix2 i l) = efStep (rowQ (hr a5 a6 a7 X5 X6 X7 k i)) 32#32 ((trip_k0_t2.sl.v1308 (F := Ideal) a5 a6 a7 X5 X6 X7 k) (ix2 i l)) := by
  pointwise [trip_k0_t2.sl.v1317, trip_k0_t2.sl.v1314, trip_k0_t2.sl.v1313, trip_k0_t2.sl.v1312, trip_k0_t2.sl.v1310, trip_k0_t2.sl.v1309, trip_k0_t2.sl.v1293]
  simp only [q_at]
  rfl

theorem e3 (i : Fin 32) (l : Fin 128) : (trip_k0_t2.sl.v1326 (F := Ideal) a5 a6 a7 X5 X6 X7 k) (ix2 i l) = efStep (rowQ (hr a5 a6 a7 X5 X6 X7 k i)) 16#32 ((trip_k0_t2.sl.v1317 (F := Ideal) a5 a6 a7 X5 X6 X7 k) (ix2 i l)) := by
  pointwise [trip_k0_t2.sl.v1326, trip_k0_t2.sl.v1323, trip_k0_t2.sl.v1322, trip_k0_t2.sl.v1321, trip_k0_t2.sl.v1319, trip_k0_t2.sl.v1318, trip_k0_t2.sl.v1293]
  simp only [q_at]
  rfl

theorem e4 (i : Fin 32) (l : Fin 128) : (trip_k0_t2.sl.v1335 (F := Ideal) a5 a6 a7 X5 X6 X7 k) (ix2 i l) = efStep (rowQ (hr a5 a6 a7 X5 X6 X7 k i)) 8#32 ((trip_k0_t2.sl.v1326 (F := Ideal) a5 a6 a7 X5 X6 X7 k) (ix2 i l)) := by
  pointwise [trip_k0_t2.sl.v1335, trip_k0_t2.sl.v1332, trip_k0_t2.sl.v1331, trip_k0_t2.sl.v1330, trip_k0_t2.sl.v1328, trip_k0_t2.sl.v1327, trip_k0_t2.sl.v1293]
  simp only [q_at]
  rfl

theorem e5 (i : Fin 32) (l : Fin 128) : (trip_k0_t2.sl.v1344 (F := Ideal) a5 a6 a7 X5 X6 X7 k) (ix2 i l) = efStep (rowQ (hr a5 a6 a7 X5 X6 X7 k i)) 4#32 ((trip_k0_t2.sl.v1335 (F := Ideal) a5 a6 a7 X5 X6 X7 k) (ix2 i l)) := by
  pointwise [trip_k0_t2.sl.v1344, trip_k0_t2.sl.v1341, trip_k0_t2.sl.v1340, trip_k0_t2.sl.v1339, trip_k0_t2.sl.v1337, trip_k0_t2.sl.v1336, trip_k0_t2.sl.v1293]
  simp only [q_at]
  rfl

theorem e6 (i : Fin 32) (l : Fin 128) : (trip_k0_t2.sl.v1353 (F := Ideal) a5 a6 a7 X5 X6 X7 k) (ix2 i l) = efStep (rowQ (hr a5 a6 a7 X5 X6 X7 k i)) 2#32 ((trip_k0_t2.sl.v1344 (F := Ideal) a5 a6 a7 X5 X6 X7 k) (ix2 i l)) := by
  pointwise [trip_k0_t2.sl.v1353, trip_k0_t2.sl.v1350, trip_k0_t2.sl.v1349, trip_k0_t2.sl.v1348, trip_k0_t2.sl.v1346, trip_k0_t2.sl.v1345, trip_k0_t2.sl.v1293]
  simp only [q_at]
  rfl

theorem e7 (i : Fin 32) (l : Fin 128) : (trip_k0_t2.sl.v1362 (F := Ideal) a5 a6 a7 X5 X6 X7 k) (ix2 i l) = efStep (rowQ (hr a5 a6 a7 X5 X6 X7 k i)) 1#32 ((trip_k0_t2.sl.v1353 (F := Ideal) a5 a6 a7 X5 X6 X7 k) (ix2 i l)) := by
  pointwise [trip_k0_t2.sl.v1362, trip_k0_t2.sl.v1359, trip_k0_t2.sl.v1358, trip_k0_t2.sl.v1357, trip_k0_t2.sl.v1355, trip_k0_t2.sl.v1354, trip_k0_t2.sl.v1293]
  simp only [q_at]
  rfl

theorem e_at (i : Fin 32) (l : Fin 128) : (trip_k0_t2.sl.v1362 (F := Ideal) a5 a6 a7 X5 X6 X7 k) (ix2 i l) = efOf (rowQ (hr a5 a6 a7 X5 X6 X7 k i)) := by
  rw [e7, e6, e5, e4, e3, e2, e1, e0]
  rfl
theorem fix_at (i : Fin 32) (l : Fin 128) : (trip_k0_t2.sl.v1369 (F := Ideal) a5 a6 a7 X5 X6 X7 k) (ix2 i l) = efFix (rowQ (hr a5 a6 a7 X5 X6 X7 k i)) := by
  pointwise [trip_k0_t2.sl.v1369, trip_k0_t2.sl.v1367, trip_k0_t2.sl.v1364, trip_k0_t2.sl.v1290, trip_k0_t2.sl.v1366, trip_k0_t2.sl.v1365, trip_k0_t2.sl.v1368]
  simp only [e_at]
  rfl

theorem inv_at (i : Fin 32) (l : Fin 128) : (trip_k0_t2.sl.v1379 (F := Ideal) a5 a6 a7 X5 X6 X7 k) (ix2 i l) = kInv (rowQ (hr a5 a6 a7 X5 X6 X7 k i)) := by
  pointwise [trip_k0_t2.sl.v1379, trip_k0_t2.sl.v1378, trip_k0_t2.sl.v1376, trip_k0_t2.sl.v1375, trip_k0_t2.sl.v1293]
  simp only [fix_at]
  rfl
theorem scale_at (i : Fin 32) (l : Fin 128) : (trip_k0_t2.sl.v1383 (F := Ideal) a5 a6 a7 X5 X6 X7 k) (ix3 0 i l) = rowScale (xr a5 X5 k i) (arow a7 X7 1) (arow a6 X6 1) := by
  pointwise [trip_k0_t2.sl.v1383, trip_k0_t2.sl.v1374, trip_k0_t2.sl.v1373, trip_k0_t2.sl.v1371, trip_k0_t2.sl.v1354, trip_k0_t2.sl.v1293]
  simp only [fix_at]
  rfl

theorem rc0 : (trip_k0_t2.sl.v1384 (F := Ideal) a5 a6 a7 a16 X5 X6 X7 k) = (trip_k0_t2.sl.v753 (F := Ideal) a5 a6 a7 X5 X6 X7 k) := by
  unfold trip_k0_t2.sl.v1384 trip_k0_t2.sl.HW_arg16_24
  simp (disch := decide) only [↓ View.readCov_skip, ↓ View.readCov_cons_toLoadRect, ↓ View.readCov_fill]
theorem c0 (i : Fin 32) (l : Fin 128) : (trip_k0_t2.sl.v1394 (F := Ideal) a5 a6 a7 a16 X5 X6 X7 k) (ix4 0 0 i l) = rowCode (xr a5 X5 k i) (arow a7 X7 1) (arow a6 X6 1) (col 0 (by norm_num) l) := by
  pointwise [trip_k0_t2.sl.v1394, trip_k0_t2.sl.v1390, trip_k0_t2.sl.v1389, trip_k0_t2.sl.v1388, trip_k0_t2.sl.cst_672, trip_k0_t2.sl.v1387, trip_k0_t2.sl.v1386, trip_k0_t2.sl.cst_671, trip_k0_t2.sl.v1385]
  simp only [rc0, p0, inv_at]
  rfl

theorem rc1 : (trip_k0_t2.sl.v1395 (F := Ideal) a5 a6 a7 a16 X5 X6 X7 k) = (trip_k0_t2.sl.v775 (F := Ideal) a5 a6 a7 X5 X6 X7 k) := by
  unfold trip_k0_t2.sl.v1395 trip_k0_t2.sl.HW_arg16_24
  simp (disch := decide) only [↓ View.readCov_skip, ↓ View.readCov_cons_toLoadRect, ↓ View.readCov_fill]
theorem c1 (i : Fin 32) (l : Fin 128) : (trip_k0_t2.sl.v1405 (F := Ideal) a5 a6 a7 a16 X5 X6 X7 k) (ix4 0 0 i l) = rowCode (xr a5 X5 k i) (arow a7 X7 1) (arow a6 X6 1) (col 1 (by norm_num) l) := by
  pointwise [trip_k0_t2.sl.v1405, trip_k0_t2.sl.v1401, trip_k0_t2.sl.v1400, trip_k0_t2.sl.v1388, trip_k0_t2.sl.cst_672, trip_k0_t2.sl.v1398, trip_k0_t2.sl.v1386, trip_k0_t2.sl.cst_671, trip_k0_t2.sl.v1396]
  simp only [rc1, p1, inv_at]
  rfl

theorem rc2 : (trip_k0_t2.sl.v1406 (F := Ideal) a5 a6 a7 a16 X5 X6 X7 k) = (trip_k0_t2.sl.v798 (F := Ideal) a5 a6 a7 X5 X6 X7 k) := by
  unfold trip_k0_t2.sl.v1406 trip_k0_t2.sl.HW_arg16_24
  simp (disch := decide) only [↓ View.readCov_skip, ↓ View.readCov_cons_toLoadRect, ↓ View.readCov_fill]
theorem c2 (i : Fin 32) (l : Fin 128) : (trip_k0_t2.sl.v1416 (F := Ideal) a5 a6 a7 a16 X5 X6 X7 k) (ix4 0 0 i l) = rowCode (xr a5 X5 k i) (arow a7 X7 1) (arow a6 X6 1) (col 2 (by norm_num) l) := by
  pointwise [trip_k0_t2.sl.v1416, trip_k0_t2.sl.v1412, trip_k0_t2.sl.v1411, trip_k0_t2.sl.v1388, trip_k0_t2.sl.cst_672, trip_k0_t2.sl.v1409, trip_k0_t2.sl.v1386, trip_k0_t2.sl.cst_671, trip_k0_t2.sl.v1407]
  simp only [rc2, p2, inv_at]
  rfl

theorem rc3 : (trip_k0_t2.sl.v1417 (F := Ideal) a5 a6 a7 a16 X5 X6 X7 k) = (trip_k0_t2.sl.v821 (F := Ideal) a5 a6 a7 X5 X6 X7 k) := by
  unfold trip_k0_t2.sl.v1417 trip_k0_t2.sl.HW_arg16_24
  simp (disch := decide) only [↓ View.readCov_skip, ↓ View.readCov_cons_toLoadRect, ↓ View.readCov_fill]
theorem c3 (i : Fin 32) (l : Fin 128) : (trip_k0_t2.sl.v1427 (F := Ideal) a5 a6 a7 a16 X5 X6 X7 k) (ix4 0 0 i l) = rowCode (xr a5 X5 k i) (arow a7 X7 1) (arow a6 X6 1) (col 3 (by norm_num) l) := by
  pointwise [trip_k0_t2.sl.v1427, trip_k0_t2.sl.v1423, trip_k0_t2.sl.v1422, trip_k0_t2.sl.v1388, trip_k0_t2.sl.cst_672, trip_k0_t2.sl.v1420, trip_k0_t2.sl.v1386, trip_k0_t2.sl.cst_671, trip_k0_t2.sl.v1418]
  simp only [rc3, p3, inv_at]
  rfl

theorem rc4 : (trip_k0_t2.sl.v1428 (F := Ideal) a5 a6 a7 a16 X5 X6 X7 k) = (trip_k0_t2.sl.v844 (F := Ideal) a5 a6 a7 X5 X6 X7 k) := by
  unfold trip_k0_t2.sl.v1428 trip_k0_t2.sl.HW_arg16_24
  simp (disch := decide) only [↓ View.readCov_skip, ↓ View.readCov_cons_toLoadRect, ↓ View.readCov_fill]
theorem c4 (i : Fin 32) (l : Fin 128) : (trip_k0_t2.sl.v1438 (F := Ideal) a5 a6 a7 a16 X5 X6 X7 k) (ix4 0 0 i l) = rowCode (xr a5 X5 k i) (arow a7 X7 1) (arow a6 X6 1) (col 4 (by norm_num) l) := by
  pointwise [trip_k0_t2.sl.v1438, trip_k0_t2.sl.v1434, trip_k0_t2.sl.v1433, trip_k0_t2.sl.v1388, trip_k0_t2.sl.cst_672, trip_k0_t2.sl.v1431, trip_k0_t2.sl.v1386, trip_k0_t2.sl.cst_671, trip_k0_t2.sl.v1429]
  simp only [rc4, p4, inv_at]
  rfl

theorem rc5 : (trip_k0_t2.sl.v1439 (F := Ideal) a5 a6 a7 a16 X5 X6 X7 k) = (trip_k0_t2.sl.v867 (F := Ideal) a5 a6 a7 X5 X6 X7 k) := by
  unfold trip_k0_t2.sl.v1439 trip_k0_t2.sl.HW_arg16_24
  simp (disch := decide) only [↓ View.readCov_skip, ↓ View.readCov_cons_toLoadRect, ↓ View.readCov_fill]
theorem c5 (i : Fin 32) (l : Fin 128) : (trip_k0_t2.sl.v1449 (F := Ideal) a5 a6 a7 a16 X5 X6 X7 k) (ix4 0 0 i l) = rowCode (xr a5 X5 k i) (arow a7 X7 1) (arow a6 X6 1) (col 5 (by norm_num) l) := by
  pointwise [trip_k0_t2.sl.v1449, trip_k0_t2.sl.v1445, trip_k0_t2.sl.v1444, trip_k0_t2.sl.v1388, trip_k0_t2.sl.cst_672, trip_k0_t2.sl.v1442, trip_k0_t2.sl.v1386, trip_k0_t2.sl.cst_671, trip_k0_t2.sl.v1440]
  simp only [rc5, p5, inv_at]
  rfl

theorem rc6 : (trip_k0_t2.sl.v1450 (F := Ideal) a5 a6 a7 a16 X5 X6 X7 k) = (trip_k0_t2.sl.v890 (F := Ideal) a5 a6 a7 X5 X6 X7 k) := by
  unfold trip_k0_t2.sl.v1450 trip_k0_t2.sl.HW_arg16_24
  simp (disch := decide) only [↓ View.readCov_skip, ↓ View.readCov_cons_toLoadRect, ↓ View.readCov_fill]
theorem c6 (i : Fin 32) (l : Fin 128) : (trip_k0_t2.sl.v1460 (F := Ideal) a5 a6 a7 a16 X5 X6 X7 k) (ix4 0 0 i l) = rowCode (xr a5 X5 k i) (arow a7 X7 1) (arow a6 X6 1) (col 6 (by norm_num) l) := by
  pointwise [trip_k0_t2.sl.v1460, trip_k0_t2.sl.v1456, trip_k0_t2.sl.v1455, trip_k0_t2.sl.v1388, trip_k0_t2.sl.cst_672, trip_k0_t2.sl.v1453, trip_k0_t2.sl.v1386, trip_k0_t2.sl.cst_671, trip_k0_t2.sl.v1451]
  simp only [rc6, p6, inv_at]
  rfl

theorem rc7 : (trip_k0_t2.sl.v1461 (F := Ideal) a5 a6 a7 a16 X5 X6 X7 k) = (trip_k0_t2.sl.v913 (F := Ideal) a5 a6 a7 X5 X6 X7 k) := by
  unfold trip_k0_t2.sl.v1461 trip_k0_t2.sl.HW_arg16_24
  simp (disch := decide) only [↓ View.readCov_skip, ↓ View.readCov_cons_toLoadRect, ↓ View.readCov_fill]
theorem c7 (i : Fin 32) (l : Fin 128) : (trip_k0_t2.sl.v1471 (F := Ideal) a5 a6 a7 a16 X5 X6 X7 k) (ix4 0 0 i l) = rowCode (xr a5 X5 k i) (arow a7 X7 1) (arow a6 X6 1) (col 7 (by norm_num) l) := by
  pointwise [trip_k0_t2.sl.v1471, trip_k0_t2.sl.v1467, trip_k0_t2.sl.v1466, trip_k0_t2.sl.v1388, trip_k0_t2.sl.cst_672, trip_k0_t2.sl.v1464, trip_k0_t2.sl.v1386, trip_k0_t2.sl.cst_671, trip_k0_t2.sl.v1462]
  simp only [rc7, p7, inv_at]
  rfl

theorem rc8 : (trip_k0_t2.sl.v1472 (F := Ideal) a5 a6 a7 a16 X5 X6 X7 k) = (trip_k0_t2.sl.v936 (F := Ideal) a5 a6 a7 X5 X6 X7 k) := by
  unfold trip_k0_t2.sl.v1472 trip_k0_t2.sl.HW_arg16_24
  simp (disch := decide) only [↓ View.readCov_skip, ↓ View.readCov_cons_toLoadRect, ↓ View.readCov_fill]
theorem c8 (i : Fin 32) (l : Fin 128) : (trip_k0_t2.sl.v1482 (F := Ideal) a5 a6 a7 a16 X5 X6 X7 k) (ix4 0 0 i l) = rowCode (xr a5 X5 k i) (arow a7 X7 1) (arow a6 X6 1) (col 8 (by norm_num) l) := by
  pointwise [trip_k0_t2.sl.v1482, trip_k0_t2.sl.v1478, trip_k0_t2.sl.v1477, trip_k0_t2.sl.v1388, trip_k0_t2.sl.cst_672, trip_k0_t2.sl.v1475, trip_k0_t2.sl.v1386, trip_k0_t2.sl.cst_671, trip_k0_t2.sl.v1473]
  simp only [rc8, p8, inv_at]
  rfl

theorem rc9 : (trip_k0_t2.sl.v1483 (F := Ideal) a5 a6 a7 a16 X5 X6 X7 k) = (trip_k0_t2.sl.v959 (F := Ideal) a5 a6 a7 X5 X6 X7 k) := by
  unfold trip_k0_t2.sl.v1483 trip_k0_t2.sl.HW_arg16_24
  simp (disch := decide) only [↓ View.readCov_skip, ↓ View.readCov_cons_toLoadRect, ↓ View.readCov_fill]
theorem c9 (i : Fin 32) (l : Fin 128) : (trip_k0_t2.sl.v1493 (F := Ideal) a5 a6 a7 a16 X5 X6 X7 k) (ix4 0 0 i l) = rowCode (xr a5 X5 k i) (arow a7 X7 1) (arow a6 X6 1) (col 9 (by norm_num) l) := by
  pointwise [trip_k0_t2.sl.v1493, trip_k0_t2.sl.v1489, trip_k0_t2.sl.v1488, trip_k0_t2.sl.v1388, trip_k0_t2.sl.cst_672, trip_k0_t2.sl.v1486, trip_k0_t2.sl.v1386, trip_k0_t2.sl.cst_671, trip_k0_t2.sl.v1484]
  simp only [rc9, p9, inv_at]
  rfl

theorem rc10 : (trip_k0_t2.sl.v1494 (F := Ideal) a5 a6 a7 a16 X5 X6 X7 k) = (trip_k0_t2.sl.v982 (F := Ideal) a5 a6 a7 X5 X6 X7 k) := by
  unfold trip_k0_t2.sl.v1494 trip_k0_t2.sl.HW_arg16_24
  simp (disch := decide) only [↓ View.readCov_skip, ↓ View.readCov_cons_toLoadRect, ↓ View.readCov_fill]
theorem c10 (i : Fin 32) (l : Fin 128) : (trip_k0_t2.sl.v1504 (F := Ideal) a5 a6 a7 a16 X5 X6 X7 k) (ix4 0 0 i l) = rowCode (xr a5 X5 k i) (arow a7 X7 1) (arow a6 X6 1) (col 10 (by norm_num) l) := by
  pointwise [trip_k0_t2.sl.v1504, trip_k0_t2.sl.v1500, trip_k0_t2.sl.v1499, trip_k0_t2.sl.v1388, trip_k0_t2.sl.cst_672, trip_k0_t2.sl.v1497, trip_k0_t2.sl.v1386, trip_k0_t2.sl.cst_671, trip_k0_t2.sl.v1495]
  simp only [rc10, p10, inv_at]
  rfl

theorem rc11 : (trip_k0_t2.sl.v1505 (F := Ideal) a5 a6 a7 a16 X5 X6 X7 k) = (trip_k0_t2.sl.v1005 (F := Ideal) a5 a6 a7 X5 X6 X7 k) := by
  unfold trip_k0_t2.sl.v1505 trip_k0_t2.sl.HW_arg16_24
  simp (disch := decide) only [↓ View.readCov_skip, ↓ View.readCov_cons_toLoadRect, ↓ View.readCov_fill]
theorem c11 (i : Fin 32) (l : Fin 128) : (trip_k0_t2.sl.v1515 (F := Ideal) a5 a6 a7 a16 X5 X6 X7 k) (ix4 0 0 i l) = rowCode (xr a5 X5 k i) (arow a7 X7 1) (arow a6 X6 1) (col 11 (by norm_num) l) := by
  pointwise [trip_k0_t2.sl.v1515, trip_k0_t2.sl.v1511, trip_k0_t2.sl.v1510, trip_k0_t2.sl.v1388, trip_k0_t2.sl.cst_672, trip_k0_t2.sl.v1508, trip_k0_t2.sl.v1386, trip_k0_t2.sl.cst_671, trip_k0_t2.sl.v1506]
  simp only [rc11, p11, inv_at]
  rfl

theorem rc12 : (trip_k0_t2.sl.v1516 (F := Ideal) a5 a6 a7 a16 X5 X6 X7 k) = (trip_k0_t2.sl.v1028 (F := Ideal) a5 a6 a7 X5 X6 X7 k) := by
  unfold trip_k0_t2.sl.v1516 trip_k0_t2.sl.HW_arg16_24
  simp (disch := decide) only [↓ View.readCov_skip, ↓ View.readCov_cons_toLoadRect, ↓ View.readCov_fill]
theorem c12 (i : Fin 32) (l : Fin 128) : (trip_k0_t2.sl.v1526 (F := Ideal) a5 a6 a7 a16 X5 X6 X7 k) (ix4 0 0 i l) = rowCode (xr a5 X5 k i) (arow a7 X7 1) (arow a6 X6 1) (col 12 (by norm_num) l) := by
  pointwise [trip_k0_t2.sl.v1526, trip_k0_t2.sl.v1522, trip_k0_t2.sl.v1521, trip_k0_t2.sl.v1388, trip_k0_t2.sl.cst_672, trip_k0_t2.sl.v1519, trip_k0_t2.sl.v1386, trip_k0_t2.sl.cst_671, trip_k0_t2.sl.v1517]
  simp only [rc12, p12, inv_at]
  rfl

theorem rc13 : (trip_k0_t2.sl.v1527 (F := Ideal) a5 a6 a7 a16 X5 X6 X7 k) = (trip_k0_t2.sl.v1051 (F := Ideal) a5 a6 a7 X5 X6 X7 k) := by
  unfold trip_k0_t2.sl.v1527 trip_k0_t2.sl.HW_arg16_24
  simp (disch := decide) only [↓ View.readCov_skip, ↓ View.readCov_cons_toLoadRect, ↓ View.readCov_fill]
theorem c13 (i : Fin 32) (l : Fin 128) : (trip_k0_t2.sl.v1537 (F := Ideal) a5 a6 a7 a16 X5 X6 X7 k) (ix4 0 0 i l) = rowCode (xr a5 X5 k i) (arow a7 X7 1) (arow a6 X6 1) (col 13 (by norm_num) l) := by
  pointwise [trip_k0_t2.sl.v1537, trip_k0_t2.sl.v1533, trip_k0_t2.sl.v1532, trip_k0_t2.sl.v1388, trip_k0_t2.sl.cst_672, trip_k0_t2.sl.v1530, trip_k0_t2.sl.v1386, trip_k0_t2.sl.cst_671, trip_k0_t2.sl.v1528]
  simp only [rc13, p13, inv_at]
  rfl

theorem rc14 : (trip_k0_t2.sl.v1538 (F := Ideal) a5 a6 a7 a16 X5 X6 X7 k) = (trip_k0_t2.sl.v1074 (F := Ideal) a5 a6 a7 X5 X6 X7 k) := by
  unfold trip_k0_t2.sl.v1538 trip_k0_t2.sl.HW_arg16_24
  simp (disch := decide) only [↓ View.readCov_skip, ↓ View.readCov_cons_toLoadRect, ↓ View.readCov_fill]
theorem c14 (i : Fin 32) (l : Fin 128) : (trip_k0_t2.sl.v1548 (F := Ideal) a5 a6 a7 a16 X5 X6 X7 k) (ix4 0 0 i l) = rowCode (xr a5 X5 k i) (arow a7 X7 1) (arow a6 X6 1) (col 14 (by norm_num) l) := by
  pointwise [trip_k0_t2.sl.v1548, trip_k0_t2.sl.v1544, trip_k0_t2.sl.v1543, trip_k0_t2.sl.v1388, trip_k0_t2.sl.cst_672, trip_k0_t2.sl.v1541, trip_k0_t2.sl.v1386, trip_k0_t2.sl.cst_671, trip_k0_t2.sl.v1539]
  simp only [rc14, p14, inv_at]
  rfl

theorem rc15 : (trip_k0_t2.sl.v1549 (F := Ideal) a5 a6 a7 a16 X5 X6 X7 k) = (trip_k0_t2.sl.v1097 (F := Ideal) a5 a6 a7 X5 X6 X7 k) := by
  unfold trip_k0_t2.sl.v1549 trip_k0_t2.sl.HW_arg16_24
  simp (disch := decide) only [↓ View.readCov_skip, ↓ View.readCov_cons_toLoadRect, ↓ View.readCov_fill]
theorem c15 (i : Fin 32) (l : Fin 128) : (trip_k0_t2.sl.v1559 (F := Ideal) a5 a6 a7 a16 X5 X6 X7 k) (ix4 0 0 i l) = rowCode (xr a5 X5 k i) (arow a7 X7 1) (arow a6 X6 1) (col 15 (by norm_num) l) := by
  pointwise [trip_k0_t2.sl.v1559, trip_k0_t2.sl.v1555, trip_k0_t2.sl.v1554, trip_k0_t2.sl.v1388, trip_k0_t2.sl.cst_672, trip_k0_t2.sl.v1552, trip_k0_t2.sl.v1386, trip_k0_t2.sl.cst_671, trip_k0_t2.sl.v1550]
  simp only [rc15, p15, inv_at]
  rfl

theorem rc16 : (trip_k0_t2.sl.v1560 (F := Ideal) a5 a6 a7 a16 X5 X6 X7 k) = (trip_k0_t2.sl.v1120 (F := Ideal) a5 a6 a7 X5 X6 X7 k) := by
  unfold trip_k0_t2.sl.v1560 trip_k0_t2.sl.HW_arg16_24
  simp (disch := decide) only [↓ View.readCov_skip, ↓ View.readCov_cons_toLoadRect, ↓ View.readCov_fill]
theorem c16 (i : Fin 32) (l : Fin 128) : (trip_k0_t2.sl.v1570 (F := Ideal) a5 a6 a7 a16 X5 X6 X7 k) (ix4 0 0 i l) = rowCode (xr a5 X5 k i) (arow a7 X7 1) (arow a6 X6 1) (col 16 (by norm_num) l) := by
  pointwise [trip_k0_t2.sl.v1570, trip_k0_t2.sl.v1566, trip_k0_t2.sl.v1565, trip_k0_t2.sl.v1388, trip_k0_t2.sl.cst_672, trip_k0_t2.sl.v1563, trip_k0_t2.sl.v1386, trip_k0_t2.sl.cst_671, trip_k0_t2.sl.v1561]
  simp only [rc16, p16, inv_at]
  rfl

theorem rc17 : (trip_k0_t2.sl.v (F := Ideal) a5 a6 a7 a16 X5 X6 X7 k) = (trip_k0_t2.sl.v1143 (F := Ideal) a5 a6 a7 X5 X6 X7 k) := by
  unfold trip_k0_t2.sl.v trip_k0_t2.sl.HW_arg16_24
  simp (disch := decide) only [↓ View.readCov_skip, ↓ View.readCov_cons_toLoadRect, ↓ View.readCov_fill]
theorem c17 (i : Fin 32) (l : Fin 128) : (trip_k0_t2.sl.v1581 (F := Ideal) a5 a6 a7 a16 X5 X6 X7 k) (ix4 0 0 i l) = rowCode (xr a5 X5 k i) (arow a7 X7 1) (arow a6 X6 1) (col 17 (by norm_num) l) := by
  pointwise [trip_k0_t2.sl.v1581, trip_k0_t2.sl.v1577, trip_k0_t2.sl.v1576, trip_k0_t2.sl.v1388, trip_k0_t2.sl.cst_672, trip_k0_t2.sl.v1574, trip_k0_t2.sl.v1386, trip_k0_t2.sl.cst_671, trip_k0_t2.sl.v1572]
  simp only [rc17, p17, inv_at]
  rfl

theorem rc18 : (trip_k0_t2.sl.v1582 (F := Ideal) a5 a6 a7 a16 X5 X6 X7 k) = (trip_k0_t2.sl.v1166 (F := Ideal) a5 a6 a7 X5 X6 X7 k) := by
  unfold trip_k0_t2.sl.v1582 trip_k0_t2.sl.HW_arg16_24
  simp (disch := decide) only [↓ View.readCov_skip, ↓ View.readCov_cons_toLoadRect, ↓ View.readCov_fill]
theorem c18 (i : Fin 32) (l : Fin 128) : (trip_k0_t2.sl.v1592 (F := Ideal) a5 a6 a7 a16 X5 X6 X7 k) (ix4 0 0 i l) = rowCode (xr a5 X5 k i) (arow a7 X7 1) (arow a6 X6 1) (col 18 (by norm_num) l) := by
  pointwise [trip_k0_t2.sl.v1592, trip_k0_t2.sl.v1588, trip_k0_t2.sl.v1587, trip_k0_t2.sl.v1388, trip_k0_t2.sl.cst_672, trip_k0_t2.sl.v1585, trip_k0_t2.sl.v1386, trip_k0_t2.sl.cst_671, trip_k0_t2.sl.v1583]
  simp only [rc18, p18, inv_at]
  rfl

theorem rc19 : (trip_k0_t2.sl.v1593 (F := Ideal) a5 a6 a7 a16 X5 X6 X7 k) = (trip_k0_t2.sl.v1189 (F := Ideal) a5 a6 a7 X5 X6 X7 k) := by
  unfold trip_k0_t2.sl.v1593 trip_k0_t2.sl.HW_arg16_24
  simp (disch := decide) only [↓ View.readCov_skip, ↓ View.readCov_cons_toLoadRect, ↓ View.readCov_fill]
theorem c19 (i : Fin 32) (l : Fin 128) : (trip_k0_t2.sl.v1603 (F := Ideal) a5 a6 a7 a16 X5 X6 X7 k) (ix4 0 0 i l) = rowCode (xr a5 X5 k i) (arow a7 X7 1) (arow a6 X6 1) (col 19 (by norm_num) l) := by
  pointwise [trip_k0_t2.sl.v1603, trip_k0_t2.sl.v1599, trip_k0_t2.sl.v1598, trip_k0_t2.sl.v1388, trip_k0_t2.sl.cst_672, trip_k0_t2.sl.v1596, trip_k0_t2.sl.v1386, trip_k0_t2.sl.cst_671, trip_k0_t2.sl.v1594]
  simp only [rc19, p19, inv_at]
  rfl

theorem rc20 : (trip_k0_t2.sl.v1604 (F := Ideal) a5 a6 a7 a16 X5 X6 X7 k) = (trip_k0_t2.sl.v1212 (F := Ideal) a5 a6 a7 X5 X6 X7 k) := by
  unfold trip_k0_t2.sl.v1604 trip_k0_t2.sl.HW_arg16_24
  simp (disch := decide) only [↓ View.readCov_skip, ↓ View.readCov_cons_toLoadRect, ↓ View.readCov_fill]
theorem c20 (i : Fin 32) (l : Fin 128) : (trip_k0_t2.sl.v1614 (F := Ideal) a5 a6 a7 a16 X5 X6 X7 k) (ix4 0 0 i l) = rowCode (xr a5 X5 k i) (arow a7 X7 1) (arow a6 X6 1) (col 20 (by norm_num) l) := by
  pointwise [trip_k0_t2.sl.v1614, trip_k0_t2.sl.v1610, trip_k0_t2.sl.v1609, trip_k0_t2.sl.v1388, trip_k0_t2.sl.cst_672, trip_k0_t2.sl.v1607, trip_k0_t2.sl.v1386, trip_k0_t2.sl.cst_671, trip_k0_t2.sl.v1605]
  simp only [rc20, p20, inv_at]
  rfl

theorem rc21 : (trip_k0_t2.sl.v1615 (F := Ideal) a5 a6 a7 a16 X5 X6 X7 k) = (trip_k0_t2.sl.v1235 (F := Ideal) a5 a6 a7 X5 X6 X7 k) := by
  unfold trip_k0_t2.sl.v1615 trip_k0_t2.sl.HW_arg16_24
  simp (disch := decide) only [↓ View.readCov_skip, ↓ View.readCov_cons_toLoadRect, ↓ View.readCov_fill]
theorem c21 (i : Fin 32) (l : Fin 128) : (trip_k0_t2.sl.v1625 (F := Ideal) a5 a6 a7 a16 X5 X6 X7 k) (ix4 0 0 i l) = rowCode (xr a5 X5 k i) (arow a7 X7 1) (arow a6 X6 1) (col 21 (by norm_num) l) := by
  pointwise [trip_k0_t2.sl.v1625, trip_k0_t2.sl.v1621, trip_k0_t2.sl.v1620, trip_k0_t2.sl.v1388, trip_k0_t2.sl.cst_672, trip_k0_t2.sl.v1618, trip_k0_t2.sl.v1386, trip_k0_t2.sl.cst_671, trip_k0_t2.sl.v1616]
  simp only [rc21, p21, inv_at]
  rfl

theorem rc22 : (trip_k0_t2.sl.v1626 (F := Ideal) a5 a6 a7 a16 X5 X6 X7 k) = (trip_k0_t2.sl.v1258 (F := Ideal) a5 a6 a7 X5 X6 X7 k) := by
  unfold trip_k0_t2.sl.v1626 trip_k0_t2.sl.HW_arg16_24
  simp (disch := decide) only [↓ View.readCov_skip, ↓ View.readCov_cons_toLoadRect, ↓ View.readCov_fill]
theorem c22 (i : Fin 32) (l : Fin 128) : (trip_k0_t2.sl.v1636 (F := Ideal) a5 a6 a7 a16 X5 X6 X7 k) (ix4 0 0 i l) = rowCode (xr a5 X5 k i) (arow a7 X7 1) (arow a6 X6 1) (col 22 (by norm_num) l) := by
  pointwise [trip_k0_t2.sl.v1636, trip_k0_t2.sl.v1632, trip_k0_t2.sl.v1631, trip_k0_t2.sl.v1388, trip_k0_t2.sl.cst_672, trip_k0_t2.sl.v1629, trip_k0_t2.sl.v1386, trip_k0_t2.sl.cst_671, trip_k0_t2.sl.v1627]
  simp only [rc22, p22, inv_at]
  rfl

theorem rc23 : (trip_k0_t2.sl.v1637 (F := Ideal) a5 a6 a7 a16 X5 X6 X7 k) = (trip_k0_t2.sl.v1281 (F := Ideal) a5 a6 a7 X5 X6 X7 k) := by
  unfold trip_k0_t2.sl.v1637 trip_k0_t2.sl.HW_arg16_24
  simp (disch := decide) only [↓ View.readCov_skip, ↓ View.readCov_cons_toLoadRect, ↓ View.readCov_fill]
theorem c23 (i : Fin 32) (l : Fin 128) : (k0_pay257 (F := Ideal) (trip_k0_t2.sl.v1640 (F := Ideal) a5 a6 a7 a16 X5 X6 X7 k) (trip_k0_t2.sl.v1388 (F := Ideal))) (ix4 0 0 i l) = rowCode (xr a5 X5 k i) (arow a7 X7 1) (arow a6 X6 1) (col 23 (by norm_num) l) := by
  pointwise [k0_pay257, trip_k0_t2.sl.v1640, trip_k0_t2.sl.v1386, trip_k0_t2.sl.cst_671, trip_k0_t2.sl.v1638, trip_k0_t2.sl.v1388, trip_k0_t2.sl.cst_672]
  simp only [rc23, p23, inv_at]
  rfl

end t2

end Cert.KernelIdeal

end
-- ==== Proof.LoopValue.lean ====
/- What the two loops leave: after all their trips every entry of the block of codes is `G14`, and every entry of the
   scratch of scales is `G17`. -/
module

public import proofs.«01_k».proof.Proof.Trip1
public import proofs.«01_k».proof.Proof.Trip2

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (𝒱 : Variants) (c : Dev nD) (bd : Option 𝒱.V) (i : grid0.Coords)
  (a2 : Memref sig .tc .smem S3 .f32) (ha2 : a2.IsWhole) (a3 : Memref sig .tc .smem S3 .f32) (ha3 : a3.IsWhole) (a4 : Memref sig .tc .smem S3 .f32) (ha4 : a4.IsWhole) (a5 : Memref sig .tc .vmem S1x2x256x3072 .bf16) (ha5 : a5.IsWhole) (a6 : Memref sig .tc .vmem S1x2x3072 .f32) (ha6 : a6.IsWhole) (a7 : Memref sig .tc .vmem S1x2x3072 .f32) (ha7 : a7.IsWhole) (a8 : Memref sig .tc .vmem S64x3072 .fp8e4m3) (ha8 : a8.IsWhole) (a9 : Memref sig .tc .vmem S64x1 .f32) (ha9 : a9.IsWhole) (a10 : Memref sig .tc .vmem S64x1 .f32) (ha10 : a10.IsWhole) (a11 : Memref sig .tc .vmem S1x4x16x256 .f32) (ha11 : a11.IsWhole) (a12 : Memref sig .tc .vmem S1x4x16x256 .f32) (ha12 : a12.IsWhole) (a13 : Memref sig .tc .vmem S1x4x16x256 .bf16) (ha13 : a13.IsWhole) (a14 : Memref sig .tc .vmem S1x2x256x3072 .fp8e4m3) (ha14 : a14.IsWhole) (a15 : Memref sig .tc .vmem S1x2x256 .f32) (ha15 : a15.IsWhole) (a16 : Memref sig .tc .vmem S32x3072 .f32) (ha16 : a16.IsWhole) (a17 : Memref sig .tc .vmem S2x256x128 .f32) (ha17 : a17.IsWhole)
  (X5 : BufTy.Contents (Elt Ideal) a5.view.ty) (X6 : BufTy.Contents (Elt Ideal) a6.view.ty)
  (X7 : BufTy.Contents (Elt Ideal) a7.view.ty)
  (f14 : BufTy.Contents (Elt Ideal) a14.view.ty) (f16 : BufTy.Contents (Elt Ideal) a16.view.ty)
  (f17 : BufTy.Contents (Elt Ideal) a17.view.ty)

namespace t1

section trip
variable (k : Fin k0_t1_loop.trips)

/-- The pieces one trip writes into the codes are pieces of `G14`. -/
theorem agree14 : ∀ q ∈ (trip_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).1 f14 f16 f17, ∀ x, q.2 x = G14 a5 a6 a7 X5 X6 X7 (q.1.emb x) := by
  have hk := lt8 k
  unfold trip_k0_t1
  dsimp only
  refine List.forall_mem_cons.2 ⟨tile_agree (k0_off24_inb k) 0 (32 * k.val) 23 (by norm_num) (by omega) (by norm_num) (k0_off24_eq k) (G14 a5 a6 a7 X5 X6 X7) _ (c23 a5 a6 a7 a16 X5 X6 X7 k), ?_⟩
  refine List.forall_mem_cons.2 ⟨tile_agree (k0_off23_inb k) 0 (32 * k.val) 22 (by norm_num) (by omega) (by norm_num) (k0_off23_eq k) (G14 a5 a6 a7 X5 X6 X7) _ (c22 a5 a6 a7 a16 X5 X6 X7 k), ?_⟩
  refine List.forall_mem_cons.2 ⟨tile_agree (k0_off22_inb k) 0 (32 * k.val) 21 (by norm_num) (by omega) (by norm_num) (k0_off22_eq k) (G14 a5 a6 a7 X5 X6 X7) _ (c21 a5 a6 a7 a16 X5 X6 X7 k), ?_⟩
  refine List.forall_mem_cons.2 ⟨tile_agree (k0_off21_inb k) 0 (32 * k.val) 20 (by norm_num) (by omega) (by norm_num) (k0_off21_eq k) (G14 a5 a6 a7 X5 X6 X7) _ (c20 a5 a6 a7 a16 X5 X6 X7 k), ?_⟩
  refine List.forall_mem_cons.2 ⟨tile_agree (k0_off20_inb k) 0 (32 * k.val) 19 (by norm_num) (by omega) (by norm_num) (k0_off20_eq k) (G14 a5 a6 a7 X5 X6 X7) _ (c19 a5 a6 a7 a16 X5 X6 X7 k), ?_⟩
  refine List.forall_mem_cons.2 ⟨tile_agree (k0_off19_inb k) 0 (32 * k.val) 18 (by norm_num) (by omega) (by norm_num) (k0_off19_eq k) (G14 a5 a6 a7 X5 X6 X7) _ (c18 a5 a6 a7 a16 X5 X6 X7 k), ?_⟩
  refine List.forall_mem_cons.2 ⟨tile_agree (k0_off18_inb k) 0 (32 * k.val) 17 (by norm_num) (by omega) (by norm_num) (k0_off18_eq k) (G14 a5 a6 a7 X5 X6 X7) _ (c17 a5 a6 a7 a16 X5 X6 X7 k), ?_⟩
  refine List.forall_mem_cons.2 ⟨tile_agree (k0_off17_inb k) 0 (32 * k.val) 16 (by norm_num) (by omega) (by norm_num) (k0_off17_eq k) (G14 a5 a6 a7 X5 X6 X7) _ (c16 a5 a6 a7 a16 X5 X6 X7 k), ?_⟩
  refine List.forall_mem_cons.2 ⟨tile_agree (k0_off16_inb k) 0 (32 * k.val) 15 (by norm_num) (by omega) (by norm_num) (k0_off16_eq k) (G14 a5 a6 a7 X5 X6 X7) _ (c15 a5 a6 a7 a16 X5 X6 X7 k), ?_⟩
  refine List.forall_mem_cons.2 ⟨tile_agree (k0_off15_inb k) 0 (32 * k.val) 14 (by norm_num) (by omega) (by norm_num) (k0_off15_eq k) (G14 a5 a6 a7 X5 X6 X7) _ (c14 a5 a6 a7 a16 X5 X6 X7 k), ?_⟩
  refine List.forall_mem_cons.2 ⟨tile_agree (k0_off14_inb k) 0 (32 * k.val) 13 (by norm_num) (by omega) (by norm_num) (k0_off14_eq k) (G14 a5 a6 a7 X5 X6 X7) _ (c13 a5 a6 a7 a16 X5 X6 X7 k), ?_⟩
  refine List.forall_mem_cons.2 ⟨tile_agree (k0_off13_inb k) 0 (32 * k.val) 12 (by norm_num) (by omega) (by norm_num) (k0_off13_eq k) (G14 a5 a6 a7 X5 X6 X7) _ (c12 a5 a6 a7 a16 X5 X6 X7 k), ?_⟩
  refine List.forall_mem_cons.2 ⟨tile_agree (k0_off12_inb k) 0 (32 * k.val) 11 (by norm_num) (by omega) (by norm_num) (k0_off12_eq k) (G14 a5 a6 a7 X5 X6 X7) _ (c11 a5 a6 a7 a16 X5 X6 X7 k), ?_⟩
  refine List.forall_mem_cons.2 ⟨tile_agree (k0_off11_inb k) 0 (32 * k.val) 10 (by norm_num) (by omega) (by norm_num) (k0_off11_eq k) (G14 a5 a6 a7 X5 X6 X7) _ (c10 a5 a6 a7 a16 X5 X6 X7 k), ?_⟩
  refine List.forall_mem_cons.2 ⟨tile_agree (k0_off10_inb k) 0 (32 * k.val) 9 (by norm_num) (by omega) (by norm_num) (k0_off10_eq k) (G14 a5 a6 a7 X5 X6 X7) _ (c9 a5 a6 a7 a16 X5 X6 X7 k), ?_⟩
  refine List.forall_mem_cons.2 ⟨tile_agree (k0_off9_inb k) 0 (32 * k.val) 8 (by norm_num) (by omega) (by norm_num) (k0_off9_eq k) (G14 a5 a6 a7 X5 X6 X7) _ (c8 a5 a6 a7 a16 X5 X6 X7 k), ?_⟩
  refine List.forall_mem_cons.2 ⟨tile_agree (k0_off8_inb k) 0 (32 * k.val) 7 (by norm_num) (by omega) (by norm_num) (k0_off8_eq k) (G14 a5 a6 a7 X5 X6 X7) _ (c7 a5 a6 a7 a16 X5 X6 X7 k), ?_⟩
  refine List.forall_mem_cons.2 ⟨tile_agree (k0_off7_inb k) 0 (32 * k.val) 6 (by norm_num) (by omega) (by norm_num) (k0_off7_eq k) (G14 a5 a6 a7 X5 X6 X7) _ (c6 a5 a6 a7 a16 X5 X6 X7 k), ?_⟩
  refine List.forall_mem_cons.2 ⟨tile_agree (k0_off6_inb k) 0 (32 * k.val) 5 (by norm_num) (by omega) (by norm_num) (k0_off6_eq k) (G14 a5 a6 a7 X5 X6 X7) _ (c5 a5 a6 a7 a16 X5 X6 X7 k), ?_⟩
  refine List.forall_mem_cons.2 ⟨tile_agree (k0_off5_inb k) 0 (32 * k.val) 4 (by norm_num) (by omega) (by norm_num) (k0_off5_eq k) (G14 a5 a6 a7 X5 X6 X7) _ (c4 a5 a6 a7 a16 X5 X6 X7 k), ?_⟩
  refine List.forall_mem_cons.2 ⟨tile_agree (k0_off4_inb k) 0 (32 * k.val) 3 (by norm_num) (by omega) (by norm_num) (k0_off4_eq k) (G14 a5 a6 a7 X5 X6 X7) _ (c3 a5 a6 a7 a16 X5 X6 X7 k), ?_⟩
  refine List.forall_mem_cons.2 ⟨tile_agree (k0_off3_inb k) 0 (32 * k.val) 2 (by norm_num) (by omega) (by norm_num) (k0_off3_eq k) (G14 a5 a6 a7 X5 X6 X7) _ (c2 a5 a6 a7 a16 X5 X6 X7 k), ?_⟩
  refine List.forall_mem_cons.2 ⟨tile_agree (k0_off2_inb k) 0 (32 * k.val) 1 (by norm_num) (by omega) (by norm_num) (k0_off2_eq k) (G14 a5 a6 a7 X5 X6 X7) _ (c1 a5 a6 a7 a16 X5 X6 X7 k), ?_⟩
  refine List.forall_mem_cons.2 ⟨tile_agree (k0_off1_inb k) 0 (32 * k.val) 0 (by norm_num) (by omega) (by norm_num) (k0_off1_eq k) (G14 a5 a6 a7 X5 X6 X7) _ (c0 a5 a6 a7 a16 X5 X6 X7 k), ?_⟩
  exact fun q hq => absurd hq List.not_mem_nil

/-- The piece one trip writes into the scales is a piece of `G17`. -/
theorem agree17 : ∀ q ∈ (trip_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).2.2.1 f14 f16 f17, ∀ x, q.2 x = G17 a5 a6 a7 X5 X6 X7 (q.1.emb x) := by
  have hk := lt8 k
  unfold trip_k0_t1
  dsimp only
  refine List.forall_mem_cons.2 ⟨rows_agree (k0_off25_inb k) 0 (32 * k.val) (by norm_num) (by omega) (k0_off25_eq k) (G17 a5 a6 a7 X5 X6 X7) _ (scale_at a5 a6 a7 X5 X6 X7 k), ?_⟩
  exact fun q hq => absurd hq List.not_mem_nil

/-- One trip writes all columns of its rows. -/
theorem cover14 (r : Fin 32) (d : Fin 3072) : ∃ q ∈ (trip_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).1 f14 f16 f17,
    (ix4 0 0 (row k r) d : S1x2x256x3072.Idx) ∈ q.1.set := by
  have hk := lt8 k
  unfold trip_k0_t1
  dsimp only
  obtain ⟨j, hj, l, rfl⟩ : ∃ j, ∃ hj : j < 24, ∃ l, d = col j hj l :=
    ⟨d.val / 128, by omega, ⟨d.val % 128, Nat.mod_lt _ (by norm_num)⟩, Fin.ext (by simp only; omega)⟩
  interval_cases j
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), tile_mem (k0_off1_inb k) 0 (32 * k.val) 0 (by norm_num) (by omega) (by norm_num) (k0_off1_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), tile_mem (k0_off2_inb k) 0 (32 * k.val) 1 (by norm_num) (by omega) (by norm_num) (k0_off2_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), tile_mem (k0_off3_inb k) 0 (32 * k.val) 2 (by norm_num) (by omega) (by norm_num) (k0_off3_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), tile_mem (k0_off4_inb k) 0 (32 * k.val) 3 (by norm_num) (by omega) (by norm_num) (k0_off4_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), tile_mem (k0_off5_inb k) 0 (32 * k.val) 4 (by norm_num) (by omega) (by norm_num) (k0_off5_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), tile_mem (k0_off6_inb k) 0 (32 * k.val) 5 (by norm_num) (by omega) (by norm_num) (k0_off6_eq k) r l⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), tile_mem (k0_off7_inb k) 0 (32 * k.val) 6 (by norm_num) (by omega) (by norm_num) (k0_off7_eq k) r l⟩
  · exact ⟨_, .tail _ (.tail _ (.tail _ (.tail _ (.tail _ (.tail _ (.tail _ (.tail _ (.tail _ (.tail _ (.tail _ (.tail _ (.tail _ (.tail _ (.tail _ (.tail _ (.head _)))))))))))))))), tile_mem (k0_off8_inb k) 0 (32 * k.val) 7 (by norm_num) (by omega) (by norm_num) (k0_off8_eq k) r l⟩
  · exact ⟨_, .tail _ (.tail _ (.tail _ (.tail _ (.tail _ (.tail _ (.tail _ (.tail _ (.tail _ (.tail _ (.tail _ (.tail _ (.tail _ (.tail _ (.tail _ (.head _))))))))))))))), tile_mem (k0_off9_inb k) 0 (32 * k.val) 8 (by norm_num) (by omega) (by norm_num) (k0_off9_eq k) r l⟩
  · exact ⟨_, .tail _ (.tail _ (.tail _ (.tail _ (.tail _ (.tail _ (.tail _ (.tail _ (.tail _ (.tail _ (.tail _ (.tail _ (.tail _ (.tail _ (.head _)))))))))))))), tile_mem (k0_off10_inb k) 0 (32 * k.val) 9 (by norm_num) (by omega) (by norm_num) (k0_off10_eq k) r l⟩
  · exact ⟨_, .tail _ (.tail _ (.tail _ (.tail _ (.tail _ (.tail _ (.tail _ (.tail _ (.tail _ (.tail _ (.tail _ (.tail _ (.tail _ (.head _))))))))))))), tile_mem (k0_off11_inb k) 0 (32 * k.val) 10 (by norm_num) (by omega) (by norm_num) (k0_off11_eq k) r l⟩
  · exact ⟨_, .tail _ (.tail _ (.tail _ (.tail _ (.tail _ (.tail _ (.tail _ (.tail _ (.tail _ (.tail _ (.tail _ (.tail _ (.head _)))))))))))), tile_mem (k0_off12_inb k) 0 (32 * k.val) 11 (by norm_num) (by omega) (by norm_num) (k0_off12_eq k) r l⟩
  · exact ⟨_, .tail _ (.tail _ (.tail _ (.tail _ (.tail _ (.tail _ (.tail _ (.tail _ (.tail _ (.tail _ (.tail _ (.head _))))))))))), tile_mem (k0_off13_inb k) 0 (32 * k.val) 12 (by norm_num) (by omega) (by norm_num) (k0_off13_eq k) r l⟩
  · exact ⟨_, .tail _ (.tail _ (.tail _ (.tail _ (.tail _ (.tail _ (.tail _ (.tail _ (.tail _ (.tail _ (.head _)))))))))), tile_mem (k0_off14_inb k) 0 (32 * k.val) 13 (by norm_num) (by omega) (by norm_num) (k0_off14_eq k) r l⟩
  · exact ⟨_, .tail _ (.tail _ (.tail _ (.tail _ (.tail _ (.tail _ (.tail _ (.tail _ (.tail _ (.head _))))))))), tile_mem (k0_off15_inb k) 0 (32 * k.val) 14 (by norm_num) (by omega) (by norm_num) (k0_off15_eq k) r l⟩
  · exact ⟨_, .tail _ (.tail _ (.tail _ (.tail _ (.tail _ (.tail _ (.tail _ (.tail _ (.head _)))))))), tile_mem (k0_off16_inb k) 0 (32 * k.val) 15 (by norm_num) (by omega) (by norm_num) (k0_off16_eq k) r l⟩
  · exact ⟨_, .tail _ (.tail _ (.tail _ (.tail _ (.tail _ (.tail _ (.tail _ (.head _))))))), tile_mem (k0_off17_inb k) 0 (32 * k.val) 16 (by norm_num) (by omega) (by norm_num) (k0_off17_eq k) r l⟩
  · exact ⟨_, .tail _ (.tail _ (.tail _ (.tail _ (.tail _ (.tail _ (.head _)))))), tile_mem (k0_off18_inb k) 0 (32 * k.val) 17 (by norm_num) (by omega) (by norm_num) (k0_off18_eq k) r l⟩
  · exact ⟨_, .tail _ (.tail _ (.tail _ (.tail _ (.tail _ (.head _))))), tile_mem (k0_off19_inb k) 0 (32 * k.val) 18 (by norm_num) (by omega) (by norm_num) (k0_off19_eq k) r l⟩
  · exact ⟨_, .tail _ (.tail _ (.tail _ (.tail _ (.head _)))), tile_mem (k0_off20_inb k) 0 (32 * k.val) 19 (by norm_num) (by omega) (by norm_num) (k0_off20_eq k) r l⟩
  · exact ⟨_, .tail _ (.tail _ (.tail _ (.head _))), tile_mem (k0_off21_inb k) 0 (32 * k.val) 20 (by norm_num) (by omega) (by norm_num) (k0_off21_eq k) r l⟩
  · exact ⟨_, .tail _ (.tail _ (.head _)), tile_mem (k0_off22_inb k) 0 (32 * k.val) 21 (by norm_num) (by omega) (by norm_num) (k0_off22_eq k) r l⟩
  · exact ⟨_, .tail _ (.head _), tile_mem (k0_off23_inb k) 0 (32 * k.val) 22 (by norm_num) (by omega) (by norm_num) (k0_off23_eq k) r l⟩
  · exact ⟨_, .head _, tile_mem (k0_off24_inb k) 0 (32 * k.val) 23 (by norm_num) (by omega) (by norm_num) (k0_off24_eq k) r l⟩

theorem cover17 (r : Fin 32) (l : Fin 128) : ∃ q ∈ (trip_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).2.2.1 f14 f16 f17,
    (ix3 0 (row k r) l : S2x256x128.Idx) ∈ q.1.set := by
  have hk := lt8 k
  unfold trip_k0_t1
  dsimp only
  exact ⟨_, .head _, rows_mem (k0_off25_inb k) 0 (32 * k.val) (by norm_num) (by omega) (k0_off25_eq k) r l⟩

end trip

set_option maxHeartbeats 2000000 in
/-- The pieces of the trips before `n`: pieces of `G14` and of `G17`, and they write all the rows of those trips. -/
theorem pieces : ∀ n ≤ k0_t1_loop.trips,
    (∀ q ∈ (pb_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).1, ∀ x, q.2 x = G14 a5 a6 a7 X5 X6 X7 (q.1.emb x))
    ∧ (∀ q ∈ (pb_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).2.2, ∀ x, q.2 x = G17 a5 a6 a7 X5 X6 X7 (q.1.emb x))
    ∧ (∀ k : Fin k0_t1_loop.trips, k.val < n → ∀ r d, ∃ q ∈ (pb_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).1, (ix4 0 0 (row k r) d : S1x2x256x3072.Idx) ∈ q.1.set)
    ∧ (∀ k : Fin k0_t1_loop.trips, k.val < n → ∀ r l, ∃ q ∈ (pb_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).2.2, (ix3 0 (row k r) l : S2x256x128.Idx) ∈ q.1.set) := by
  intro n
  induction n with
  | zero =>
    intro _
    rw [pb_k0_t1.eq_1]
    exact ⟨fun q hq => absurd hq List.not_mem_nil, fun q hq => absurd hq List.not_mem_nil, fun k hk => absurd hk (Nat.not_lt_zero _), fun k hk => absurd hk (Nat.not_lt_zero _)⟩
  | succ n ih =>
    intro hn
    obtain ⟨h1, h2, h3, h4⟩ := ih (by omega)
    have e := pb_k0_t1_succ (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 ⟨n, hn⟩
    dsimp only at e
    rw [e]
    refine ⟨fun q hq => ?_, fun q hq => ?_, fun k hk r d => ?_, fun k hk r l => ?_⟩
    · rcases List.mem_append.1 hq with h | h
      · exact agree14 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ q h
      · exact h1 q h
    · rcases List.mem_append.1 hq with h | h
      · exact agree17 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ q h
      · exact h2 q h
    · by_cases hkn : k.val < n
      · obtain ⟨q, hq, hm⟩ := h3 k hkn r d
        exact ⟨q, List.mem_append_right _ hq, hm⟩
      · obtain rfl : k = ⟨n, hn⟩ := Fin.ext (by simp only; omega)
        obtain ⟨q, hq, hm⟩ := cover14 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ r d
        exact ⟨q, List.mem_append_left _ hq, hm⟩
    · by_cases hkn : k.val < n
      · obtain ⟨q, hq, hm⟩ := h4 k hkn r l
        exact ⟨q, List.mem_append_right _ hq, hm⟩
      · obtain rfl : k = ⟨n, hn⟩ := Fin.ext (by simp only; omega)
        obtain ⟨q, hq, hm⟩ := cover17 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ r l
        exact ⟨q, List.mem_append_left _ hq, hm⟩

end t1

namespace t2

section trip
variable (k : Fin k0_t2_loop.trips)

/-- The pieces one trip writes into the codes are pieces of `G14`. -/
theorem agree14 : ∀ q ∈ (trip_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).1 f14 f16 f17, ∀ x, q.2 x = G14 a5 a6 a7 X5 X6 X7 (q.1.emb x) := by
  have hk := lt8 k
  unfold trip_k0_t2
  dsimp only
  refine List.forall_mem_cons.2 ⟨tile_agree (k0_off49_inb k) 1 (32 * k.val) 23 (by norm_num) (by omega) (by norm_num) (k0_off49_eq k) (G14 a5 a6 a7 X5 X6 X7) _ (c23 a5 a6 a7 a16 X5 X6 X7 k), ?_⟩
  refine List.forall_mem_cons.2 ⟨tile_agree (k0_off48_inb k) 1 (32 * k.val) 22 (by norm_num) (by omega) (by norm_num) (k0_off48_eq k) (G14 a5 a6 a7 X5 X6 X7) _ (c22 a5 a6 a7 a16 X5 X6 X7 k), ?_⟩
  refine List.forall_mem_cons.2 ⟨tile_agree (k0_off47_inb k) 1 (32 * k.val) 21 (by norm_num) (by omega) (by norm_num) (k0_off47_eq k) (G14 a5 a6 a7 X5 X6 X7) _ (c21 a5 a6 a7 a16 X5 X6 X7 k), ?_⟩
  refine List.forall_mem_cons.2 ⟨tile_agree (k0_off46_inb k) 1 (32 * k.val) 20 (by norm_num) (by omega) (by norm_num) (k0_off46_eq k) (G14 a5 a6 a7 X5 X6 X7) _ (c20 a5 a6 a7 a16 X5 X6 X7 k), ?_⟩
  refine List.forall_mem_cons.2 ⟨tile_agree (k0_off45_inb k) 1 (32 * k.val) 19 (by norm_num) (by omega) (by norm_num) (k0_off45_eq k) (G14 a5 a6 a7 X5 X6 X7) _ (c19 a5 a6 a7 a16 X5 X6 X7 k), ?_⟩
  refine List.forall_mem_cons.2 ⟨tile_agree (k0_off44_inb k) 1 (32 * k.val) 18 (by norm_num) (by omega) (by norm_num) (k0_off44_eq k) (G14 a5 a6 a7 X5 X6 X7) _ (c18 a5 a6 a7 a16 X5 X6 X7 k), ?_⟩
  refine List.forall_mem_cons.2 ⟨tile_agree (k0_off43_inb k) 1 (32 * k.val) 17 (by norm_num) (by omega) (by norm_num) (k0_off43_eq k) (G14 a5 a6 a7 X5 X6 X7) _ (c17 a5 a6 a7 a16 X5 X6 X7 k), ?_⟩
  refine List.forall_mem_cons.2 ⟨tile_agree (k0_off42_inb k) 1 (32 * k.val) 16 (by norm_num) (by omega) (by norm_num) (k0_off42_eq k) (G14 a5 a6 a7 X5 X6 X7) _ (c16 a5 a6 a7 a16 X5 X6 X7 k), ?_⟩
  refine List.forall_mem_cons.2 ⟨tile_agree (k0_off41_inb k) 1 (32 * k.val) 15 (by norm_num) (by omega) (by norm_num) (k0_off41_eq k) (G14 a5 a6 a7 X5 X6 X7) _ (c15 a5 a6 a7 a16 X5 X6 X7 k), ?_⟩
  refine List.forall_mem_cons.2 ⟨tile_agree (k0_off40_inb k) 1 (32 * k.val) 14 (by norm_num) (by omega) (by norm_num) (k0_off40_eq k) (G14 a5 a6 a7 X5 X6 X7) _ (c14 a5 a6 a7 a16 X5 X6 X7 k), ?_⟩
  refine List.forall_mem_cons.2 ⟨tile_agree (k0_off39_inb k) 1 (32 * k.val) 13 (by norm_num) (by omega) (by norm_num) (k0_off39_eq k) (G14 a5 a6 a7 X5 X6 X7) _ (c13 a5 a6 a7 a16 X5 X6 X7 k), ?_⟩
  refine List.forall_mem_cons.2 ⟨tile_agree (k0_off38_inb k) 1 (32 * k.val) 12 (by norm_num) (by omega) (by norm_num) (k0_off38_eq k) (G14 a5 a6 a7 X5 X6 X7) _ (c12 a5 a6 a7 a16 X5 X6 X7 k), ?_⟩
  refine List.forall_mem_cons.2 ⟨tile_agree (k0_off37_inb k) 1 (32 * k.val) 11 (by norm_num) (by omega) (by norm_num) (k0_off37_eq k) (G14 a5 a6 a7 X5 X6 X7) _ (c11 a5 a6 a7 a16 X5 X6 X7 k), ?_⟩
  refine List.forall_mem_cons.2 ⟨tile_agree (k0_off36_inb k) 1 (32 * k.val) 10 (by norm_num) (by omega) (by norm_num) (k0_off36_eq k) (G14 a5 a6 a7 X5 X6 X7) _ (c10 a5 a6 a7 a16 X5 X6 X7 k), ?_⟩
  refine List.forall_mem_cons.2 ⟨tile_agree (k0_off35_inb k) 1 (32 * k.val) 9 (by norm_num) (by omega) (by norm_num) (k0_off35_eq k) (G14 a5 a6 a7 X5 X6 X7) _ (c9 a5 a6 a7 a16 X5 X6 X7 k), ?_⟩
  refine List.forall_mem_cons.2 ⟨tile_agree (k0_off34_inb k) 1 (32 * k.val) 8 (by norm_num) (by omega) (by norm_num) (k0_off34_eq k) (G14 a5 a6 a7 X5 X6 X7) _ (c8 a5 a6 a7 a16 X5 X6 X7 k), ?_⟩
  refine List.forall_mem_cons.2 ⟨tile_agree (k0_off33_inb k) 1 (32 * k.val) 7 (by norm_num) (by omega) (by norm_num) (k0_off33_eq k) (G14 a5 a6 a7 X5 X6 X7) _ (c7 a5 a6 a7 a16 X5 X6 X7 k), ?_⟩
  refine List.forall_mem_cons.2 ⟨tile_agree (k0_off32_inb k) 1 (32 * k.val) 6 (by norm_num) (by omega) (by norm_num) (k0_off32_eq k) (G14 a5 a6 a7 X5 X6 X7) _ (c6 a5 a6 a7 a16 X5 X6 X7 k), ?_⟩
  refine List.forall_mem_cons.2 ⟨tile_agree (k0_off31_inb k) 1 (32 * k.val) 5 (by norm_num) (by omega) (by norm_num) (k0_off31_eq k) (G14 a5 a6 a7 X5 X6 X7) _ (c5 a5 a6 a7 a16 X5 X6 X7 k), ?_⟩
  refine List.forall_mem_cons.2 ⟨tile_agree (k0_off30_inb k) 1 (32 * k.val) 4 (by norm_num) (by omega) (by norm_num) (k0_off30_eq k) (G14 a5 a6 a7 X5 X6 X7) _ (c4 a5 a6 a7 a16 X5 X6 X7 k), ?_⟩
  refine List.forall_mem_cons.2 ⟨tile_agree (k0_off29_inb k) 1 (32 * k.val) 3 (by norm_num) (by omega) (by norm_num) (k0_off29_eq k) (G14 a5 a6 a7 X5 X6 X7) _ (c3 a5 a6 a7 a16 X5 X6 X7 k), ?_⟩
  refine List.forall_mem_cons.2 ⟨tile_agree (k0_off28_inb k) 1 (32 * k.val) 2 (by norm_num) (by omega) (by norm_num) (k0_off28_eq k) (G14 a5 a6 a7 X5 X6 X7) _ (c2 a5 a6 a7 a16 X5 X6 X7 k), ?_⟩
  refine List.forall_mem_cons.2 ⟨tile_agree (k0_off27_inb k) 1 (32 * k.val) 1 (by norm_num) (by omega) (by norm_num) (k0_off27_eq k) (G14 a5 a6 a7 X5 X6 X7) _ (c1 a5 a6 a7 a16 X5 X6 X7 k), ?_⟩
  refine List.forall_mem_cons.2 ⟨tile_agree (k0_off26_inb k) 1 (32 * k.val) 0 (by norm_num) (by omega) (by norm_num) (k0_off26_eq k) (G14 a5 a6 a7 X5 X6 X7) _ (c0 a5 a6 a7 a16 X5 X6 X7 k), ?_⟩
  exact fun q hq => absurd hq List.not_mem_nil

/-- The piece one trip writes into the scales is a piece of `G17`. -/
theorem agree17 : ∀ q ∈ (trip_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).2.2.1 f14 f16 f17, ∀ x, q.2 x = G17 a5 a6 a7 X5 X6 X7 (q.1.emb x) := by
  have hk := lt8 k
  unfold trip_k0_t2
  dsimp only
  refine List.forall_mem_cons.2 ⟨rows_agree (k0_off50_inb k) 1 (32 * k.val) (by norm_num) (by omega) (k0_off50_eq k) (G17 a5 a6 a7 X5 X6 X7) _ (scale_at a5 a6 a7 X5 X6 X7 k), ?_⟩
  exact fun q hq => absurd hq List.not_mem_nil

/-- One trip writes all columns of its rows. -/
theorem cover14 (r : Fin 32) (d : Fin 3072) : ∃ q ∈ (trip_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).1 f14 f16 f17,
    (ix4 0 1 (row k r) d : S1x2x256x3072.Idx) ∈ q.1.set := by
  have hk := lt8 k
  unfold trip_k0_t2
  dsimp only
  obtain ⟨j, hj, l, rfl⟩ : ∃ j, ∃ hj : j < 24, ∃ l, d = col j hj l :=
    ⟨d.val / 128, by omega, ⟨d.val % 128, Nat.mod_lt _ (by norm_num)⟩, Fin.ext (by simp only; omega)⟩
  interval_cases j
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), tile_mem (k0_off26_inb k) 1 (32 * k.val) 0 (by norm_num) (by omega) (by norm_num) (k0_off26_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), tile_mem (k0_off27_inb k) 1 (32 * k.val) 1 (by norm_num) (by omega) (by norm_num) (k0_off27_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), tile_mem (k0_off28_inb k) 1 (32 * k.val) 2 (by norm_num) (by omega) (by norm_num) (k0_off28_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), tile_mem (k0_off29_inb k) 1 (32 * k.val) 3 (by norm_num) (by omega) (by norm_num) (k0_off29_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), tile_mem (k0_off30_inb k) 1 (32 * k.val) 4 (by norm_num) (by omega) (by norm_num) (k0_off30_eq k) r l⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), tile_mem (k0_off31_inb k) 1 (32 * k.val) 5 (by norm_num) (by omega) (by norm_num) (k0_off31_eq k) r l⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), tile_mem (k0_off32_inb k) 1 (32 * k.val) 6 (by norm_num) (by omega) (by norm_num) (k0_off32_eq k) r l⟩
  · exact ⟨_, .tail _ (.tail _ (.tail _ (.tail _ (.tail _ (.tail _ (.tail _ (.tail _ (.tail _ (.tail _ (.tail _ (.tail _ (.tail _ (.tail _ (.tail _ (.tail _ (.head _)))))))))))))))), tile_mem (k0_off33_inb k) 1 (32 * k.val) 7 (by norm_num) (by omega) (by norm_num) (k0_off33_eq k) r l⟩
  · exact ⟨_, .tail _ (.tail _ (.tail _ (.tail _ (.tail _ (.tail _ (.tail _ (.tail _ (.tail _ (.tail _ (.tail _ (.tail _ (.tail _ (.tail _ (.tail _ (.head _))))))))))))))), tile_mem (k0_off34_inb k) 1 (32 * k.val) 8 (by norm_num) (by omega) (by norm_num) (k0_off34_eq k) r l⟩
  · exact ⟨_, .tail _ (.tail _ (.tail _ (.tail _ (.tail _ (.tail _ (.tail _ (.tail _ (.tail _ (.tail _ (.tail _ (.tail _ (.tail _ (.tail _ (.head _)))))))))))))), tile_mem (k0_off35_inb k) 1 (32 * k.val) 9 (by norm_num) (by omega) (by norm_num) (k0_off35_eq k) r l⟩
  · exact ⟨_, .tail _ (.tail _ (.tail _ (.tail _ (.tail _ (.tail _ (.tail _ (.tail _ (.tail _ (.tail _ (.tail _ (.tail _ (.tail _ (.head _))))))))))))), tile_mem (k0_off36_inb k) 1 (32 * k.val) 10 (by norm_num) (by omega) (by norm_num) (k0_off36_eq k) r l⟩
  · exact ⟨_, .tail _ (.tail _ (.tail _ (.tail _ (.tail _ (.tail _ (.tail _ (.tail _ (.tail _ (.tail _ (.tail _ (.tail _ (.head _)))))))))))), tile_mem (k0_off37_inb k) 1 (32 * k.val) 11 (by norm_num) (by omega) (by norm_num) (k0_off37_eq k) r l⟩
  · exact ⟨_, .tail _ (.tail _ (.tail _ (.tail _ (.tail _ (.tail _ (.tail _ (.tail _ (.tail _ (.tail _ (.tail _ (.head _))))))))))), tile_mem (k0_off38_inb k) 1 (32 * k.val) 12 (by norm_num) (by omega) (by norm_num) (k0_off38_eq k) r l⟩
  · exact ⟨_, .tail _ (.tail _ (.tail _ (.tail _ (.tail _ (.tail _ (.tail _ (.tail _ (.tail _ (.tail _ (.head _)))))))))), tile_mem (k0_off39_inb k) 1 (32 * k.val) 13 (by norm_num) (by omega) (by norm_num) (k0_off39_eq k) r l⟩
  · exact ⟨_, .tail _ (.tail _ (.tail _ (.tail _ (.tail _ (.tail _ (.tail _ (.tail _ (.tail _ (.head _))))))))), tile_mem (k0_off40_inb k) 1 (32 * k.val) 14 (by norm_num) (by omega) (by norm_num) (k0_off40_eq k) r l⟩
  · exact ⟨_, .tail _ (.tail _ (.tail _ (.tail _ (.tail _ (.tail _ (.tail _ (.tail _ (.head _)))))))), tile_mem (k0_off41_inb k) 1 (32 * k.val) 15 (by norm_num) (by omega) (by norm_num) (k0_off41_eq k) r l⟩
  · exact ⟨_, .tail _ (.tail _ (.tail _ (.tail _ (.tail _ (.tail _ (.tail _ (.head _))))))), tile_mem (k0_off42_inb k) 1 (32 * k.val) 16 (by norm_num) (by omega) (by norm_num) (k0_off42_eq k) r l⟩
  · exact ⟨_, .tail _ (.tail _ (.tail _ (.tail _ (.tail _ (.tail _ (.head _)))))), tile_mem (k0_off43_inb k) 1 (32 * k.val) 17 (by norm_num) (by omega) (by norm_num) (k0_off43_eq k) r l⟩
  · exact ⟨_, .tail _ (.tail _ (.tail _ (.tail _ (.tail _ (.head _))))), tile_mem (k0_off44_inb k) 1 (32 * k.val) 18 (by norm_num) (by omega) (by norm_num) (k0_off44_eq k) r l⟩
  · exact ⟨_, .tail _ (.tail _ (.tail _ (.tail _ (.head _)))), tile_mem (k0_off45_inb k) 1 (32 * k.val) 19 (by norm_num) (by omega) (by norm_num) (k0_off45_eq k) r l⟩
  · exact ⟨_, .tail _ (.tail _ (.tail _ (.head _))), tile_mem (k0_off46_inb k) 1 (32 * k.val) 20 (by norm_num) (by omega) (by norm_num) (k0_off46_eq k) r l⟩
  · exact ⟨_, .tail _ (.tail _ (.head _)), tile_mem (k0_off47_inb k) 1 (32 * k.val) 21 (by norm_num) (by omega) (by norm_num) (k0_off47_eq k) r l⟩
  · exact ⟨_, .tail _ (.head _), tile_mem (k0_off48_inb k) 1 (32 * k.val) 22 (by norm_num) (by omega) (by norm_num) (k0_off48_eq k) r l⟩
  · exact ⟨_, .head _, tile_mem (k0_off49_inb k) 1 (32 * k.val) 23 (by norm_num) (by omega) (by norm_num) (k0_off49_eq k) r l⟩

theorem cover17 (r : Fin 32) (l : Fin 128) : ∃ q ∈ (trip_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 k).2.2.1 f14 f16 f17,
    (ix3 1 (row k r) l : S2x256x128.Idx) ∈ q.1.set := by
  have hk := lt8 k
  unfold trip_k0_t2
  dsimp only
  exact ⟨_, .head _, rows_mem (k0_off50_inb k) 1 (32 * k.val) (by norm_num) (by omega) (k0_off50_eq k) r l⟩

end trip

set_option maxHeartbeats 2000000 in
/-- The pieces of the trips before `n`: pieces of `G14` and of `G17`, and they write all the rows of those trips. -/
theorem pieces : ∀ n ≤ k0_t2_loop.trips,
    (∀ q ∈ (pb_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).1, ∀ x, q.2 x = G14 a5 a6 a7 X5 X6 X7 (q.1.emb x))
    ∧ (∀ q ∈ (pb_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).2.2, ∀ x, q.2 x = G17 a5 a6 a7 X5 X6 X7 (q.1.emb x))
    ∧ (∀ k : Fin k0_t2_loop.trips, k.val < n → ∀ r d, ∃ q ∈ (pb_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).1, (ix4 0 1 (row k r) d : S1x2x256x3072.Idx) ∈ q.1.set)
    ∧ (∀ k : Fin k0_t2_loop.trips, k.val < n → ∀ r l, ∃ q ∈ (pb_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 n).2.2, (ix3 1 (row k r) l : S2x256x128.Idx) ∈ q.1.set) := by
  intro n
  induction n with
  | zero =>
    intro _
    rw [pb_k0_t2.eq_1]
    exact ⟨fun q hq => absurd hq List.not_mem_nil, fun q hq => absurd hq List.not_mem_nil, fun k hk => absurd hk (Nat.not_lt_zero _), fun k hk => absurd hk (Nat.not_lt_zero _)⟩
  | succ n ih =>
    intro hn
    obtain ⟨h1, h2, h3, h4⟩ := ih (by omega)
    have e := pb_k0_t2_succ (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 ⟨n, hn⟩
    dsimp only at e
    rw [e]
    refine ⟨fun q hq => ?_, fun q hq => ?_, fun k hk r d => ?_, fun k hk r l => ?_⟩
    · rcases List.mem_append.1 hq with h | h
      · exact agree14 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ q h
      · exact h1 q h
    · rcases List.mem_append.1 hq with h | h
      · exact agree17 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ q h
      · exact h2 q h
    · by_cases hkn : k.val < n
      · obtain ⟨q, hq, hm⟩ := h3 k hkn r d
        exact ⟨q, List.mem_append_right _ hq, hm⟩
      · obtain rfl : k = ⟨n, hn⟩ := Fin.ext (by simp only; omega)
        obtain ⟨q, hq, hm⟩ := cover14 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ r d
        exact ⟨q, List.mem_append_left _ hq, hm⟩
    · by_cases hkn : k.val < n
      · obtain ⟨q, hq, hm⟩ := h4 k hkn r l
        exact ⟨q, List.mem_append_right _ hq, hm⟩
      · obtain rfl : k = ⟨n, hn⟩ := Fin.ext (by simp only; omega)
        obtain ⟨q, hq, hm⟩ := cover17 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 _ _ _ ⟨n, hn⟩ r l
        exact ⟨q, List.mem_append_left _ hq, hm⟩

end t2

section after
variable (g14 : BufTy.Contents (Elt Ideal) a14.view.ty) (g16 : BufTy.Contents (Elt Ideal) a16.view.ty)
  (g17 : BufTy.Contents (Elt Ideal) a17.view.ty)

/-- A row of the block is a row of some trip. -/
theorem row_split (r : Fin 256) : ∃ k, ∃ hk : k < 8, ∃ i : Fin 32, r.val = 32 * k + i.val :=
  ⟨r.val / 32, by omega, ⟨r.val % 32, Nat.mod_lt _ (by norm_num)⟩, by simp only; omega⟩

/-- After both loops the codes are `G14`, whatever the buffer held before. -/
theorem codes_after (f : BufTy.Contents (Elt Ideal) a14.view.ty) (y : S1x2x256x3072.Idx) :
    a14.view.read (Elt Ideal) (a14.view.writes (Elt Ideal) f ((pb_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 g14 g16 g17 k0_t2_loop.trips).1 ++ (pb_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 k0_t1_loop.trips).1)) y = G14 a5 a6 a7 X5 X6 X7 y := by
  obtain ⟨h1, -, h3, -⟩ := t1.pieces 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ le_rfl
  obtain ⟨h1', -, h3', -⟩ := t2.pieces 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 g14 g16 g17 _ le_rfl
  refine View.read_writes_apply_of_pieces a14.view f (G14 a5 a6 a7 X5 X6 X7) _ (fun q hq => ?_) y ?_
  · rcases List.mem_append.1 hq with h | h
    · exact h1' q h
    · exact h1 q h
  · obtain ⟨k, hk, r, hr⟩ := row_split (y 2)
    have hy0 : y 0 = (0 : Fin 1) := Subsingleton.elim (α := Fin 1) _ _
    obtain hp | hp : y 1 = (0 : Fin 2) ∨ y 1 = (1 : Fin 2) := by
      have : ∀ z : Fin 2, z = 0 ∨ z = 1 := by decide
      exact this _
    · obtain ⟨q, hq, hm⟩ := h3 ⟨k, hk⟩ hk r (y 3)
      refine ⟨q, List.mem_append_right _ hq, ?_⟩
      convert hm using 1
      funext a
      fin_cases a
      · exact hy0
      · exact hp
      · exact Fin.ext hr
      · rfl
    · obtain ⟨q, hq, hm⟩ := h3' ⟨k, hk⟩ hk r (y 3)
      refine ⟨q, List.mem_append_left _ hq, ?_⟩
      convert hm using 1
      funext a
      fin_cases a
      · exact hy0
      · exact hp
      · exact Fin.ext hr
      · rfl

/-- After both loops the scales are `G17`. -/
theorem scales_after (f : BufTy.Contents (Elt Ideal) a17.view.ty) (y : S2x256x128.Idx) :
    a17.view.read (Elt Ideal) (a17.view.writes (Elt Ideal) f ((pb_k0_t2 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 g14 g16 g17 k0_t2_loop.trips).2.2 ++ (pb_k0_t1 (F := Ideal) 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 k0_t1_loop.trips).2.2)) y = G17 a5 a6 a7 X5 X6 X7 y := by
  obtain ⟨-, h1, -, h3⟩ := t1.pieces 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ le_rfl
  obtain ⟨-, h1', -, h3'⟩ := t2.pieces 𝒱 c bd i a2 ha2 a3 ha3 a4 ha4 a5 ha5 a6 ha6 a7 ha7 a8 ha8 a9 ha9 a10 ha10 a11 ha11 a12 ha12 a13 ha13 a14 ha14 a15 ha15 a16 ha16 a17 ha17 X5 X6 X7 g14 g16 g17 _ le_rfl
  refine View.read_writes_apply_of_pieces a17.view f (G17 a5 a6 a7 X5 X6 X7) _ (fun q hq => ?_) y ?_
  · rcases List.mem_append.1 hq with h | h
    · exact h1' q h
    · exact h1 q h
  · obtain ⟨k, hk, r, hr⟩ := row_split (y 1)
    obtain hp | hp : y 0 = (0 : Fin 2) ∨ y 0 = (1 : Fin 2) := by
      have : ∀ z : Fin 2, z = 0 ∨ z = 1 := by decide
      exact this _
    · obtain ⟨q, hq, hm⟩ := h3 ⟨k, hk⟩ hk r (y 2)
      refine ⟨q, List.mem_append_right _ hq, ?_⟩
      convert hm using 1
      funext a
      fin_cases a
      · exact hp
      · exact Fin.ext hr
      · rfl
    · obtain ⟨q, hq, hm⟩ := h3' ⟨k, hk⟩ hk r (y 2)
      refine ⟨q, List.mem_append_left _ hq, ?_⟩
      convert hm using 1
      funext a
      fin_cases a
      · exact hp
      · exact Fin.ext hr
      · rfl

end after

end Cert.KernelIdeal

end
-- ==== Proof.BodyValue.lean ====
/- The block of results one run of the kernel body leaves, entry by entry: the velocity image and the next latents, in
   terms of the codes and scales of the block's rows. -/
module

public import proofs.«01_k».proof.Proof.LoopValue
public import Idealize.ShloMosaic.Lib.Pointwise

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- Entry of a table of one number per batch element. -/
abbrev sval (m : Memref sig .tc .smem S3 .f32) (X : BufTy.Contents (Elt Ideal) m.view.ty) (i : grid0.Coords) : EReal :=
  View.readAt (Elt Ideal) m.view (Rect.unit (s := S3) (k0_off51 i) S1.size (k0_off51_inb i)).toLoadRect X
    (Shape.Idx.first (by show 0 < S1.numel; rw [numel1_S1]; exact Nat.one_pos))

section
variable (i : grid0.Coords)
  (a2 : Memref sig .tc .smem S3 .f32) (a5 : Memref sig .tc .vmem S1x2x256x3072 .bf16) (a6 a7 : Memref sig .tc .vmem S1x2x3072 .f32)
  (a8 : Memref sig .tc .vmem S64x3072 .fp8e4m3) (a9 a10 : Memref sig .tc .vmem S64x1 .f32)
  (X2 : BufTy.Contents (Elt Ideal) a2.view.ty) (X5 : BufTy.Contents (Elt Ideal) a5.view.ty)
  (X6 : BufTy.Contents (Elt Ideal) a6.view.ty) (X7 : BufTy.Contents (Elt Ideal) a7.view.ty)
  (X8 : BufTy.Contents (Elt Ideal) a8.view.ty) (X9 : BufTy.Contents (Elt Ideal) a9.view.ty)
  (X10 : BufTy.Contents (Elt Ideal) a10.view.ty)

/-- Output `n` of the projection of row `r` of plane `p`. -/
def projAt (p : Fin 2) (n : Fin 64) (r : Fin 256) : EReal :=
  (∑ d : Fin 3072, (a8.view.read (Elt Ideal) X8 (ix2 n d) : EReal) * (G14 a5 a6 a7 X5 X6 X7 (ix4 0 p r d) : EReal))
      * G17 a5 a6 a7 X5 X6 X7 (ix3 p r 0) * a9.view.read (Elt Ideal) X9 (ix2 n 0)
    + a10.view.read (Elt Ideal) X10 (ix2 n 0)

/-- The two planes combined under the guidance weight. -/
def velAt (n : Fin 64) (r : Fin 256) : EReal :=
  projAt a5 a6 a7 a8 a9 a10 X5 X6 X7 X8 X9 X10 1 n r
    + sval a2 X2 i * (projAt a5 a6 a7 a8 a9 a10 X5 X6 X7 X8 X9 X10 0 n r - projAt a5 a6 a7 a8 a9 a10 X5 X6 X7 X8 X9 X10 1 n r)

/-- The velocity image: column `x` of image row `p1` of grid row `k` is token `128 k + x/2`, output
    `32 p1 + 16 (x mod 2) + ch`. -/
def G13 (y : S1x4x16x256.Idx) : EReal :=
  velAt i a2 a5 a6 a7 a8 a9 a10 X2 X5 X6 X7 X8 X9 X10
    ⟨32 * ((y 1 : Fin 4).val % 2) + 16 * ((y 3 : Fin 256).val % 2) + (y 2 : Fin 16).val, by
      have h2 : (y 2 : Fin 16).val < 16 := (y 2 : Fin 16).isLt; omega⟩
    ⟨128 * ((y 1 : Fin 4).val / 2) + (y 3 : Fin 256).val / 2, by
      have h1 : (y 1 : Fin 4).val < 4 := (y 1 : Fin 4).isLt; have h3 : (y 3 : Fin 256).val < 256 := (y 3 : Fin 256).isLt; omega⟩

/-- The next latents. -/
def G12 (a3 a4 : Memref sig .tc .smem S3 .f32) (a11 : Memref sig .tc .vmem S1x4x16x256 .f32)
    (X3 : BufTy.Contents (Elt Ideal) a3.view.ty) (X4 : BufTy.Contents (Elt Ideal) a4.view.ty)
    (X11 : BufTy.Contents (Elt Ideal) a11.view.ty) (y : S1x4x16x256.Idx) : EReal :=
  a11.view.read (Elt Ideal) X11 y + (sval a4 X4 i - sval a3 X3 i) * G13 i a2 a5 a6 a7 a8 a9 a10 X2 X5 X6 X7 X8 X9 X10 y

/-- The scales of the block, entry by entry. -/
def G15 (y : S1x2x256.Idx) : EReal := G17 a5 a6 a7 X5 X6 X7 (ix3 (y 1) (y 2) 0)
end

theorem lane_lo : ∀ l : Fin 128, (Scalar.select
    (IntOp.cmpi CmpIPredicate.slt (IntOp.addi (IntOp.shrui ArithUnit.vector (BitVec.ofNat 32 l.val) 1#32) 0#32) 0#32)
    (IntOp.addi (IntOp.addi (IntOp.shrui ArithUnit.vector (BitVec.ofNat 32 l.val) 1#32) 0#32) 128#32)
    (IntOp.addi (IntOp.shrui ArithUnit.vector (BitVec.ofNat 32 l.val) 1#32) 0#32)).toNat % 128 = l.val / 2 := by decide

theorem lane_hi : ∀ l : Fin 128, (Scalar.select
    (IntOp.cmpi CmpIPredicate.slt (IntOp.addi (IntOp.shrui ArithUnit.vector (BitVec.ofNat 32 l.val) 1#32) 64#32) 0#32)
    (IntOp.addi (IntOp.addi (IntOp.shrui ArithUnit.vector (BitVec.ofNat 32 l.val) 1#32) 64#32) 128#32)
    (IntOp.addi (IntOp.shrui ArithUnit.vector (BitVec.ofNat 32 l.val) 1#32) 64#32)).toNat % 128 = 64 + l.val / 2 := by decide

theorem lane_even : ∀ l : Fin 128,
    IntOp.cmpi CmpIPredicate.eq (IntOp.andi (BitVec.ofNat 32 l.val) 1#32) 0#32 = if l.val % 2 = 0 then 1#1 else 0#1 := by decide

/-- Even lanes take the even table, odd lanes the odd one. -/
theorem lane_pick {e o : Fin 128 → EReal} {l : Fin 128} {x y : Fin 128} {f : Fin 2 → EReal} (he : e x = f 0) (ho : o y = f 1) :
    Scalar.select (IntOp.cmpi CmpIPredicate.eq (IntOp.andi (BitVec.ofNat 32 l.val) 1#32) 0#32) (e x) (o y)
      = f ⟨l.val % 2, Nat.mod_lt _ (by norm_num)⟩ := by
  rw [lane_even]
  rcases Nat.mod_two_eq_zero_or_one l.val with h | h
  · simp only [h, if_true]
    exact he
  · simp only [h]
    exact ho

theorem sel_one (a b : EReal) : Scalar.select 1#1 a b = a := rfl
theorem sel_zero (a b : EReal) : Scalar.select 0#1 a b = b := rfl

theorem emb_img {off : Fin 4 → ℕ} (h : ∀ a, off a + (![1, 1, 16, 128] : Fin 4 → ℕ) a ≤ S1x4x16x256.size a)
    (q x0 : ℕ) (hq : q < 4) (hx : x0 + 128 ≤ 256) (hoff : off = ![0, q, 0, x0]) (i : Fin 16) (l : Fin 128) :
    (Rect.unit (s := S1x4x16x256) off ![1, 1, 16, 128] h).emb (ix4 0 0 i l) = ix4 0 ⟨q, hq⟩ i ⟨x0 + l.val, by omega⟩ := by
  subst hoff
  funext a
  apply Fin.ext
  refine (ValueKit.rect_emb_unit_val _ _ _ _ _).trans ?_
  fin_cases a
  · rfl
  · rfl
  · exact Nat.zero_add _
  · rfl

theorem img_agree {off : Fin 4 → ℕ} (h : ∀ a, off a + (![1, 1, 16, 128] : Fin 4 → ℕ) a ≤ S1x4x16x256.size a)
    (q x0 : ℕ) (hq : q < 4) (hx : x0 + 128 ≤ 256) (hoff : off = ![0, q, 0, x0])
    (G : S1x4x16x256.Idx → EReal) (w : (⟨4, ![1, 1, 16, 128]⟩ : Shape).Idx → EReal)
    (hw : ∀ i l, w (ix4 0 0 i l) = G (ix4 0 ⟨q, hq⟩ i ⟨x0 + l.val, by omega⟩))
    (x : (⟨4, ![1, 1, 16, 128]⟩ : Shape).Idx) :
    w x = G ((Rect.unit (s := S1x4x16x256) off ![1, 1, 16, 128] h).emb x) := by
  have hx' : x = ix4 0 0 (x 2) (x 3) := by
    funext a
    fin_cases a
    · exact Subsingleton.elim (α := Fin 1) _ _
    · exact Subsingleton.elim (α := Fin 1) _ _
    · rfl
    · rfl
  rw [hx']
  exact (hw _ _).trans (congrArg G (emb_img h q x0 hq hx hoff _ _).symm)

theorem img_mem {off : Fin 4 → ℕ} (h : ∀ a, off a + (![1, 1, 16, 128] : Fin 4 → ℕ) a ≤ S1x4x16x256.size a)
    (q x0 : ℕ) (hq : q < 4) (hx : x0 + 128 ≤ 256) (hoff : off = ![0, q, 0, x0]) (i : Fin 16) (l : Fin 128) :
    (ix4 0 ⟨q, hq⟩ i ⟨x0 + l.val, by omega⟩ : S1x4x16x256.Idx)
      ∈ (Rect.unit (s := S1x4x16x256) off ![1, 1, 16, 128] h).set := by
  rw [← emb_img h q x0 hq hx hoff i l, ← Rect.map_emb_univ]
  exact Finset.mem_map_of_mem _ (Finset.mem_univ _)

theorem readAt_img {sp : Space} (m : Memref sig .tc sp S1x4x16x256 .f32) {off : Fin 4 → ℕ}
    (h : ∀ a, off a + (![1, 1, 16, 128] : Fin 4 → ℕ) a ≤ S1x4x16x256.size a)
    (q x0 : ℕ) (hq : q < 4) (hx : x0 + 128 ≤ 256) (hoff : off = ![0, q, 0, x0])
    (X : BufTy.Contents (Elt Ideal) m.view.ty) (i : Fin 16) (l : Fin 128) :
    View.readAt (Elt Ideal) m.view (Rect.unit (s := S1x4x16x256) off ![1, 1, 16, 128] h).toLoadRect X (ix4 0 0 i l)
      = m.view.read (Elt Ideal) X (ix4 0 ⟨q, hq⟩ i ⟨x0 + l.val, by omega⟩) := by
  rw [View.readAt_apply]
  exact congrArg _ (emb_img h q x0 hq hx hoff i l)

theorem readAt_w {sp : Space} {e : EltTy} (m : Memref sig .tc sp S64x3072 e) (h) (X : BufTy.Contents (Elt Ideal) m.view.ty)
    (n : Fin 64) (d : Fin 3072) :
    View.readAt (Elt Ideal) m.view (Rect.unit (s := S64x3072) ![0, 0] ![64, 3072] h).toLoadRect X (ix2 n d)
      = m.view.read (Elt Ideal) X (ix2 n d) := by
  rw [View.readAt_apply]
  refine congrArg _ ?_
  funext a
  apply Fin.ext
  refine (ValueKit.rect_emb_unit_val _ _ _ _ _).trans ?_
  fin_cases a <;> exact Nat.zero_add _

theorem readAt_n {sp : Space} {e : EltTy} (m : Memref sig .tc sp S64x1 e) (h) (X : BufTy.Contents (Elt Ideal) m.view.ty)
    (n : Fin 64) :
    View.readAt (Elt Ideal) m.view (Rect.unit (s := S64x1) ![0, 0] ![64, 1] h).toLoadRect X (ix2 n 0)
      = m.view.read (Elt Ideal) X (ix2 n 0) := by
  rw [View.readAt_apply]
  refine congrArg _ ?_
  funext a
  apply Fin.ext
  refine (ValueKit.rect_emb_unit_val _ _ _ _ _).trans ?_
  fin_cases a <;> exact Nat.zero_add _

/-- Rows `r0 …` of plane `p` of the codes. -/
theorem emb_codes {off : Fin 4 → ℕ} (h : ∀ a, off a + (![1, 1, 128, 3072] : Fin 4 → ℕ) a ≤ S1x2x256x3072.size a)
    (p r0 : ℕ) (hp : p < 2) (hr : r0 + 128 ≤ 256) (hoff : off = ![0, p, r0, 0]) (i : Fin 128) (d : Fin 3072) :
    (Rect.unit (s := S1x2x256x3072) off ![1, 1, 128, 3072] h).emb (ix4 0 0 i d) = ix4 0 ⟨p, hp⟩ ⟨r0 + i.val, by omega⟩ d := by
  subst hoff
  funext a
  apply Fin.ext
  refine (ValueKit.rect_emb_unit_val _ _ _ _ _).trans ?_
  fin_cases a
  · rfl
  · rfl
  · rfl
  · exact Nat.zero_add _

theorem emb_scr {off : Fin 3 → ℕ} (h : ∀ a, off a + (![1, 128, 128] : Fin 3 → ℕ) a ≤ S2x256x128.size a)
    (p r0 : ℕ) (hp : p < 2) (hr : r0 + 128 ≤ 256) (hoff : off = ![p, r0, 0]) (i : Fin 128) (l : Fin 128) :
    (Rect.unit (s := S2x256x128) off ![1, 128, 128] h).emb (ix3 0 i l) = ix3 ⟨p, hp⟩ ⟨r0 + i.val, by omega⟩ l := by
  subst hoff
  funext a
  apply Fin.ext
  refine (ValueKit.rect_emb_unit_val _ _ _ _ _).trans ?_
  fin_cases a
  · rfl
  · rfl
  · exact Nat.zero_add _

theorem emb_sc {off : Fin 3 → ℕ} (h : ∀ a, off a + (![1, 1, 128] : Fin 3 → ℕ) a ≤ S1x2x256.size a)
    (p r0 : ℕ) (hp : p < 2) (hr : r0 + 128 ≤ 256) (hoff : off = ![0, p, r0]) (l : Fin 128) :
    (Rect.unit (s := S1x2x256) off ![1, 1, 128] h).emb (ix3 0 0 l) = ix3 0 ⟨p, hp⟩ ⟨r0 + l.val, by omega⟩ := by
  subst hoff
  funext a
  apply Fin.ext
  refine (ValueKit.rect_emb_unit_val _ _ _ _ _).trans ?_
  fin_cases a <;> rfl

theorem sc_agree {off : Fin 3 → ℕ} (h : ∀ a, off a + (![1, 1, 128] : Fin 3 → ℕ) a ≤ S1x2x256.size a)
    (p r0 : ℕ) (hp : p < 2) (hr : r0 + 128 ≤ 256) (hoff : off = ![0, p, r0])
    (G : S1x2x256.Idx → EReal) (w : (⟨3, ![1, 1, 128]⟩ : Shape).Idx → EReal)
    (hw : ∀ l, w (ix3 0 0 l) = G (ix3 0 ⟨p, hp⟩ ⟨r0 + l.val, by omega⟩))
    (x : (⟨3, ![1, 1, 128]⟩ : Shape).Idx) :
    w x = G ((Rect.unit (s := S1x2x256) off ![1, 1, 128] h).emb x) := by
  have hx' : x = ix3 0 0 (x 2) := by
    funext a
    fin_cases a
    · exact Subsingleton.elim (α := Fin 1) _ _
    · exact Subsingleton.elim (α := Fin 1) _ _
    · rfl
  rw [hx']
  exact (hw _).trans (congrArg G (emb_sc h p r0 hp hr hoff _).symm)

theorem sc_mem {off : Fin 3 → ℕ} (h : ∀ a, off a + (![1, 1, 128] : Fin 3 → ℕ) a ≤ S1x2x256.size a)
    (p r0 : ℕ) (hp : p < 2) (hr : r0 + 128 ≤ 256) (hoff : off = ![0, p, r0]) (l : Fin 128) :
    (ix3 0 ⟨p, hp⟩ ⟨r0 + l.val, by omega⟩ : S1x2x256.Idx)
      ∈ (Rect.unit (s := S1x2x256) off ![1, 1, 128] h).set := by
  rw [← emb_sc h p r0 hp hr hoff l, ← Rect.map_emb_univ]
  exact Finset.mem_map_of_mem _ (Finset.mem_univ _)

variable (c : Dev nD) (i : grid0.Coords)
  (a2 : Memref sig .tc .smem S3 .f32) (ha2 : a2.IsWhole) (a3 : Memref sig .tc .smem S3 .f32) (ha3 : a3.IsWhole) (a4 : Memref sig .tc .smem S3 .f32) (ha4 : a4.IsWhole) (a5 : Memref sig .tc .vmem S1x2x256x3072 .bf16) (ha5 : a5.IsWhole) (a6 : Memref sig .tc .vmem S1x2x3072 .f32) (ha6 : a6.IsWhole) (a7 : Memref sig .tc .vmem S1x2x3072 .f32) (ha7 : a7.IsWhole) (a8 : Memref sig .tc .vmem S64x3072 .fp8e4m3) (ha8 : a8.IsWhole) (a9 : Memref sig .tc .vmem S64x1 .f32) (ha9 : a9.IsWhole) (a10 : Memref sig .tc .vmem S64x1 .f32) (ha10 : a10.IsWhole) (a11 : Memref sig .tc .vmem S1x4x16x256 .f32) (ha11 : a11.IsWhole) (a12 : Memref sig .tc .vmem S1x4x16x256 .f32) (ha12 : a12.IsWhole) (a13 : Memref sig .tc .vmem S1x4x16x256 .bf16) (ha13 : a13.IsWhole) (a14 : Memref sig .tc .vmem S1x2x256x3072 .fp8e4m3) (ha14 : a14.IsWhole) (a15 : Memref sig .tc .vmem S1x2x256 .f32) (ha15 : a15.IsWhole) (a16 : Memref sig .tc .vmem S32x3072 .f32) (ha16 : a16.IsWhole) (a17 : Memref sig .tc .vmem S2x256x128 .f32) (ha17 : a17.IsWhole)
  (X2 : BufTy.Contents (Elt Ideal) a2.view.ty) (X3 : BufTy.Contents (Elt Ideal) a3.view.ty) (X4 : BufTy.Contents (Elt Ideal) a4.view.ty)
  (X5 : BufTy.Contents (Elt Ideal) a5.view.ty) (X6 : BufTy.Contents (Elt Ideal) a6.view.ty)
  (X7 : BufTy.Contents (Elt Ideal) a7.view.ty) (X8 : BufTy.Contents (Elt Ideal) a8.view.ty)
  (X9 : BufTy.Contents (Elt Ideal) a9.view.ty) (X10 : BufTy.Contents (Elt Ideal) a10.view.ty)
  (X11 : BufTy.Contents (Elt Ideal) a11.view.ty)
  (f12 : BufTy.Contents (Elt Ideal) a12.view.ty) (f13 : BufTy.Contents (Elt Ideal) a13.view.ty)
  (f14 : BufTy.Contents (Elt Ideal) a14.view.ty) (f15 : BufTy.Contents (Elt Ideal) a15.view.ty)
  (f16 : BufTy.Contents (Elt Ideal) a16.view.ty) (f17 : BufTy.Contents (Elt Ideal) a17.view.ty)

namespace body

/-- The combination of two planes' projections, over any operands. -/
theorem pay_lo (g : EReal) (w : FVec Ideal S64x3072 .fp8e4m3) (c0 c1 : FVec Ideal S1x1x128x3072 .fp8e4m3) (s0 s1 : FVec Ideal S1x128x128 .f32)
    (ws b : FVec Ideal S64x1 .f32) (n : Fin 64) (l : Fin 128) :
    k0_pay265 (F := Ideal) g (k0_pay261 w c0 s0 ws) (k0_pay262 b) w c1 s1 ws b (ix2 n l)
      = ((∑ d : Fin 3072, (w (ix2 n d) : EReal) * (c1 (ix4 0 0 l d) : EReal)) * (s1 (ix3 0 l 0) : EReal) * (ws (ix2 n 0) : EReal) + (b (ix2 n 0) : EReal))
        + g * (((∑ d : Fin 3072, (w (ix2 n d) : EReal) * (c0 (ix4 0 0 l d) : EReal)) * (s0 (ix3 0 l 0) : EReal) * (ws (ix2 n 0) : EReal) + (b (ix2 n 0) : EReal))
          - ((∑ d : Fin 3072, (w (ix2 n d) : EReal) * (c1 (ix4 0 0 l d) : EReal)) * (s1 (ix3 0 l 0) : EReal) * (ws (ix2 n 0) : EReal) + (b (ix2 n 0) : EReal))) := by
  pointwise [k0_pay265, k0_pay263, k0_pay262, k0_pay261, k0_pay259]

theorem pay_hi (g : EReal) (w : FVec Ideal S64x3072 .fp8e4m3) (c0 c1 : FVec Ideal S1x1x128x3072 .fp8e4m3) (s0 s1 : FVec Ideal S1x128x128 .f32)
    (ws b : FVec Ideal S64x1 .f32) (n : Fin 64) (l : Fin 128) :
    k0_pay299 (F := Ideal) g (k0_pay295 (k0_pay292 w c0) s0 ws b) (k0_pay298 w c1 s1 ws) b (ix2 n l)
      = ((∑ d : Fin 3072, (w (ix2 n d) : EReal) * (c1 (ix4 0 0 l d) : EReal)) * (s1 (ix3 0 l 0) : EReal) * (ws (ix2 n 0) : EReal) + (b (ix2 n 0) : EReal))
        + g * (((∑ d : Fin 3072, (w (ix2 n d) : EReal) * (c0 (ix4 0 0 l d) : EReal)) * (s0 (ix3 0 l 0) : EReal) * (ws (ix2 n 0) : EReal) + (b (ix2 n 0) : EReal))
          - ((∑ d : Fin 3072, (w (ix2 n d) : EReal) * (c1 (ix4 0 0 l d) : EReal)) * (s1 (ix3 0 l 0) : EReal) * (ws (ix2 n 0) : EReal) + (b (ix2 n 0) : EReal))) := by
  pointwise [k0_pay299, k0_pay298, k0_pay296, k0_pay295, k0_pay293, k0_pay292]

theorem v12_at (r : Fin 128) (d : Fin 3072) : bodyRun.sl.v12 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix4 0 0 r d)
    = G14 a5 a6 a7 X5 X6 X7 (ix4 0 0 ⟨0 + r.val, by omega⟩ d) := by
  unfold bodyRun.sl.v12
  rw [View.readAt_apply]
  refine (congrArg _ (emb_codes _ 0 0 (by norm_num) (by norm_num) rfl r d)).trans ?_
  exact codes_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v34_at (r : Fin 128) (d : Fin 3072) : bodyRun.sl.v34 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix4 0 0 r d)
    = G14 a5 a6 a7 X5 X6 X7 (ix4 0 1 ⟨0 + r.val, by omega⟩ d) := by
  unfold bodyRun.sl.v34
  rw [View.readAt_apply]
  refine (congrArg _ (emb_codes _ 1 0 (by norm_num) (by norm_num) rfl r d)).trans ?_
  exact codes_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v212_at (r : Fin 128) (d : Fin 3072) : bodyRun.sl.v212 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix4 0 0 r d)
    = G14 a5 a6 a7 X5 X6 X7 (ix4 0 0 ⟨128 + r.val, by omega⟩ d) := by
  unfold bodyRun.sl.v212
  rw [View.readAt_apply]
  refine (congrArg _ (emb_codes _ 0 128 (by norm_num) (by norm_num) rfl r d)).trans ?_
  exact codes_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v234_at (r : Fin 128) (d : Fin 3072) : bodyRun.sl.v234 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix4 0 0 r d)
    = G14 a5 a6 a7 X5 X6 X7 (ix4 0 1 ⟨128 + r.val, by omega⟩ d) := by
  unfold bodyRun.sl.v234
  rw [View.readAt_apply]
  refine (congrArg _ (emb_codes _ 1 128 (by norm_num) (by norm_num) rfl r d)).trans ?_
  exact codes_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v15_at (r : Fin 128) : bodyRun.sl.v15 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix3 0 r 0)
    = G17 a5 a6 a7 X5 X6 X7 (ix3 0 ⟨0 + r.val, by omega⟩ 0) := by
  unfold bodyRun.sl.v15
  rw [View.readAt_apply]
  refine (congrArg _ (emb_scr _ 0 0 (by norm_num) (by norm_num) rfl r 0)).trans ?_
  exact scales_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v37_at (r : Fin 128) : bodyRun.sl.v37 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix3 0 r 0)
    = G17 a5 a6 a7 X5 X6 X7 (ix3 1 ⟨0 + r.val, by omega⟩ 0) := by
  unfold bodyRun.sl.v37
  rw [View.readAt_apply]
  refine (congrArg _ (emb_scr _ 1 0 (by norm_num) (by norm_num) rfl r 0)).trans ?_
  exact scales_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v215_at (r : Fin 128) : bodyRun.sl.v215 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix3 0 r 0)
    = G17 a5 a6 a7 X5 X6 X7 (ix3 0 ⟨128 + r.val, by omega⟩ 0) := by
  unfold bodyRun.sl.v215
  rw [View.readAt_apply]
  refine (congrArg _ (emb_scr _ 0 128 (by norm_num) (by norm_num) rfl r 0)).trans ?_
  exact scales_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem v237_at (r : Fin 128) : bodyRun.sl.v237 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 (ix3 0 r 0)
    = G17 a5 a6 a7 X5 X6 X7 (ix3 1 ⟨128 + r.val, by omega⟩ 0) := by
  unfold bodyRun.sl.v237
  rw [View.readAt_apply]
  refine (congrArg _ (emb_scr _ 1 128 (by norm_num) (by norm_num) rfl r 0)).trans ?_
  exact scales_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

theorem r_6_at (n : Fin 64) (l : Fin 128) : bodyRun.sl.r_6 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 n l) = velAt i a2 a5 a6 a7 a8 a9 a10 X2 X5 X6 X7 X8 X9 X10 n ⟨0 + l.val, by omega⟩ := by
  unfold bodyRun.sl.r_6 bodyRun.sl.r_5 bodyRun.sl.r_4
  refine (pay_lo _ _ _ _ _ _ _ _ _ _).trans ?_
  unfold velAt projAt sval bodyRun.sl.r
  simp only [v12_at, v34_at, v15_at, v37_at, readAt_w, readAt_n]

theorem r_14_at (n : Fin 64) (l : Fin 128) : bodyRun.sl.r_14 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 n l) = velAt i a2 a5 a6 a7 a8 a9 a10 X2 X5 X6 X7 X8 X9 X10 n ⟨128 + l.val, by omega⟩ := by
  unfold bodyRun.sl.r_14 bodyRun.sl.r_13 bodyRun.sl.r_12 bodyRun.sl.r_11
  refine (pay_hi _ _ _ _ _ _ _ _ _ _).trans ?_
  unfold velAt projAt sval bodyRun.sl.r
  simp only [v212_at, v234_at, v215_at, v237_at, readAt_w, readAt_n]

theorem r_7_at (ch : Fin 16) (l : Fin 128) : bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨0 + ch.val, by omega⟩ ⟨0 + l.val, by omega⟩ := by
  refine Eq.trans ?_ (r_6_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_7 bodyRun.sl.r_6
  pointwise [k0_pay266]

theorem r_8_at (ch : Fin 16) (l : Fin 128) : bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨16 + ch.val, by omega⟩ ⟨0 + l.val, by omega⟩ := by
  refine Eq.trans ?_ (r_6_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_8 bodyRun.sl.r_6
  pointwise [k0_pay267]

theorem r_9_at (ch : Fin 16) (l : Fin 128) : bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨32 + ch.val, by omega⟩ ⟨0 + l.val, by omega⟩ := by
  refine Eq.trans ?_ (r_6_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_9
  pointwise [k0_pay279]

theorem r_10_at (ch : Fin 16) (l : Fin 128) : bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨48 + ch.val, by omega⟩ ⟨0 + l.val, by omega⟩ := by
  refine Eq.trans ?_ (r_6_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_10
  pointwise [k0_pay280]

theorem r_15_at (ch : Fin 16) (l : Fin 128) : bodyRun.sl.r_15 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨0 + ch.val, by omega⟩ ⟨128 + l.val, by omega⟩ := by
  refine Eq.trans ?_ (r_14_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_15 bodyRun.sl.r_14
  pointwise [k0_pay300]

theorem r_16_at (ch : Fin 16) (l : Fin 128) : bodyRun.sl.r_16 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨16 + ch.val, by omega⟩ ⟨128 + l.val, by omega⟩ := by
  refine Eq.trans ?_ (r_14_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_16 bodyRun.sl.r_14
  pointwise [k0_pay301]

theorem r_21_at (ch : Fin 16) (l : Fin 128) : bodyRun.sl.r_21 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨32 + ch.val, by omega⟩ ⟨128 + l.val, by omega⟩ := by
  refine Eq.trans ?_ (r_14_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_21
  pointwise [k0_pay309]

theorem r_22_at (ch : Fin 16) (l : Fin 128) : bodyRun.sl.r_22 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = velAt i a2 a5 a6 a7 a8 a9 a10 X2 X5 X6 X7 X8 X9 X10 ⟨48 + ch.val, by omega⟩ ⟨128 + l.val, by omega⟩ := by
  refine Eq.trans ?_ (r_14_at c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 _ l)
  unfold bodyRun.sl.r_22
  pointwise [k0_pay310]

theorem img00 (ch : Fin 16) (l : Fin 128) : k0_pay271 (F := Ideal) bodyRun.sl.v9 (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay268 bodyRun.sl.v9) (k0_pay269 bodyRun.sl.v9) (k0_pay270 bodyRun.sl.v9) (ix2 ch l) = G13 i a2 a5 a6 a7 a8 a9 a10 X2 X5 X6 X7 X8 X9 X10 (ix4 0 0 ch ⟨0 + l.val, by omega⟩) := by
  skip
  pointwise [k0_pay271, k0_pay268, k0_pay269, k0_pay270, bodyRun.sl.v9]
  change Scalar.select _ (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_7_at, r_8_at, lane_lo, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 0 + ch.val = 32 * (0 % 2) + 16 * ((l.val) % 2) + ch.val
      omega
    · show 0 + l.val / 2 = 128 * (0 / 2) + (l.val) / 2
      omega
  · rw [if_neg (by omega), sel_zero]
    refine congrArg₂ (velAt i a2 a5 a6 a7 a8 a9 a10 X2 X5 X6 X7 X8 X9 X10) (Fin.ext ?_) (Fin.ext ?_)
    · show 16 + ch.val = 32 * (0 % 2) + 16 * ((l.val) % 2) + ch.val
      omega
    · show 0 + l.val / 2 = 128 * (0 / 2) + (l.val) / 2
      omega

theorem img01 (ch : Fin 16) (l : Fin 128) : k0_pay276 (F := Ideal) bodyRun.sl.v9 (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay274 bodyRun.sl.v9) (k0_pay275 bodyRun.sl.v9) (ix2 ch l) = G13 i a2 a5 a6 a7 a8 a9 a10 X2 X5 X6 X7 X8 X9 X10 (ix4 0 0 ch ⟨128 + l.val, by omega⟩) := by
  skip
  pointwise [k0_pay276, k0_pay274, k0_pay275, bodyRun.sl.v9]
  change Scalar.select _ (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_7_at, r_8_at, lane_hi, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 0 + ch.val = 32 * (0 % 2) + 16 * ((128 + l.val) % 2) + ch.val
      omega
    · show 0 + (64 + l.val / 2) = 128 * (0 / 2) + (128 + l.val) / 2
      omega
  · rw [if_neg (by omega), sel_zero]
    refine congrArg₂ (velAt i a2 a5 a6 a7 a8 a9 a10 X2 X5 X6 X7 X8 X9 X10) (Fin.ext ?_) (Fin.ext ?_)
    · show 16 + ch.val = 32 * (0 % 2) + 16 * ((128 + l.val) % 2) + ch.val
      omega
    · show 0 + (64 + l.val / 2) = 128 * (0 / 2) + (128 + l.val) / 2
      omega

theorem img10 (ch : Fin 16) (l : Fin 128) : k0_pay284 (F := Ideal) bodyRun.sl.v9 (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay281 bodyRun.sl.v9) (k0_pay282 bodyRun.sl.v9) (k0_pay283 bodyRun.sl.v9) (ix2 ch l) = G13 i a2 a5 a6 a7 a8 a9 a10 X2 X5 X6 X7 X8 X9 X10 (ix4 0 1 ch ⟨0 + l.val, by omega⟩) := by
  skip
  pointwise [k0_pay284, k0_pay281, k0_pay282, k0_pay283, bodyRun.sl.v9]
  change Scalar.select _ (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_9_at, r_10_at, lane_lo, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 32 + ch.val = 32 * (1 % 2) + 16 * ((l.val) % 2) + ch.val
      omega
    · show 0 + l.val / 2 = 128 * (1 / 2) + (l.val) / 2
      omega
  · rw [if_neg (by omega), sel_zero]
    refine congrArg₂ (velAt i a2 a5 a6 a7 a8 a9 a10 X2 X5 X6 X7 X8 X9 X10) (Fin.ext ?_) (Fin.ext ?_)
    · show 48 + ch.val = 32 * (1 % 2) + 16 * ((l.val) % 2) + ch.val
      omega
    · show 0 + l.val / 2 = 128 * (1 / 2) + (l.val) / 2
      omega

theorem img11 (ch : Fin 16) (l : Fin 128) : k0_pay289 (F := Ideal) bodyRun.sl.v9 (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay287 bodyRun.sl.v9) (k0_pay288 bodyRun.sl.v9) (ix2 ch l) = G13 i a2 a5 a6 a7 a8 a9 a10 X2 X5 X6 X7 X8 X9 X10 (ix4 0 1 ch ⟨128 + l.val, by omega⟩) := by
  skip
  pointwise [k0_pay289, k0_pay287, k0_pay288, bodyRun.sl.v9]
  change Scalar.select _ (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_9_at, r_10_at, lane_hi, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 32 + ch.val = 32 * (1 % 2) + 16 * ((128 + l.val) % 2) + ch.val
      omega
    · show 0 + (64 + l.val / 2) = 128 * (1 / 2) + (128 + l.val) / 2
      omega
  · rw [if_neg (by omega), sel_zero]
    refine congrArg₂ (velAt i a2 a5 a6 a7 a8 a9 a10 X2 X5 X6 X7 X8 X9 X10) (Fin.ext ?_) (Fin.ext ?_)
    · show 48 + ch.val = 32 * (1 % 2) + 16 * ((128 + l.val) % 2) + ch.val
      omega
    · show 0 + (64 + l.val / 2) = 128 * (1 / 2) + (128 + l.val) / 2
      omega

theorem img20 (ch : Fin 16) (l : Fin 128) : bodyRun.sl.r_17 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = G13 i a2 a5 a6 a7 a8 a9 a10 X2 X5 X6 X7 X8 X9 X10 (ix4 0 2 ch ⟨0 + l.val, by omega⟩) := by
  unfold bodyRun.sl.r_17
  pointwise [k0_pay302, bodyRun.sl.v9]
  change Scalar.select _ (bodyRun.sl.r_15 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_16 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_15_at, r_16_at, lane_lo, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 0 + ch.val = 32 * (2 % 2) + 16 * ((l.val) % 2) + ch.val
      omega
    · show 128 + l.val / 2 = 128 * (2 / 2) + (l.val) / 2
      omega
  · rw [if_neg (by omega), sel_zero]
    refine congrArg₂ (velAt i a2 a5 a6 a7 a8 a9 a10 X2 X5 X6 X7 X8 X9 X10) (Fin.ext ?_) (Fin.ext ?_)
    · show 16 + ch.val = 32 * (2 % 2) + 16 * ((l.val) % 2) + ch.val
      omega
    · show 128 + l.val / 2 = 128 * (2 / 2) + (l.val) / 2
      omega

theorem img21 (ch : Fin 16) (l : Fin 128) : bodyRun.sl.r_19 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = G13 i a2 a5 a6 a7 a8 a9 a10 X2 X5 X6 X7 X8 X9 X10 (ix4 0 2 ch ⟨128 + l.val, by omega⟩) := by
  unfold bodyRun.sl.r_19
  pointwise [k0_pay306, bodyRun.sl.v9]
  change Scalar.select _ (bodyRun.sl.r_15 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_16 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_15_at, r_16_at, lane_hi, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 0 + ch.val = 32 * (2 % 2) + 16 * ((128 + l.val) % 2) + ch.val
      omega
    · show 128 + (64 + l.val / 2) = 128 * (2 / 2) + (128 + l.val) / 2
      omega
  · rw [if_neg (by omega), sel_zero]
    refine congrArg₂ (velAt i a2 a5 a6 a7 a8 a9 a10 X2 X5 X6 X7 X8 X9 X10) (Fin.ext ?_) (Fin.ext ?_)
    · show 16 + ch.val = 32 * (2 % 2) + 16 * ((128 + l.val) % 2) + ch.val
      omega
    · show 128 + (64 + l.val / 2) = 128 * (2 / 2) + (128 + l.val) / 2
      omega

theorem img30 (ch : Fin 16) (l : Fin 128) : bodyRun.sl.r_23 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = G13 i a2 a5 a6 a7 a8 a9 a10 X2 X5 X6 X7 X8 X9 X10 (ix4 0 3 ch ⟨0 + l.val, by omega⟩) := by
  unfold bodyRun.sl.r_23
  pointwise [k0_pay311, bodyRun.sl.v9]
  change Scalar.select _ (bodyRun.sl.r_21 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_22 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_21_at, r_22_at, lane_lo, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 32 + ch.val = 32 * (3 % 2) + 16 * ((l.val) % 2) + ch.val
      omega
    · show 128 + l.val / 2 = 128 * (3 / 2) + (l.val) / 2
      omega
  · rw [if_neg (by omega), sel_zero]
    refine congrArg₂ (velAt i a2 a5 a6 a7 a8 a9 a10 X2 X5 X6 X7 X8 X9 X10) (Fin.ext ?_) (Fin.ext ?_)
    · show 48 + ch.val = 32 * (3 % 2) + 16 * ((l.val) % 2) + ch.val
      omega
    · show 128 + l.val / 2 = 128 * (3 / 2) + (l.val) / 2
      omega

theorem img31 (ch : Fin 16) (l : Fin 128) : bodyRun.sl.r_25 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch l) = G13 i a2 a5 a6 a7 a8 a9 a10 X2 X5 X6 X7 X8 X9 X10 (ix4 0 3 ch ⟨128 + l.val, by omega⟩) := by
  unfold bodyRun.sl.r_25
  pointwise [k0_pay315, bodyRun.sl.v9]
  change Scalar.select _ (bodyRun.sl.r_21 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) (bodyRun.sl.r_22 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 (ix2 ch _)) = _
  simp only [r_21_at, r_22_at, lane_hi, lane_even]
  unfold G13
  rcases Nat.mod_two_eq_zero_or_one l.val with h | h
  · rw [if_pos h, sel_one]
    refine congrArg₂ (velAt i a2 a5 a6 a7 a8 a9 a10 X2 X5 X6 X7 X8 X9 X10) (Fin.ext ?_) (Fin.ext ?_)
    · show 32 + ch.val = 32 * (3 % 2) + 16 * ((128 + l.val) % 2) + ch.val
      omega
    · show 128 + (64 + l.val / 2) = 128 * (3 / 2) + (128 + l.val) / 2
      omega
  · rw [if_neg (by omega), sel_zero]
    refine congrArg₂ (velAt i a2 a5 a6 a7 a8 a9 a10 X2 X5 X6 X7 X8 X9 X10) (Fin.ext ?_) (Fin.ext ?_)
    · show 48 + ch.val = 32 * (3 % 2) + 16 * ((128 + l.val) % 2) + ch.val
      omega
    · show 128 + (64 + l.val / 2) = 128 * (3 / 2) + (128 + l.val) / 2
      omega

theorem v00 (ch : Fin 16) (l : Fin 128) : k0_pay273 (F := Ideal) bodyRun.sl.v9 (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay268 bodyRun.sl.v9) (k0_pay269 bodyRun.sl.v9) (k0_pay270 bodyRun.sl.v9) (ix4 0 0 ch l) = G13 i a2 a5 a6 a7 a8 a9 a10 X2 X5 X6 X7 X8 X9 X10 (ix4 0 ⟨0, by norm_num⟩ ch ⟨0 + l.val, by omega⟩) := by
  refine Eq.trans ?_ (img00 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay273]

theorem lat00 (ch : Fin 16) (l : Fin 128) : k0_pay272 (F := Ideal) (bodyRun.sl.r_3 (F := Ideal) i a3 a4 X3 X4) bodyRun.sl.v9 (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay268 bodyRun.sl.v9) (k0_pay269 bodyRun.sl.v9) (k0_pay270 bodyRun.sl.v9) (View.readAt (Elt Ideal) a11.view (Rect.unit (s := S1x4x16x256) ![0, 0, 0, 0] S1x1x16x128.size Gen.inb_S1x4x16x256_S1x1x16x128_0_0_0_0).toLoadRect X11) (ix4 0 0 ch l) = G12 i a2 a5 a6 a7 a8 a9 a10 X2 X5 X6 X7 X8 X9 X10 a3 a4 a11 X3 X4 X11 (ix4 0 ⟨0, by norm_num⟩ ch ⟨0 + l.val, by omega⟩) := by
  unfold G12
  rw [← readAt_img a11 Gen.inb_S1x4x16x256_S1x1x16x128_0_0_0_0 0 0 (by norm_num) (by norm_num) rfl X11 ch l]
  refine Eq.trans ?_ (congrArg (fun z => _ + _ * z) (img00 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  skip
  pointwise [k0_pay272]
  unfold bodyRun.sl.r_3 bodyRun.sl.r_1 bodyRun.sl.r_2 k0_pay258
  rfl

theorem v01 (ch : Fin 16) (l : Fin 128) : k0_pay278 (F := Ideal) bodyRun.sl.v9 (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay274 bodyRun.sl.v9) (k0_pay275 bodyRun.sl.v9) (ix4 0 0 ch l) = G13 i a2 a5 a6 a7 a8 a9 a10 X2 X5 X6 X7 X8 X9 X10 (ix4 0 ⟨0, by norm_num⟩ ch ⟨128 + l.val, by omega⟩) := by
  refine Eq.trans ?_ (img01 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay278]

theorem lat01 (ch : Fin 16) (l : Fin 128) : k0_pay277 (F := Ideal) (bodyRun.sl.r_3 (F := Ideal) i a3 a4 X3 X4) bodyRun.sl.v9 (bodyRun.sl.r_7 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_8 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay274 bodyRun.sl.v9) (k0_pay275 bodyRun.sl.v9) (View.readAt (Elt Ideal) a11.view (Rect.unit (s := S1x4x16x256) ![0, 0, 0, 128] S1x1x16x128.size Gen.inb_S1x4x16x256_S1x1x16x128_0_0_0_128).toLoadRect X11) (ix4 0 0 ch l) = G12 i a2 a5 a6 a7 a8 a9 a10 X2 X5 X6 X7 X8 X9 X10 a3 a4 a11 X3 X4 X11 (ix4 0 ⟨0, by norm_num⟩ ch ⟨128 + l.val, by omega⟩) := by
  unfold G12
  rw [← readAt_img a11 Gen.inb_S1x4x16x256_S1x1x16x128_0_0_0_128 0 128 (by norm_num) (by norm_num) rfl X11 ch l]
  refine Eq.trans ?_ (congrArg (fun z => _ + _ * z) (img01 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  skip
  pointwise [k0_pay277]
  unfold bodyRun.sl.r_3 bodyRun.sl.r_1 bodyRun.sl.r_2 k0_pay258
  rfl

theorem v10 (ch : Fin 16) (l : Fin 128) : k0_pay286 (F := Ideal) bodyRun.sl.v9 (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay281 bodyRun.sl.v9) (k0_pay282 bodyRun.sl.v9) (k0_pay283 bodyRun.sl.v9) (ix4 0 0 ch l) = G13 i a2 a5 a6 a7 a8 a9 a10 X2 X5 X6 X7 X8 X9 X10 (ix4 0 ⟨1, by norm_num⟩ ch ⟨0 + l.val, by omega⟩) := by
  refine Eq.trans ?_ (img10 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay286]

theorem lat10 (ch : Fin 16) (l : Fin 128) : k0_pay285 (F := Ideal) (bodyRun.sl.r_3 (F := Ideal) i a3 a4 X3 X4) bodyRun.sl.v9 (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay281 bodyRun.sl.v9) (k0_pay282 bodyRun.sl.v9) (k0_pay283 bodyRun.sl.v9) (View.readAt (Elt Ideal) a11.view (Rect.unit (s := S1x4x16x256) ![0, 1, 0, 0] S1x1x16x128.size Gen.inb_S1x4x16x256_S1x1x16x128_0_1_0_0).toLoadRect X11) (ix4 0 0 ch l) = G12 i a2 a5 a6 a7 a8 a9 a10 X2 X5 X6 X7 X8 X9 X10 a3 a4 a11 X3 X4 X11 (ix4 0 ⟨1, by norm_num⟩ ch ⟨0 + l.val, by omega⟩) := by
  unfold G12
  rw [← readAt_img a11 Gen.inb_S1x4x16x256_S1x1x16x128_0_1_0_0 1 0 (by norm_num) (by norm_num) rfl X11 ch l]
  refine Eq.trans ?_ (congrArg (fun z => _ + _ * z) (img10 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  skip
  pointwise [k0_pay285]
  unfold bodyRun.sl.r_3 bodyRun.sl.r_1 bodyRun.sl.r_2 k0_pay258
  rfl

theorem v11 (ch : Fin 16) (l : Fin 128) : k0_pay291 (F := Ideal) bodyRun.sl.v9 (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay287 bodyRun.sl.v9) (k0_pay288 bodyRun.sl.v9) (ix4 0 0 ch l) = G13 i a2 a5 a6 a7 a8 a9 a10 X2 X5 X6 X7 X8 X9 X10 (ix4 0 ⟨1, by norm_num⟩ ch ⟨128 + l.val, by omega⟩) := by
  refine Eq.trans ?_ (img11 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay291]

theorem lat11 (ch : Fin 16) (l : Fin 128) : k0_pay290 (F := Ideal) (bodyRun.sl.r_3 (F := Ideal) i a3 a4 X3 X4) bodyRun.sl.v9 (bodyRun.sl.r_9 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (bodyRun.sl.r_10 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (k0_pay287 bodyRun.sl.v9) (k0_pay288 bodyRun.sl.v9) (View.readAt (Elt Ideal) a11.view (Rect.unit (s := S1x4x16x256) ![0, 1, 0, 128] S1x1x16x128.size Gen.inb_S1x4x16x256_S1x1x16x128_0_1_0_128).toLoadRect X11) (ix4 0 0 ch l) = G12 i a2 a5 a6 a7 a8 a9 a10 X2 X5 X6 X7 X8 X9 X10 a3 a4 a11 X3 X4 X11 (ix4 0 ⟨1, by norm_num⟩ ch ⟨128 + l.val, by omega⟩) := by
  unfold G12
  rw [← readAt_img a11 Gen.inb_S1x4x16x256_S1x1x16x128_0_1_0_128 1 128 (by norm_num) (by norm_num) rfl X11 ch l]
  refine Eq.trans ?_ (congrArg (fun z => _ + _ * z) (img11 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  skip
  pointwise [k0_pay290]
  unfold bodyRun.sl.r_3 bodyRun.sl.r_1 bodyRun.sl.r_2 k0_pay258
  rfl

theorem v20 (ch : Fin 16) (l : Fin 128) : k0_pay305 (F := Ideal) (bodyRun.sl.r_17 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (ix4 0 0 ch l) = G13 i a2 a5 a6 a7 a8 a9 a10 X2 X5 X6 X7 X8 X9 X10 (ix4 0 ⟨2, by norm_num⟩ ch ⟨0 + l.val, by omega⟩) := by
  refine Eq.trans ?_ (img20 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay305]

theorem lat20 (ch : Fin 16) (l : Fin 128) : k0_pay304 (F := Ideal) (bodyRun.sl.r_18 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17) (ix4 0 0 ch l) = G12 i a2 a5 a6 a7 a8 a9 a10 X2 X5 X6 X7 X8 X9 X10 a3 a4 a11 X3 X4 X11 (ix4 0 ⟨2, by norm_num⟩ ch ⟨0 + l.val, by omega⟩) := by
  unfold G12
  rw [← readAt_img a11 Gen.inb_S1x4x16x256_S1x1x16x128_0_2_0_0 2 0 (by norm_num) (by norm_num) rfl X11 ch l]
  refine Eq.trans ?_ (congrArg (fun z => _ + _ * z) (img20 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  unfold bodyRun.sl.r_18 bodyRun.sl.r_17
  pointwise [k0_pay304, k0_pay303]
  unfold bodyRun.sl.r_3 bodyRun.sl.r_1 bodyRun.sl.r_2 k0_pay258
  rfl

theorem v21 (ch : Fin 16) (l : Fin 128) : k0_pay308 (F := Ideal) (bodyRun.sl.r_19 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (ix4 0 0 ch l) = G13 i a2 a5 a6 a7 a8 a9 a10 X2 X5 X6 X7 X8 X9 X10 (ix4 0 ⟨2, by norm_num⟩ ch ⟨128 + l.val, by omega⟩) := by
  refine Eq.trans ?_ (img21 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay308]

theorem lat21 (ch : Fin 16) (l : Fin 128) : bodyRun.sl.r_20 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17 (ix4 0 0 ch l) = G12 i a2 a5 a6 a7 a8 a9 a10 X2 X5 X6 X7 X8 X9 X10 a3 a4 a11 X3 X4 X11 (ix4 0 ⟨2, by norm_num⟩ ch ⟨128 + l.val, by omega⟩) := by
  unfold G12
  rw [← readAt_img a11 Gen.inb_S1x4x16x256_S1x1x16x128_0_2_0_128 2 128 (by norm_num) (by norm_num) rfl X11 ch l]
  refine Eq.trans ?_ (congrArg (fun z => _ + _ * z) (img21 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  unfold bodyRun.sl.r_20 bodyRun.sl.r_19
  pointwise [k0_pay307]
  unfold bodyRun.sl.r_3 bodyRun.sl.r_1 bodyRun.sl.r_2 k0_pay258
  rfl

theorem v30 (ch : Fin 16) (l : Fin 128) : k0_pay314 (F := Ideal) (bodyRun.sl.r_23 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (ix4 0 0 ch l) = G13 i a2 a5 a6 a7 a8 a9 a10 X2 X5 X6 X7 X8 X9 X10 (ix4 0 ⟨3, by norm_num⟩ ch ⟨0 + l.val, by omega⟩) := by
  refine Eq.trans ?_ (img30 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay314]

theorem lat30 (ch : Fin 16) (l : Fin 128) : k0_pay313 (F := Ideal) (bodyRun.sl.r_24 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17) (ix4 0 0 ch l) = G12 i a2 a5 a6 a7 a8 a9 a10 X2 X5 X6 X7 X8 X9 X10 a3 a4 a11 X3 X4 X11 (ix4 0 ⟨3, by norm_num⟩ ch ⟨0 + l.val, by omega⟩) := by
  unfold G12
  rw [← readAt_img a11 Gen.inb_S1x4x16x256_S1x1x16x128_0_3_0_0 3 0 (by norm_num) (by norm_num) rfl X11 ch l]
  refine Eq.trans ?_ (congrArg (fun z => _ + _ * z) (img30 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  unfold bodyRun.sl.r_24 bodyRun.sl.r_23
  pointwise [k0_pay313, k0_pay312]
  unfold bodyRun.sl.r_3 bodyRun.sl.r_1 bodyRun.sl.r_2 k0_pay258
  rfl

theorem v31 (ch : Fin 16) (l : Fin 128) : k0_pay1 (F := Ideal) (bodyRun.sl.r_25 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17) (ix4 0 0 ch l) = G13 i a2 a5 a6 a7 a8 a9 a10 X2 X5 X6 X7 X8 X9 X10 (ix4 0 ⟨3, by norm_num⟩ ch ⟨128 + l.val, by omega⟩) := by
  refine Eq.trans ?_ (img31 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l)
  pointwise [k0_pay1]

theorem lat31 (ch : Fin 16) (l : Fin 128) : bodyRun.sl.r_26 (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17 (ix4 0 0 ch l) = G12 i a2 a5 a6 a7 a8 a9 a10 X2 X5 X6 X7 X8 X9 X10 a3 a4 a11 X3 X4 X11 (ix4 0 ⟨3, by norm_num⟩ ch ⟨128 + l.val, by omega⟩) := by
  unfold G12
  rw [← readAt_img a11 Gen.inb_S1x4x16x256_S1x1x16x128_0_3_0_128 3 128 (by norm_num) (by norm_num) rfl X11 ch l]
  refine Eq.trans ?_ (congrArg (fun z => _ + _ * z) (img31 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17 ch l))
  unfold bodyRun.sl.r_26 bodyRun.sl.r_25
  pointwise [k0_pay316]
  unfold bodyRun.sl.r_3 bodyRun.sl.r_1 bodyRun.sl.r_2 k0_pay258
  rfl

theorem agree12 : ∀ q ∈ (bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).1 f12 f13 f14 f15 f16 f17, ∀ x, q.2 x = G12 i a2 a5 a6 a7 a8 a9 a10 X2 X5 X6 X7 X8 X9 X10 a3 a4 a11 X3 X4 X11 (q.1.emb x) := by
  unfold bodyRun
  dsimp only
  refine List.forall_mem_cons.2 ⟨img_agree Gen.inb_S1x4x16x256_S1x1x16x128_0_3_0_128 3 128 (by norm_num) (by norm_num) rfl (G12 i a2 a5 a6 a7 a8 a9 a10 X2 X5 X6 X7 X8 X9 X10 a3 a4 a11 X3 X4 X11) _ (lat31 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_3_0_0 3 0 (by norm_num) (by norm_num) rfl (G12 i a2 a5 a6 a7 a8 a9 a10 X2 X5 X6 X7 X8 X9 X10 a3 a4 a11 X3 X4 X11) _ (lat30 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_2_0_128 2 128 (by norm_num) (by norm_num) rfl (G12 i a2 a5 a6 a7 a8 a9 a10 X2 X5 X6 X7 X8 X9 X10 a3 a4 a11 X3 X4 X11) _ (lat21 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_2_0_0 2 0 (by norm_num) (by norm_num) rfl (G12 i a2 a5 a6 a7 a8 a9 a10 X2 X5 X6 X7 X8 X9 X10 a3 a4 a11 X3 X4 X11) _ (lat20 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_1_0_128 1 128 (by norm_num) (by norm_num) rfl (G12 i a2 a5 a6 a7 a8 a9 a10 X2 X5 X6 X7 X8 X9 X10 a3 a4 a11 X3 X4 X11) _ (lat11 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_1_0_0 1 0 (by norm_num) (by norm_num) rfl (G12 i a2 a5 a6 a7 a8 a9 a10 X2 X5 X6 X7 X8 X9 X10 a3 a4 a11 X3 X4 X11) _ (lat10 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_0_0_128 0 128 (by norm_num) (by norm_num) rfl (G12 i a2 a5 a6 a7 a8 a9 a10 X2 X5 X6 X7 X8 X9 X10 a3 a4 a11 X3 X4 X11) _ (lat01 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  refine List.forall_mem_cons.2 ⟨img_agree Gen.inb_S1x4x16x256_S1x1x16x128_0_0_0_0 0 0 (by norm_num) (by norm_num) rfl (G12 i a2 a5 a6 a7 a8 a9 a10 X2 X5 X6 X7 X8 X9 X10 a3 a4 a11 X3 X4 X11) _ (lat00 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f14 f16 f17), ?_⟩
  exact fun q hq => absurd hq List.not_mem_nil

theorem cover12 (y : S1x4x16x256.Idx) : ∃ q ∈ (bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).1 f12 f13 f14 f15 f16 f17, y ∈ q.1.set := by
  obtain ⟨a, ch, b, rfl⟩ : ∃ a : Fin 4, ∃ ch : Fin 16, ∃ b : Fin 256, y = ix4 0 a ch b := by
    refine ⟨y 1, y 2, y 3, ?_⟩
    funext a
    fin_cases a
    · exact Subsingleton.elim (α := Fin 1) _ _
    · rfl
    · rfl
    · rfl
  unfold bodyRun
  dsimp only
  obtain ⟨l, hl⟩ : ∃ l : Fin 128, b = ⟨0 + l.val, by omega⟩ ∨ b = ⟨128 + l.val, by omega⟩ := by
    by_cases hb : b.val < 128
    · exact ⟨⟨b.val, hb⟩, Or.inl (Fin.ext (Nat.zero_add _).symm)⟩
    · exact ⟨⟨b.val - 128, by omega⟩, Or.inr (Fin.ext (by show b.val = 128 + (b.val - 128); omega))⟩
  obtain ⟨a, ha⟩ := a
  interval_cases a <;> rcases hl with rfl | rfl
  · exact ⟨_, .tail _ (.tail _ (.tail _ (.tail _ (.tail _ (.tail _ (.tail _ (.head _))))))), img_mem Gen.inb_S1x4x16x256_S1x1x16x128_0_0_0_0 0 0 (by norm_num) (by norm_num) rfl ch l⟩
  · exact ⟨_, .tail _ (.tail _ (.tail _ (.tail _ (.tail _ (.tail _ (.head _)))))), img_mem Gen.inb_S1x4x16x256_S1x1x16x128_0_0_0_128 0 128 (by norm_num) (by norm_num) rfl ch l⟩
  · exact ⟨_, .tail _ (.tail _ (.tail _ (.tail _ (.tail _ (.head _))))), img_mem Gen.inb_S1x4x16x256_S1x1x16x128_0_1_0_0 1 0 (by norm_num) (by norm_num) rfl ch l⟩
  · exact ⟨_, .tail _ (.tail _ (.tail _ (.tail _ (.head _)))), img_mem Gen.inb_S1x4x16x256_S1x1x16x128_0_1_0_128 1 128 (by norm_num) (by norm_num) rfl ch l⟩
  · exact ⟨_, .tail _ (.tail _ (.tail _ (.head _))), img_mem Gen.inb_S1x4x16x256_S1x1x16x128_0_2_0_0 2 0 (by norm_num) (by norm_num) rfl ch l⟩
  · exact ⟨_, .tail _ (.tail _ (.head _)), img_mem Gen.inb_S1x4x16x256_S1x1x16x128_0_2_0_128 2 128 (by norm_num) (by norm_num) rfl ch l⟩
  · exact ⟨_, .tail _ (.head _), img_mem Gen.inb_S1x4x16x256_S1x1x16x128_0_3_0_0 3 0 (by norm_num) (by norm_num) rfl ch l⟩
  · exact ⟨_, .head _, img_mem Gen.inb_S1x4x16x256_S1x1x16x128_0_3_0_128 3 128 (by norm_num) (by norm_num) rfl ch l⟩

theorem read12 : a12.view.read (Elt Ideal) (a12.view.writes (Elt Ideal) f12 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).1 f12 f13 f14 f15 f16 f17)) = G12 i a2 a5 a6 a7 a8 a9 a10 X2 X5 X6 X7 X8 X9 X10 a3 a4 a11 X3 X4 X11 :=
  funext fun y => View.read_writes_apply_of_pieces a12.view f12 (G12 i a2 a5 a6 a7 a8 a9 a10 X2 X5 X6 X7 X8 X9 X10 a3 a4 a11 X3 X4 X11) _ (agree12 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f12 f13 f14 f15 f16 f17) y (cover12 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f12 f13 f14 f15 f16 f17 y)

theorem agree13 : ∀ q ∈ (bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.1 f12 f13 f14 f15 f16 f17, ∀ x, q.2 x = G13 i a2 a5 a6 a7 a8 a9 a10 X2 X5 X6 X7 X8 X9 X10 (q.1.emb x) := by
  unfold bodyRun
  dsimp only
  refine List.forall_mem_cons.2 ⟨img_agree Gen.inb_S1x4x16x256_S1x1x16x128_0_3_0_128 3 128 (by norm_num) (by norm_num) rfl (G13 i a2 a5 a6 a7 a8 a9 a10 X2 X5 X6 X7 X8 X9 X10) _ (v31 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_3_0_0 3 0 (by norm_num) (by norm_num) rfl (G13 i a2 a5 a6 a7 a8 a9 a10 X2 X5 X6 X7 X8 X9 X10) _ (v30 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_2_0_128 2 128 (by norm_num) (by norm_num) rfl (G13 i a2 a5 a6 a7 a8 a9 a10 X2 X5 X6 X7 X8 X9 X10) _ (v21 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_2_0_0 2 0 (by norm_num) (by norm_num) rfl (G13 i a2 a5 a6 a7 a8 a9 a10 X2 X5 X6 X7 X8 X9 X10) _ (v20 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_1_0_128 1 128 (by norm_num) (by norm_num) rfl (G13 i a2 a5 a6 a7 a8 a9 a10 X2 X5 X6 X7 X8 X9 X10) _ (v11 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_1_0_0 1 0 (by norm_num) (by norm_num) rfl (G13 i a2 a5 a6 a7 a8 a9 a10 X2 X5 X6 X7 X8 X9 X10) _ (v10 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_0_0_128 0 128 (by norm_num) (by norm_num) rfl (G13 i a2 a5 a6 a7 a8 a9 a10 X2 X5 X6 X7 X8 X9 X10) _ (v01 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  refine List.forall_mem_cons.2 ⟨img_agree Gen.inb_S1x4x16x256_S1x1x16x128_0_0_0_0 0 0 (by norm_num) (by norm_num) rfl (G13 i a2 a5 a6 a7 a8 a9 a10 X2 X5 X6 X7 X8 X9 X10) _ (v00 c i a2 ha2 a3 ha3 a4 ha4 a5 ha5 a6 ha6 a7 ha7 a8 ha8 a9 ha9 a10 ha10 a11 ha11 a12 ha12 a13 ha13 a14 ha14 a15 ha15 a16 ha16 a17 ha17 X2 X5 X6 X7 X8 X9 X10 f14 f16 f17), ?_⟩
  exact fun q hq => absurd hq List.not_mem_nil

theorem cover13 (y : S1x4x16x256.Idx) : ∃ q ∈ (bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.1 f12 f13 f14 f15 f16 f17, y ∈ q.1.set := by
  obtain ⟨a, ch, b, rfl⟩ : ∃ a : Fin 4, ∃ ch : Fin 16, ∃ b : Fin 256, y = ix4 0 a ch b := by
    refine ⟨y 1, y 2, y 3, ?_⟩
    funext a
    fin_cases a
    · exact Subsingleton.elim (α := Fin 1) _ _
    · rfl
    · rfl
    · rfl
  unfold bodyRun
  dsimp only
  obtain ⟨l, hl⟩ : ∃ l : Fin 128, b = ⟨0 + l.val, by omega⟩ ∨ b = ⟨128 + l.val, by omega⟩ := by
    by_cases hb : b.val < 128
    · exact ⟨⟨b.val, hb⟩, Or.inl (Fin.ext (Nat.zero_add _).symm)⟩
    · exact ⟨⟨b.val - 128, by omega⟩, Or.inr (Fin.ext (by show b.val = 128 + (b.val - 128); omega))⟩
  obtain ⟨a, ha⟩ := a
  interval_cases a <;> rcases hl with rfl | rfl
  · exact ⟨_, .tail _ (.tail _ (.tail _ (.tail _ (.tail _ (.tail _ (.tail _ (.head _))))))), img_mem Gen.inb_S1x4x16x256_S1x1x16x128_0_0_0_0 0 0 (by norm_num) (by norm_num) rfl ch l⟩
  · exact ⟨_, .tail _ (.tail _ (.tail _ (.tail _ (.tail _ (.tail _ (.head _)))))), img_mem Gen.inb_S1x4x16x256_S1x1x16x128_0_0_0_128 0 128 (by norm_num) (by norm_num) rfl ch l⟩
  · exact ⟨_, .tail _ (.tail _ (.tail _ (.tail _ (.tail _ (.head _))))), img_mem Gen.inb_S1x4x16x256_S1x1x16x128_0_1_0_0 1 0 (by norm_num) (by norm_num) rfl ch l⟩
  · exact ⟨_, .tail _ (.tail _ (.tail _ (.tail _ (.head _)))), img_mem Gen.inb_S1x4x16x256_S1x1x16x128_0_1_0_128 1 128 (by norm_num) (by norm_num) rfl ch l⟩
  · exact ⟨_, .tail _ (.tail _ (.tail _ (.head _))), img_mem Gen.inb_S1x4x16x256_S1x1x16x128_0_2_0_0 2 0 (by norm_num) (by norm_num) rfl ch l⟩
  · exact ⟨_, .tail _ (.tail _ (.head _)), img_mem Gen.inb_S1x4x16x256_S1x1x16x128_0_2_0_128 2 128 (by norm_num) (by norm_num) rfl ch l⟩
  · exact ⟨_, .tail _ (.head _), img_mem Gen.inb_S1x4x16x256_S1x1x16x128_0_3_0_0 3 0 (by norm_num) (by norm_num) rfl ch l⟩
  · exact ⟨_, .head _, img_mem Gen.inb_S1x4x16x256_S1x1x16x128_0_3_0_128 3 128 (by norm_num) (by norm_num) rfl ch l⟩

theorem read13 : a13.view.read (Elt Ideal) (a13.view.writes (Elt Ideal) f13 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.1 f12 f13 f14 f15 f16 f17)) = G13 i a2 a5 a6 a7 a8 a9 a10 X2 X5 X6 X7 X8 X9 X10 :=
  funext fun y => View.read_writes_apply_of_pieces a13.view f13 (G13 i a2 a5 a6 a7 a8 a9 a10 X2 X5 X6 X7 X8 X9 X10) _ (agree13 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f12 f13 f14 f15 f16 f17) y (cover13 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f12 f13 f14 f15 f16 f17 y)

theorem sc1_128 (l : Fin 128) : k0_pay297 (F := Ideal) (bodyRun.sl.v237 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17) (ix3 0 0 l) = G15 a5 a6 a7 X5 X6 X7 (ix3 0 ⟨1, by norm_num⟩ ⟨128 + l.val, by omega⟩) := by
  refine Eq.trans ?_ (v237_at c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 l)
  pointwise [k0_pay297, k0_pay296]

theorem sc0_128 (l : Fin 128) : k0_pay294 (F := Ideal) (bodyRun.sl.v215 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17) (ix3 0 0 l) = G15 a5 a6 a7 X5 X6 X7 (ix3 0 ⟨0, by norm_num⟩ ⟨128 + l.val, by omega⟩) := by
  refine Eq.trans ?_ (v215_at c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 l)
  pointwise [k0_pay294, k0_pay293]

theorem sc1_0 (l : Fin 128) : k0_pay264 (F := Ideal) (bodyRun.sl.v37 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17) (ix3 0 0 l) = G15 a5 a6 a7 X5 X6 X7 (ix3 0 ⟨1, by norm_num⟩ ⟨0 + l.val, by omega⟩) := by
  refine Eq.trans ?_ (v37_at c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 l)
  pointwise [k0_pay264, k0_pay263]

theorem sc0_0 (l : Fin 128) : k0_pay260 (F := Ideal) (bodyRun.sl.v15 (F := Ideal) c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17) (ix3 0 0 l) = G15 a5 a6 a7 X5 X6 X7 (ix3 0 ⟨0, by norm_num⟩ ⟨0 + l.val, by omega⟩) := by
  refine Eq.trans ?_ (v15_at c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 l)
  pointwise [k0_pay260, k0_pay259]

theorem agree15 : ∀ q ∈ (bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.2.2.1 f12 f13 f14 f15 f16 f17, ∀ x, q.2 x = G15 a5 a6 a7 X5 X6 X7 (q.1.emb x) := by
  unfold bodyRun
  dsimp only
  refine List.forall_mem_cons.2 ⟨sc_agree Gen.inb_S1x2x256_S1x1x128_0_1_128 1 128 (by norm_num) (by norm_num) rfl (G15 a5 a6 a7 X5 X6 X7) _ (sc1_128 c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17), ?_⟩
  refine List.forall_mem_cons.2 ⟨sc_agree Gen.inb_S1x2x256_S1x1x128_0_0_128 0 128 (by norm_num) (by norm_num) rfl (G15 a5 a6 a7 X5 X6 X7) _ (sc0_128 c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17), ?_⟩
  refine List.forall_mem_cons.2 ⟨sc_agree Gen.inb_S1x2x256_S1x1x128_0_1_0 1 0 (by norm_num) (by norm_num) rfl (G15 a5 a6 a7 X5 X6 X7) _ (sc1_0 c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17), ?_⟩
  refine List.forall_mem_cons.2 ⟨sc_agree Gen.inb_S1x2x256_S1x1x128_0_0_0 0 0 (by norm_num) (by norm_num) rfl (G15 a5 a6 a7 X5 X6 X7) _ (sc0_0 c i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17), ?_⟩
  exact fun q hq => absurd hq List.not_mem_nil

theorem cover15 (y : S1x2x256.Idx) : ∃ q ∈ (bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.2.2.1 f12 f13 f14 f15 f16 f17, y ∈ q.1.set := by
  obtain ⟨a, b, rfl⟩ : ∃ a : Fin 2, ∃ b : Fin 256, y = ix3 0 a b := by
    refine ⟨y 1, y 2, ?_⟩
    funext a
    fin_cases a
    · exact Subsingleton.elim (α := Fin 1) _ _
    · rfl
    · rfl
  unfold bodyRun
  dsimp only
  obtain ⟨l, hl⟩ : ∃ l : Fin 128, b = ⟨0 + l.val, by omega⟩ ∨ b = ⟨128 + l.val, by omega⟩ := by
    by_cases hb : b.val < 128
    · exact ⟨⟨b.val, hb⟩, Or.inl (Fin.ext (Nat.zero_add _).symm)⟩
    · exact ⟨⟨b.val - 128, by omega⟩, Or.inr (Fin.ext (by show b.val = 128 + (b.val - 128); omega))⟩
  obtain ⟨a, ha⟩ := a
  interval_cases a <;> rcases hl with rfl | rfl
  · exact ⟨_, .tail _ (.tail _ (.tail _ (.head _))), sc_mem Gen.inb_S1x2x256_S1x1x128_0_0_0 0 0 (by norm_num) (by norm_num) rfl l⟩
  · exact ⟨_, .tail _ (.head _), sc_mem Gen.inb_S1x2x256_S1x1x128_0_0_128 0 128 (by norm_num) (by norm_num) rfl l⟩
  · exact ⟨_, .tail _ (.tail _ (.head _)), sc_mem Gen.inb_S1x2x256_S1x1x128_0_1_0 1 0 (by norm_num) (by norm_num) rfl l⟩
  · exact ⟨_, .head _, sc_mem Gen.inb_S1x2x256_S1x1x128_0_1_128 1 128 (by norm_num) (by norm_num) rfl l⟩

theorem read15 : a15.view.read (Elt Ideal) (a15.view.writes (Elt Ideal) f15 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.2.2.1 f12 f13 f14 f15 f16 f17)) = G15 a5 a6 a7 X5 X6 X7 :=
  funext fun y => View.read_writes_apply_of_pieces a15.view f15 (G15 a5 a6 a7 X5 X6 X7) _ (agree15 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f12 f13 f14 f15 f16 f17) y (cover15 c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11 f12 f13 f14 f15 f16 f17 y)

theorem read14 : a14.view.read (Elt Ideal) (a14.view.writes (Elt Ideal) f14 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 X2 X3 X4 X5 X6 X7 X8 X9 X10 X11).2.2.1 f12 f13 f14 f15 f16 f17)) = G14 a5 a6 a7 X5 X6 X7 := by
  funext y
  unfold bodyRun
  exact codes_after Variants.none c none i a2 ha2 a3 ha3 a4 ha4 a5 ha5 a6 ha6 a7 ha7 a8 ha8 a9 ha9 a10 ha10 a11 ha11 a12 ha12 a13 ha13 a14 ha14 a15 ha15 a16 ha16 a17 ha17 X5 X6 X7 f14 f16 f17 _ _ _ _ _

end body

end Cert.KernelIdeal

end
-- ==== Proof.Run.lean ====
/- The run of the kernel: the block of results each grid point leaves, as functions of that point's input blocks alone,
   and the launch over the whole grid. -/
module

public import proofs.«01_k».proof.Proof.BodyValue
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- The codes of a block of tokens. -/
def B14 (x : S1x2x256x3072.Idx → EReal) (sh sc : S1x2x3072.Idx → EReal) (y : S1x2x256x3072.Idx) : EReal :=
  rowCode (fun d => x (ix4 0 (y 1) (y 2) d)) (fun d => sc (ix3 0 (y 1) d)) (fun d => sh (ix3 0 (y 1) d)) (y 3)

/-- The scales of a block of tokens. -/
def B15 (x : S1x2x256x3072.Idx → EReal) (sh sc : S1x2x3072.Idx → EReal) (y : S1x2x256.Idx) : EReal :=
  rowScale (fun d => x (ix4 0 (y 1) (y 2) d)) (fun d => sc (ix3 0 (y 1) d)) (fun d => sh (ix3 0 (y 1) d))

/-- Output `n` of the projection of row `r` of plane `p` of a block. -/
def BProj (x : S1x2x256x3072.Idx → EReal) (sh sc : S1x2x3072.Idx → EReal) (w : S64x3072.Idx → EReal)
    (ws b : S64x1.Idx → EReal) (p : Fin 2) (n : Fin 64) (r : Fin 256) : EReal :=
  (∑ d : Fin 3072, w (ix2 n d) * B14 x sh sc (ix4 0 p r d)) * B15 x sh sc (ix3 0 p r) * ws (ix2 n 0) + b (ix2 n 0)

/-- The two planes of a block combined under the guidance weight. -/
def BVel (g : EReal) (x : S1x2x256x3072.Idx → EReal) (sh sc : S1x2x3072.Idx → EReal) (w : S64x3072.Idx → EReal)
    (ws b : S64x1.Idx → EReal) (n : Fin 64) (r : Fin 256) : EReal :=
  BProj x sh sc w ws b 1 n r + g * (BProj x sh sc w ws b 0 n r - BProj x sh sc w ws b 1 n r)

/-- The velocity image of a block. -/
def B13 (g : EReal) (x : S1x2x256x3072.Idx → EReal) (sh sc : S1x2x3072.Idx → EReal) (w : S64x3072.Idx → EReal)
    (ws b : S64x1.Idx → EReal) (y : S1x4x16x256.Idx) : EReal :=
  BVel g x sh sc w ws b
    ⟨32 * ((y 1 : Fin 4).val % 2) + 16 * ((y 3 : Fin 256).val % 2) + (y 2 : Fin 16).val, by
      have h2 : (y 2 : Fin 16).val < 16 := (y 2 : Fin 16).isLt; omega⟩
    ⟨128 * ((y 1 : Fin 4).val / 2) + (y 3 : Fin 256).val / 2, by
      have h1 : (y 1 : Fin 4).val < 4 := (y 1 : Fin 4).isLt; have h3 : (y 3 : Fin 256).val < 256 := (y 3 : Fin 256).isLt; omega⟩

/-- The next latents of a block. -/
def B12 (g t t' : EReal) (x : S1x2x256x3072.Idx → EReal) (sh sc : S1x2x3072.Idx → EReal) (w : S64x3072.Idx → EReal)
    (ws b : S64x1.Idx → EReal) (lat : S1x4x16x256.Idx → EReal) (y : S1x4x16x256.Idx) : EReal :=
  lat y + (t' - t) * B13 g x sh sc w ws b y

/-- The batch element a grid point works on. -/
abbrev bat (i : grid0.Coords) : Fin 3 := ⟨(i 0).val, (i 0).isLt⟩

theorem sval_unread (m : Memref sig .tc .smem S3 .f32) (hm : m.IsWhole) (X : S3.Idx → EReal) (i : grid0.Coords) :
    sval m (hm.unread X) i = X (ix1 (bat i)) := by
  unfold sval
  rw [View.readAt_apply, hm.read_unread]
  refine congrArg X ?_
  funext a
  apply Fin.ext
  refine (ValueKit.rect_emb_unit_val _ _ _ _ _).trans ?_
  fin_cases a
  have h : (i 0).val < 3 := (i 0).isLt
  show k0_off51 i 0 + _ = (i 0).val
  have e : k0_off51 i 0 = (i 0).val := by
    unfold k0_off51 Scalar.indexCast
    show (BitVec.ofNat 32 (i 0).val).toNat = _
    rw [BitVec.toNat_ofNat]
    omega
  rw [e]
  rfl

section
variable (i : grid0.Coords)
  (a2 : Memref sig .tc .smem S3 .f32) (ha2 : a2.IsWhole) (a3 : Memref sig .tc .smem S3 .f32) (ha3 : a3.IsWhole) (a4 : Memref sig .tc .smem S3 .f32) (ha4 : a4.IsWhole) (a5 : Memref sig .tc .vmem S1x2x256x3072 .bf16) (ha5 : a5.IsWhole) (a6 : Memref sig .tc .vmem S1x2x3072 .f32) (ha6 : a6.IsWhole) (a7 : Memref sig .tc .vmem S1x2x3072 .f32) (ha7 : a7.IsWhole) (a8 : Memref sig .tc .vmem S64x3072 .fp8e4m3) (ha8 : a8.IsWhole) (a9 : Memref sig .tc .vmem S64x1 .f32) (ha9 : a9.IsWhole) (a10 : Memref sig .tc .vmem S64x1 .f32) (ha10 : a10.IsWhole) (a11 : Memref sig .tc .vmem S1x4x16x256 .f32) (ha11 : a11.IsWhole) (a12 : Memref sig .tc .vmem S1x4x16x256 .f32) (ha12 : a12.IsWhole) (a13 : Memref sig .tc .vmem S1x4x16x256 .bf16) (ha13 : a13.IsWhole) (a14 : Memref sig .tc .vmem S1x2x256x3072 .fp8e4m3) (ha14 : a14.IsWhole) (a15 : Memref sig .tc .vmem S1x2x256 .f32) (ha15 : a15.IsWhole) (a16 : Memref sig .tc .vmem S32x3072 .f32) (ha16 : a16.IsWhole) (a17 : Memref sig .tc .vmem S2x256x128 .f32) (ha17 : a17.IsWhole)
  (x2 : Vec Ideal S3 .f32)
  (x3 : Vec Ideal S3 .f32)
  (x4 : Vec Ideal S3 .f32)
  (x5 : Vec Ideal S1x2x256x3072 .bf16)
  (x6 : Vec Ideal S1x2x3072 .f32)
  (x7 : Vec Ideal S1x2x3072 .f32)
  (x8 : Vec Ideal S64x3072 .fp8e4m3)
  (x9 : Vec Ideal S64x1 .f32)
  (x10 : Vec Ideal S64x1 .f32)
  (x11 : Vec Ideal S1x4x16x256 .f32)

theorem g14_eq : G14 a5 a6 a7 (ha5.unread x5) (ha6.unread x6) (ha7.unread x7) = B14 x5 x6 x7 := by
  funext y
  unfold G14 xrow arow B14
  simp only [ha5.read_unread, ha6.read_unread, ha7.read_unread]

theorem g15_eq : G15 a5 a6 a7 (ha5.unread x5) (ha6.unread x6) (ha7.unread x7) = B15 x5 x6 x7 := by
  funext y
  unfold G15 G17 xrow arow B15
  simp only [ha5.read_unread, ha6.read_unread, ha7.read_unread]
  rfl

theorem proj_eq (p n r) : projAt a5 a6 a7 a8 a9 a10 (ha5.unread x5) (ha6.unread x6) (ha7.unread x7) (ha8.unread x8) (ha9.unread x9) (ha10.unread x10) p n r = BProj x5 x6 x7 x8 x9 x10 p n r := by
  unfold projAt BProj
  rw [g14_eq]
  rw [show G17 a5 a6 a7 (ha5.unread x5) (ha6.unread x6) (ha7.unread x7) (ix3 p r 0) = B15 x5 x6 x7 (ix3 0 p r) from by
    rw [← g15_eq a5 ha5 a6 ha6 a7 ha7]; rfl]
  simp only [ha8.read_unread, ha9.read_unread, ha10.read_unread]

theorem g13_eq : G13 i a2 a5 a6 a7 a8 a9 a10 (ha2.unread x2) (ha5.unread x5) (ha6.unread x6) (ha7.unread x7) (ha8.unread x8) (ha9.unread x9) (ha10.unread x10) = B13 (x2 (ix1 (bat i))) x5 x6 x7 x8 x9 x10 := by
  funext y
  unfold G13 B13 velAt BVel
  simp only [proj_eq, sval_unread]

theorem g12_eq : G12 i a2 a5 a6 a7 a8 a9 a10 (ha2.unread x2) (ha5.unread x5) (ha6.unread x6) (ha7.unread x7) (ha8.unread x8) (ha9.unread x9) (ha10.unread x10) a3 a4 a11 (ha3.unread x3) (ha4.unread x4) (ha11.unread x11)
    = B12 (x2 (ix1 (bat i))) (x3 (ix1 (bat i))) (x4 (ix1 (bat i))) x5 x6 x7 x8 x9 x10 x11 := by
  funext y
  unfold G12 B12
  simp only [g13_eq, sval_unread, ha11.read_unread]
end

set_option maxHeartbeats 4000000 in
/-- What the body leaves, handed back window by window. -/
theorem body_close (c : Dev nD) (i : grid0.Coords) (a2 : Memref sig .tc .smem S3 .f32) (ha2 : a2.IsWhole) (a3 : Memref sig .tc .smem S3 .f32) (ha3 : a3.IsWhole) (a4 : Memref sig .tc .smem S3 .f32) (ha4 : a4.IsWhole) (a5 : Memref sig .tc .vmem S1x2x256x3072 .bf16) (ha5 : a5.IsWhole) (a6 : Memref sig .tc .vmem S1x2x3072 .f32) (ha6 : a6.IsWhole) (a7 : Memref sig .tc .vmem S1x2x3072 .f32) (ha7 : a7.IsWhole) (a8 : Memref sig .tc .vmem S64x3072 .fp8e4m3) (ha8 : a8.IsWhole) (a9 : Memref sig .tc .vmem S64x1 .f32) (ha9 : a9.IsWhole) (a10 : Memref sig .tc .vmem S64x1 .f32) (ha10 : a10.IsWhole) (a11 : Memref sig .tc .vmem S1x4x16x256 .f32) (ha11 : a11.IsWhole) (a12 : Memref sig .tc .vmem S1x4x16x256 .f32) (ha12 : a12.IsWhole) (a13 : Memref sig .tc .vmem S1x4x16x256 .bf16) (ha13 : a13.IsWhole) (a14 : Memref sig .tc .vmem S1x2x256x3072 .fp8e4m3) (ha14 : a14.IsWhole) (a15 : Memref sig .tc .vmem S1x2x256 .f32) (ha15 : a15.IsWhole) (a16 : Memref sig .tc .vmem S32x3072 .f32) (ha16 : a16.IsWhole) (a17 : Memref sig .tc .vmem S2x256x128 .f32) (ha17 : a17.IsWhole) (x2 : Vec Ideal S3 .f32) (x3 : Vec Ideal S3 .f32) (x4 : Vec Ideal S3 .f32) (x5 : Vec Ideal S1x2x256x3072 .bf16) (x6 : Vec Ideal S1x2x3072 .f32) (x7 : Vec Ideal S1x2x3072 .f32) (x8 : Vec Ideal S64x3072 .fp8e4m3) (x9 : Vec Ideal S64x1 .f32) (x10 : Vec Ideal S64x1 .f32) (x11 : Vec Ideal S1x4x16x256 .f32)
    (f12 : BufTy.Contents (Elt Ideal) a12.view.ty) (f13 : BufTy.Contents (Elt Ideal) a13.view.ty) (f14 : BufTy.Contents (Elt Ideal) a14.view.ty) (f15 : BufTy.Contents (Elt Ideal) a15.view.ty) (f16 : BufTy.Contents (Elt Ideal) a16.view.ty) (f17 : BufTy.Contents (Elt Ideal) a17.view.ty) :
    (iprop((a2.view.loc (c : Thread nD τ) ↦[a2.view.set]{fullShare} (ha2.unread x2)) ∗ (a3.view.loc (c : Thread nD τ) ↦[a3.view.set]{fullShare} (ha3.unread x3)) ∗ (a4.view.loc (c : Thread nD τ) ↦[a4.view.set]{fullShare} (ha4.unread x4)) ∗ (a5.view.loc (c : Thread nD τ) ↦[a5.view.set]{fullShare} (ha5.unread x5)) ∗ (a6.view.loc (c : Thread nD τ) ↦[a6.view.set]{fullShare} (ha6.unread x6)) ∗ (a7.view.loc (c : Thread nD τ) ↦[a7.view.set]{fullShare} (ha7.unread x7)) ∗ (a8.view.loc (c : Thread nD τ) ↦[a8.view.set]{fullShare} (ha8.unread x8)) ∗ (a9.view.loc (c : Thread nD τ) ↦[a9.view.set]{fullShare} (ha9.unread x9)) ∗ (a10.view.loc (c : Thread nD τ) ↦[a10.view.set]{fullShare} (ha10.unread x10)) ∗ (a11.view.loc (c : Thread nD τ) ↦[a11.view.set]{fullShare} (ha11.unread x11)) ∗ (a12.view.loc (c : Thread nD τ) ↦[a12.view.set]{fullShare} (a12.view.writes (Elt Ideal) f12 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).1 f12 f13 f14 f15 f16 f17))) ∗ (a13.view.loc (c : Thread nD τ) ↦[a13.view.set]{fullShare} (a13.view.writes (Elt Ideal) f13 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).2.1 f12 f13 f14 f15 f16 f17))) ∗ (a14.view.loc (c : Thread nD τ) ↦[a14.view.set]{fullShare} (a14.view.writes (Elt Ideal) f14 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).2.2.1 f12 f13 f14 f15 f16 f17))) ∗ (a15.view.loc (c : Thread nD τ) ↦[a15.view.set]{fullShare} (a15.view.writes (Elt Ideal) f15 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).2.2.2.1 f12 f13 f14 f15 f16 f17))) ∗ (a16.view.loc (c : Thread nD τ) ↦[a16.view.set]{fullShare} (a16.view.writes (Elt Ideal) f16 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).2.2.2.2.1 f12 f13 f14 f15 f16 f17))) ∗ (a17.view.loc (c : Thread nD τ) ↦[a17.view.set]{fullShare} (a17.view.writes (Elt Ideal) f17 ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).2.2.2.2.2.val f12 f13 f14 f15 f16 f17)))) : sProp 𝕄) ⊢ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (B12 (x2 (ix1 (bat i))) (x3 (ix1 (bat i))) (x4 (ix1 (bat i))) x5 x6 x7 x8 x9 x10 x11) ∗ owns (c : Thread nD τ) a13 fullShare (B13 (x2 (ix1 (bat i))) x5 x6 x7 x8 x9 x10) ∗ owns (c : Thread nD τ) a14 fullShare (B14 x5 x6 x7) ∗ owns (c : Thread nD τ) a15 fullShare (B15 x5 x6 x7) ∗ (∃ d, owns (c : Thread nD τ) a16 fullShare d) ∗ (∃ d, owns (c : Thread nD τ) a17 fullShare d)) : sProp 𝕄) := by
  unfold owns
  iintro ⟨H2, H3, H4, H5, H6, H7, H8, H9, H10, H11, H12, H13, H14, H15, H16, H17⟩
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; swap; · iexact H12
    ipureintro
    exact (body.read12 c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11) f12 f13 f14 f15 f16 f17).trans (g12_eq i a2 ha2 a3 ha3 a4 ha4 a5 ha5 a6 ha6 a7 ha7 a8 ha8 a9 ha9 a10 ha10 a11 ha11 x2 x3 x4 x5 x6 x7 x8 x9 x10 x11)
  isplitl [H13]
  · iexists _; isplitr; swap; · iexact H13
    ipureintro
    exact (body.read13 c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11) f12 f13 f14 f15 f16 f17).trans (g13_eq i a2 ha2 a5 ha5 a6 ha6 a7 ha7 a8 ha8 a9 ha9 a10 ha10 x2 x5 x6 x7 x8 x9 x10)
  isplitl [H14]
  · iexists _; isplitr; swap; · iexact H14
    ipureintro
    exact (body.read14 c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11) f12 f13 f14 f15 f16 f17).trans (g14_eq a5 ha5 a6 ha6 a7 ha7 x5 x6 x7)
  isplitl [H15]
  · iexists _; isplitr; swap; · iexact H15
    ipureintro
    exact (body.read15 c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11) f12 f13 f14 f15 f16 f17).trans (g15_eq a5 ha5 a6 ha6 a7 ha7 x5 x6 x7)
  isplitl [H16]
  · iexists _, _; isplitr; swap; · iexact H16
    ipureintro; rfl
  iexists _, _; isplitr; swap; · iexact H17
  ipureintro; rfl

set_option maxHeartbeats 4000000 in
/-- One run of the body: from its input blocks to its result blocks. -/
theorem body_triple (c : Dev nD) (i : grid0.Coords) (a2 : Memref sig .tc .smem S3 .f32) (ha2 : a2.IsWhole) (a3 : Memref sig .tc .smem S3 .f32) (ha3 : a3.IsWhole) (a4 : Memref sig .tc .smem S3 .f32) (ha4 : a4.IsWhole) (a5 : Memref sig .tc .vmem S1x2x256x3072 .bf16) (ha5 : a5.IsWhole) (a6 : Memref sig .tc .vmem S1x2x3072 .f32) (ha6 : a6.IsWhole) (a7 : Memref sig .tc .vmem S1x2x3072 .f32) (ha7 : a7.IsWhole) (a8 : Memref sig .tc .vmem S64x3072 .fp8e4m3) (ha8 : a8.IsWhole) (a9 : Memref sig .tc .vmem S64x1 .f32) (ha9 : a9.IsWhole) (a10 : Memref sig .tc .vmem S64x1 .f32) (ha10 : a10.IsWhole) (a11 : Memref sig .tc .vmem S1x4x16x256 .f32) (ha11 : a11.IsWhole) (a12 : Memref sig .tc .vmem S1x4x16x256 .f32) (ha12 : a12.IsWhole) (a13 : Memref sig .tc .vmem S1x4x16x256 .bf16) (ha13 : a13.IsWhole) (a14 : Memref sig .tc .vmem S1x2x256x3072 .fp8e4m3) (ha14 : a14.IsWhole) (a15 : Memref sig .tc .vmem S1x2x256 .f32) (ha15 : a15.IsWhole) (a16 : Memref sig .tc .vmem S32x3072 .f32) (ha16 : a16.IsWhole) (a17 : Memref sig .tc .vmem S2x256x128 .f32) (ha17 : a17.IsWhole) (x2 : Vec Ideal S3 .f32) (x3 : Vec Ideal S3 .f32) (x4 : Vec Ideal S3 .f32) (x5 : Vec Ideal S1x2x256x3072 .bf16) (x6 : Vec Ideal S1x2x3072 .f32) (x7 : Vec Ideal S1x2x3072 .f32) (x8 : Vec Ideal S64x3072 .fp8e4m3) (x9 : Vec Ideal S64x1 .f32) (x10 : Vec Ideal S64x1 .f32) (x11 : Vec Ideal S1x4x16x256 .f32) (E : Set ℕ) (K : PUnit → sProp 𝕄) :
    (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (B12 (x2 (ix1 (bat i))) (x3 (ix1 (bat i))) (x4 (ix1 (bat i))) x5 x6 x7 x8 x9 x10 x11) ∗ owns (c : Thread nD τ) a13 fullShare (B13 (x2 (ix1 (bat i))) x5 x6 x7 x8 x9 x10) ∗ owns (c : Thread nD τ) a14 fullShare (B14 x5 x6 x7) ∗ owns (c : Thread nD τ) a15 fullShare (B15 x5 x6 x7) ∗ (∃ d, owns (c : Thread nD τ) a16 fullShare d) ∗ (∃ d, owns (c : Thread nD τ) a17 fullShare d)) -∗ K ⟨⟩)) : sProp 𝕄)
      ⊢ wp frame (wpE (defs₀ (F := Ideal)) Variants.none (c : Thread nD τ) none) E (cc0_dit_final i a2 ha2 a3 ha3 a4 ha4 a5 ha5 a6 ha6 a7 ha7 a8 ha8 a9 ha9 a10 ha10 a11 ha11 a12 ha12 a13 ha13 a14 ha14 a15 ha15 a16 ha16 a17 ha17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11
  iapply (wp_wand_r frame (wpE (defs₀ (F := Ideal)) Variants.none (c : Thread nD τ) none) E)
  isplitl [H2 H3 H4 H5 H6 H7 H8 H9 H10 H11 H12 H13 H14 H15 H16 H17]
  · iapply ((bodyRun (F := Ideal) c i a2 ha2 a3 ha3 a4 ha4 a5 ha5 a6 ha6 a7 ha7 a8 ha8 a9 ha9 a10 ha10 a11 ha11 a12 ha12 a13 ha13 a14 ha14 a15 ha15 a16 ha16 a17 ha17 (ha2.unread x2) (ha3.unread x3) (ha4.unread x4) (ha5.unread x5) (ha6.unread x6) (ha7.unread x7) (ha8.unread x8) (ha9.unread x9) (ha10.unread x10) (ha11.unread x11)).2.2.2.2.2.property E f12 f13 f14 f15 f16 f17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %a H
  cases a
  iapply Hk
  iapply (body_close c i a2 ha2 a3 ha3 a4 ha4 a5 ha5 a6 ha6 a7 ha7 a8 ha8 a9 ha9 a10 ha10 a11 ha11 a12 ha12 a13 ha13 a14 ha14 a15 ha15 a16 ha16 a17 ha17 x2 x3 x4 x5 x6 x7 x8 x9 x10 x11 f12 f13 f14 f15 f16 f17)
  iexact H

end Cert.KernelIdeal

end
-- ==== Proof.Region.lean ====
/- The whole launch: every grid point leaves its blocks of results, and the run ends with the result arrays tiled by
   them. -/
module

public import proofs.«01_k».proof.Proof.Run

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

abbrev ms0 (t : Fin cfg0.N) : Memref sig .tc .smem S3 .f32 := win0_0.stage (cfg0.slots t 0)
abbrev hs0 (t : Fin cfg0.N) : (ms0 t).IsWhole := hstage0_0 ((cfg0.slots t 0).cast nbuf0_0)
abbrev ms1 (t : Fin cfg0.N) : Memref sig .tc .smem S3 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x256x3072 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x3072 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x3072 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x3072 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x4x16x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x4x16x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x4x16x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x2x256x3072 .fp8e4m3 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x2x256 .f32 := win0_13.stage (cfg0.slots t 13)
abbrev hs13 (t : Fin cfg0.N) : (ms13 t).IsWhole := hstage0_13 ((cfg0.slots t 13).cast nbuf0_13)
abbrev scA : Memref sig .tc .vmem S32x3072 .f32 := Memref.whole cc0_scratch0
abbrev scB : Memref sig .tc .vmem S2x256x128 .f32 := Memref.whole cc0_scratch1

theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- Input window 0's block at a grid point. -/
abbrev in0 (c : Dev nD) (t : Fin cfg0.N) : Vec Ideal S3 .f32 := iblk m c 0 t
/-- Input window 1's block at a grid point. -/
abbrev in1 (c : Dev nD) (t : Fin cfg0.N) : Vec Ideal S3 .f32 := iblk m c 1 t
/-- Input window 2's block at a grid point. -/
abbrev in2 (c : Dev nD) (t : Fin cfg0.N) : Vec Ideal S3 .f32 := iblk m c 2 t
/-- Input window 3's block at a grid point. -/
abbrev in3 (c : Dev nD) (t : Fin cfg0.N) : Vec Ideal S1x2x256x3072 .bf16 := iblk m c 3 t
/-- Input window 4's block at a grid point. -/
abbrev in4 (c : Dev nD) (t : Fin cfg0.N) : Vec Ideal S1x2x3072 .f32 := iblk m c 4 t
/-- Input window 5's block at a grid point. -/
abbrev in5 (c : Dev nD) (t : Fin cfg0.N) : Vec Ideal S1x2x3072 .f32 := iblk m c 5 t
/-- Input window 6's block at a grid point. -/
abbrev in6 (c : Dev nD) (t : Fin cfg0.N) : Vec Ideal S64x3072 .fp8e4m3 := iblk m c 6 t
/-- Input window 7's block at a grid point. -/
abbrev in7 (c : Dev nD) (t : Fin cfg0.N) : Vec Ideal S64x1 .f32 := iblk m c 7 t
/-- Input window 8's block at a grid point. -/
abbrev in8 (c : Dev nD) (t : Fin cfg0.N) : Vec Ideal S64x1 .f32 := iblk m c 8 t
/-- Input window 9's block at a grid point. -/
abbrev in9 (c : Dev nD) (t : Fin cfg0.N) : Vec Ideal S1x4x16x256 .f32 := iblk m c 9 t
/-- The block of result window 10 a grid point leaves. -/
def out10 (c : Dev nD) (t : Fin cfg0.N) : Vec Ideal S1x4x16x256 .f32 := B12 (in0 m c t (ix1 (bat (grid0.coords t)))) (in1 m c t (ix1 (bat (grid0.coords t)))) (in2 m c t (ix1 (bat (grid0.coords t)))) (in3 m c t) (in4 m c t) (in5 m c t) (in6 m c t) (in7 m c t) (in8 m c t) (in9 m c t)
/-- The block of result window 11 a grid point leaves. -/
def out11 (c : Dev nD) (t : Fin cfg0.N) : Vec Ideal S1x4x16x256 .bf16 := B13 (in0 m c t (ix1 (bat (grid0.coords t)))) (in3 m c t) (in4 m c t) (in5 m c t) (in6 m c t) (in7 m c t) (in8 m c t)
/-- The block of result window 12 a grid point leaves. -/
def out12 (c : Dev nD) (t : Fin cfg0.N) : Vec Ideal S1x2x256x3072 .fp8e4m3 := B14 (in3 m c t) (in4 m c t) (in5 m c t)
/-- The block of result window 13 a grid point leaves. -/
def out13 (c : Dev nD) (t : Fin cfg0.N) : Vec Ideal S1x2x256 .f32 := B15 (in3 m c t) (in4 m c t) (in5 m c t)

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
    | ⟨13, _⟩ => out13 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem after12 (c : Dev nD) (t : Fin cfg0.N) : (dats m 0 c).after 12 t = out12 m c t := by dsimp only [dats]
theorem after13 (c : Dev nD) (t : Fin cfg0.N) : (dats m 0 c).after 13 t = out13 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scB (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the run ends with each window's array as the grid points' blocks leave it, the host's operations after
    the kernel done, and every semaphore at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were, and every semaphore at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal

end
-- ==== Proof.Tiles.lean ====
/- Where the blocks sit: every input block read as part of the launch's argument arrays, and every result array
   as one function of them. -/
module

public import proofs.«01_k».proof.Proof.Region
public import Idealize.ShloMosaic.Lib.Pipeline.ValueKit
public import Idealize.ShloMosaic.Lib.Pointwise

@[expose] public section

set_option maxRecDepth 16384

noncomputable section

namespace Cert.KernelIdeal

open Idealize.ShloMosaic Idealize.ShloMosaic.TcCoe Idealize.ShloMosaic.Tactic
open Cert.KernelIdeal.Gen

/-! ## The results as functions of the arguments -/

/-- The code of element `d` of token `r` of plane `p` of batch element `b`. -/
def TCode (X : S3x2x4096x3072.Idx → EReal) (SH SC : S3x2x3072.Idx → EReal) (b : Fin 3) (p : Fin 2) (r : Fin 4096)
    (d : Fin 3072) : EReal :=
  rowCode (fun d => X (ix4 b p r d)) (fun d => SC (ix3 b p d)) (fun d => SH (ix3 b p d)) d

/-- That token's scale. -/
def TScale (X : S3x2x4096x3072.Idx → EReal) (SH SC : S3x2x3072.Idx → EReal) (b : Fin 3) (p : Fin 2) (r : Fin 4096) : EReal :=
  rowScale (fun d => X (ix4 b p r d)) (fun d => SC (ix3 b p d)) (fun d => SH (ix3 b p d))

/-- Output `n` of that token's projection. -/
def TProj (X : S3x2x4096x3072.Idx → EReal) (SH SC : S3x2x3072.Idx → EReal) (W : S3072x64.Idx → EReal)
    (WS B : S64.Idx → EReal) (b : Fin 3) (p : Fin 2) (n : Fin 64) (r : Fin 4096) : EReal :=
  (∑ d : Fin 3072, W (ix2 d n) * TCode X SH SC b p r d) * TScale X SH SC b p r * WS (ix1 n) + B (ix1 n)

/-- The two planes combined under the guidance weight. -/
def TVel (g : S3.Idx → EReal) (X : S3x2x4096x3072.Idx → EReal) (SH SC : S3x2x3072.Idx → EReal) (W : S3072x64.Idx → EReal)
    (WS B : S64.Idx → EReal) (b : Fin 3) (n : Fin 64) (r : Fin 4096) : EReal :=
  TProj X SH SC W WS B b 1 n r + g (ix1 b) * (TProj X SH SC W WS B b 0 n r - TProj X SH SC W WS B b 1 n r)

/-- The output a pixel of the image takes: each token is a patch of two by two pixels, sixteen channels each. -/
def pixN (i : Fin 64) (k : Fin 256) (l : Fin 16) : Fin 64 := ⟨32 * (i.val % 2) + 16 * (k.val % 2) + l.val, by omega⟩
/-- The token a pixel lies in. -/
def pixR (i : Fin 64) (k : Fin 256) : Fin 4096 := ⟨128 * (i.val / 2) + k.val / 2, by omega⟩

/-- The velocity image. -/
def TImg (g : S3.Idx → EReal) (X : S3x2x4096x3072.Idx → EReal) (SH SC : S3x2x3072.Idx → EReal) (W : S3072x64.Idx → EReal)
    (WS B : S64.Idx → EReal) (b : Fin 3) (i : Fin 64) (k : Fin 256) (l : Fin 16) : EReal :=
  TVel g X SH SC W WS B b (pixN i k l) (pixR i k)

/-- The next latent. -/
def TLat (g t t' : S3.Idx → EReal) (X : S3x2x4096x3072.Idx → EReal) (SH SC : S3x2x3072.Idx → EReal) (W : S3072x64.Idx → EReal)
    (WS B : S64.Idx → EReal) (L : S3x64x256x16.Idx → EReal) (b : Fin 3) (i : Fin 64) (k : Fin 256) (l : Fin 16) : EReal :=
  L (ix4 b i k l) + (t' (ix1 b) - t (ix1 b)) * TImg g X SH SC W WS B b i k l

variable (m : (ℓ : Loc nD τ sig) → Buf (Elt Ideal) ℓ) (ρ : Dev nD → PrngReg)

/-- The row block a grid point works on. -/
abbrev rowBlk (t : Fin cfg0.N) : Fin 16 := ⟨(grid0.coords t 1).val, (grid0.coords t 1).isLt⟩
/-- A row of that block, in the array. -/
def rowOf (t : Fin cfg0.N) (r : Fin 256) : Fin 4096 := ⟨256 * (rowBlk t).val + r.val, by have := (rowBlk t).isLt; omega⟩
/-- An image line of that block, in the array. -/
def lineOf (t : Fin cfg0.N) (i : Fin 4) : Fin 64 := ⟨4 * (rowBlk t).val + i.val, by have := (rowBlk t).isLt; omega⟩

/-! ## The arrays the host prepares -/

theorem V_v0 (c : Dev nD) (b : Fin 3) (i : Fin 64) (l : Fin 16) (k : Fin 256) :
    V m c main_v0 (ix4 b i l k) = m ((c : Thread nD τ).loc main_arg9) (ix4 b i k l) := by
  have h : V m c main_v0 = transpose S3x64x16x256 [0, 1, 3, 2] (m ((c : Thread nD τ).loc main_arg9)) transposes_S3x64x256x16_S3x64x16x256_0_1_3_2 := by
    unfold V V0
    simp only [hostOps0, List.flatten_cons, List.flatten_nil, List.append_nil, List.cons_append, List.nil_append]
    after_results
  rw [h]
  pointwise []

theorem V_v1 (c : Dev nD) (n : Fin 64) (d : Fin 3072) :
    V m c main_v1 (ix2 n d) = m ((c : Thread nD τ).loc main_arg3) (ix2 d n) := by
  have h : V m c main_v1 = transpose S64x3072 [1, 0] (m ((c : Thread nD τ).loc main_arg3)) transposes_S3072x64_S64x3072_1_0 := by
    unfold V V0
    simp only [hostOps0, List.flatten_cons, List.flatten_nil, List.append_nil, List.cons_append, List.nil_append]
    after_results
  rw [h]
  pointwise []

theorem V_v2 (c : Dev nD) (n : Fin 64) : V m c main_v2 (ix2 n 0) = m ((c : Thread nD τ).loc main_arg4) (ix1 n) := by
  have h : V m c main_v2 = shapeCast S64x1 (m ((c : Thread nD τ).loc main_arg4)) shapeCasts_S64_S64x1 := by
    unfold V V0
    simp only [hostOps0, List.flatten_cons, List.flatten_nil, List.append_nil, List.cons_append, List.nil_append]
    after_results
    rfl
  rw [h]
  pointwise []

theorem V_v3 (c : Dev nD) (n : Fin 64) : V m c main_v3 (ix2 n 0) = m ((c : Thread nD τ).loc main_arg5) (ix1 n) := by
  have h : V m c main_v3 = shapeCast S64x1 (m ((c : Thread nD τ).loc main_arg5)) shapeCasts_S64_S64x1 := by
    unfold V V0
    simp only [hostOps0, List.flatten_cons, List.flatten_nil, List.append_nil, List.cons_append, List.nil_append]
    after_results
    rfl
  rw [h]
  pointwise []

/-! ## Where each block sits -/

theorem index0_0 : ∀ t : Fin cfg0.N, win0_0.index t = ![0] := by decide +kernel
theorem index0_1 : ∀ t : Fin cfg0.N, win0_1.index t = ![0] := by decide +kernel
theorem index0_2 : ∀ t : Fin cfg0.N, win0_2.index t = ![0] := by decide +kernel
theorem index0_3 : ∀ t : Fin cfg0.N, win0_3.index t = ![(grid0.coords t 0).val, 0, (grid0.coords t 1).val, 0] := by decide +kernel
theorem index0_4 : ∀ t : Fin cfg0.N, win0_4.index t = ![(grid0.coords t 0).val, 0, 0] := by decide +kernel
theorem index0_5 : ∀ t : Fin cfg0.N, win0_5.index t = ![(grid0.coords t 0).val, 0, 0] := by decide +kernel
theorem index0_6 : ∀ t : Fin cfg0.N, win0_6.index t = ![0, 0] := by decide +kernel
theorem index0_7 : ∀ t : Fin cfg0.N, win0_7.index t = ![0, 0] := by decide +kernel
theorem index0_8 : ∀ t : Fin cfg0.N, win0_8.index t = ![0, 0] := by decide +kernel
theorem index0_9 : ∀ t : Fin cfg0.N, win0_9.index t = ![(grid0.coords t 0).val, (grid0.coords t 1).val, 0, 0] := by decide +kernel
theorem index0_10 : ∀ t : Fin cfg0.N, win0_10.index t = ![(grid0.coords t 0).val, (grid0.coords t 1).val, 0, 0] := by decide +kernel
theorem index0_11 : ∀ t : Fin cfg0.N, win0_11.index t = ![(grid0.coords t 0).val, (grid0.coords t 1).val, 0, 0] := by decide +kernel
theorem index0_12 : ∀ t : Fin cfg0.N, win0_12.index t = ![(grid0.coords t 0).val, 0, (grid0.coords t 1).val, 0] := by decide +kernel
theorem index0_13 : ∀ t : Fin cfg0.N, win0_13.index t = ![(grid0.coords t 0).val, 0, (grid0.coords t 1).val] := by decide +kernel

theorem in0_apply (c : Dev nD) (t : Fin cfg0.N) (b : Fin 3) :
    in0 m c t (ix1 b) = m ((c : Thread nD τ).loc main_arg6) (ix1 b) := by
  have hix : (win0_0.blk t).view.emb (ix1 b) = (ix1 b : (win0_0.shape).Idx) := by
    funext a
    refine Fin.ext ?_
    fin_cases a <;> (blk_simp [index0_0, rowOf, lineOf] <;> first | rfl | exact congrArg (· + _) (Nat.mul_comm _ _) | omega)
  unfold in0
  blk_simp [iblk]
  rw [hix]
  rw [V_main_arg6]

theorem in1_apply (c : Dev nD) (t : Fin cfg0.N) (b : Fin 3) :
    in1 m c t (ix1 b) = m ((c : Thread nD τ).loc main_arg7) (ix1 b) := by
  have hix : (win0_1.blk t).view.emb (ix1 b) = (ix1 b : (win0_1.shape).Idx) := by
    funext a
    refine Fin.ext ?_
    fin_cases a <;> (blk_simp [index0_1, rowOf, lineOf] <;> first | rfl | exact congrArg (· + _) (Nat.mul_comm _ _) | omega)
  unfold in1
  blk_simp [iblk]
  rw [hix]
  rw [V_main_arg7]

theorem in2_apply (c : Dev nD) (t : Fin cfg0.N) (b : Fin 3) :
    in2 m c t (ix1 b) = m ((c : Thread nD τ).loc main_arg8) (ix1 b) := by
  have hix : (win0_2.blk t).view.emb (ix1 b) = (ix1 b : (win0_2.shape).Idx) := by
    funext a
    refine Fin.ext ?_
    fin_cases a <;> (blk_simp [index0_2, rowOf, lineOf] <;> first | rfl | exact congrArg (· + _) (Nat.mul_comm _ _) | omega)
  unfold in2
  blk_simp [iblk]
  rw [hix]
  rw [V_main_arg8]

theorem in3_apply (c : Dev nD) (t : Fin cfg0.N) (p : Fin 2) (r : Fin 256) (d : Fin 3072) :
    in3 m c t (ix4 0 p r d) = m ((c : Thread nD τ).loc main_arg0) (ix4 (bat (grid0.coords t)) p (rowOf t r) d) := by
  have hix : (win0_3.blk t).view.emb (ix4 0 p r d) = (ix4 (bat (grid0.coords t)) p (rowOf t r) d : (win0_3.shape).Idx) := by
    funext a
    refine Fin.ext ?_
    fin_cases a <;> (blk_simp [index0_3, rowOf, lineOf] <;> first | rfl | exact congrArg (· + _) (Nat.mul_comm _ _) | omega)
  unfold in3
  blk_simp [iblk]
  rw [hix]
  rw [V_main_arg0]

theorem in4_apply (c : Dev nD) (t : Fin cfg0.N) (p : Fin 2) (d : Fin 3072) :
    in4 m c t (ix3 0 p d) = m ((c : Thread nD τ).loc main_arg1) (ix3 (bat (grid0.coords t)) p d) := by
  have hix : (win0_4.blk t).view.emb (ix3 0 p d) = (ix3 (bat (grid0.coords t)) p d : (win0_4.shape).Idx) := by
    funext a
    refine Fin.ext ?_
    fin_cases a <;> (blk_simp [index0_4, rowOf, lineOf] <;> first | rfl | exact congrArg (· + _) (Nat.mul_comm _ _) | omega)
  unfold in4
  blk_simp [iblk]
  rw [hix]
  rw [V_main_arg1]

theorem in5_apply (c : Dev nD) (t : Fin cfg0.N) (p : Fin 2) (d : Fin 3072) :
    in5 m c t (ix3 0 p d) = m ((c : Thread nD τ).loc main_arg2) (ix3 (bat (grid0.coords t)) p d) := by
  have hix : (win0_5.blk t).view.emb (ix3 0 p d) = (ix3 (bat (grid0.coords t)) p d : (win0_5.shape).Idx) := by
    funext a
    refine Fin.ext ?_
    fin_cases a <;> (blk_simp [index0_5, rowOf, lineOf] <;> first | rfl | exact congrArg (· + _) (Nat.mul_comm _ _) | omega)
  unfold in5
  blk_simp [iblk]
  rw [hix]
  rw [V_main_arg2]

theorem in6_apply (c : Dev nD) (t : Fin cfg0.N) (n : Fin 64) (d : Fin 3072) :
    in6 m c t (ix2 n d) = m ((c : Thread nD τ).loc main_arg3) (ix2 d n) := by
  have hix : (win0_6.blk t).view.emb (ix2 n d) = (ix2 n d : (win0_6.shape).Idx) := by
    funext a
    refine Fin.ext ?_
    fin_cases a <;> (blk_simp [index0_6, rowOf, lineOf] <;> first | rfl | exact congrArg (· + _) (Nat.mul_comm _ _) | omega)
  unfold in6
  blk_simp [iblk]
  rw [hix]
  exact V_v1 m c n d

theorem in7_apply (c : Dev nD) (t : Fin cfg0.N) (n : Fin 64) :
    in7 m c t (ix2 n 0) = m ((c : Thread nD τ).loc main_arg4) (ix1 n) := by
  have hix : (win0_7.blk t).view.emb (ix2 n 0) = (ix2 n 0 : (win0_7.shape).Idx) := by
    funext a
    refine Fin.ext ?_
    fin_cases a <;> (blk_simp [index0_7, rowOf, lineOf] <;> first | rfl | exact congrArg (· + _) (Nat.mul_comm _ _) | omega)
  unfold in7
  blk_simp [iblk]
  rw [hix]
  exact V_v2 m c n

theorem in8_apply (c : Dev nD) (t : Fin cfg0.N) (n : Fin 64) :
    in8 m c t (ix2 n 0) = m ((c : Thread nD τ).loc main_arg5) (ix1 n) := by
  have hix : (win0_8.blk t).view.emb (ix2 n 0) = (ix2 n 0 : (win0_8.shape).Idx) := by
    funext a
    refine Fin.ext ?_
    fin_cases a <;> (blk_simp [index0_8, rowOf, lineOf] <;> first | rfl | exact congrArg (· + _) (Nat.mul_comm _ _) | omega)
  unfold in8
  blk_simp [iblk]
  rw [hix]
  exact V_v3 m c n

theorem in9_apply (c : Dev nD) (t : Fin cfg0.N) (i : Fin 4) (l : Fin 16) (k : Fin 256) :
    in9 m c t (ix4 0 i l k) = m ((c : Thread nD τ).loc main_arg9) (ix4 (bat (grid0.coords t)) (lineOf t i) k l) := by
  have hix : (win0_9.blk t).view.emb (ix4 0 i l k) = (ix4 (bat (grid0.coords t)) (lineOf t i) l k : (win0_9.shape).Idx) := by
    funext a
    refine Fin.ext ?_
    fin_cases a <;> (blk_simp [index0_9, rowOf, lineOf] <;> first | rfl | exact congrArg (· + _) (Nat.mul_comm _ _) | omega)
  unfold in9
  blk_simp [iblk]
  rw [hix]
  exact V_v0 m c _ _ _ _

/-! ## What a grid point's blocks are, as functions of the arguments -/

theorem b14_apply (c : Dev nD) (t : Fin cfg0.N) (p : Fin 2) (r : Fin 256) (d : Fin 3072) :
    B14 (in3 m c t) (in4 m c t) (in5 m c t) (ix4 0 p r d)
      = TCode (m ((c : Thread nD τ).loc main_arg0)) (m ((c : Thread nD τ).loc main_arg1)) (m ((c : Thread nD τ).loc main_arg2)) (bat (grid0.coords t)) p (rowOf t r) d := by
  have e3 : (fun d => in3 m c t (ix4 0 p r d)) = fun d => m ((c : Thread nD τ).loc main_arg0) (ix4 (bat (grid0.coords t)) p (rowOf t r) d) := funext fun d => in3_apply m c t p r d
  have e4 : (fun d => in4 m c t (ix3 0 p d)) = fun d => m ((c : Thread nD τ).loc main_arg1) (ix3 (bat (grid0.coords t)) p d) := funext fun d => in4_apply m c t p d
  have e5 : (fun d => in5 m c t (ix3 0 p d)) = fun d => m ((c : Thread nD τ).loc main_arg2) (ix3 (bat (grid0.coords t)) p d) := funext fun d => in5_apply m c t p d
  show rowCode (fun d => in3 m c t (ix4 0 p r d)) (fun d => in5 m c t (ix3 0 p d)) (fun d => in4 m c t (ix3 0 p d)) d = _
  rw [e3, e4, e5]; rfl

theorem b15_apply (c : Dev nD) (t : Fin cfg0.N) (p : Fin 2) (r : Fin 256) :
    B15 (in3 m c t) (in4 m c t) (in5 m c t) (ix3 0 p r) = TScale (m ((c : Thread nD τ).loc main_arg0)) (m ((c : Thread nD τ).loc main_arg1)) (m ((c : Thread nD τ).loc main_arg2)) (bat (grid0.coords t)) p (rowOf t r) := by
  have e3 : (fun d => in3 m c t (ix4 0 p r d)) = fun d => m ((c : Thread nD τ).loc main_arg0) (ix4 (bat (grid0.coords t)) p (rowOf t r) d) := funext fun d => in3_apply m c t p r d
  have e4 : (fun d => in4 m c t (ix3 0 p d)) = fun d => m ((c : Thread nD τ).loc main_arg1) (ix3 (bat (grid0.coords t)) p d) := funext fun d => in4_apply m c t p d
  have e5 : (fun d => in5 m c t (ix3 0 p d)) = fun d => m ((c : Thread nD τ).loc main_arg2) (ix3 (bat (grid0.coords t)) p d) := funext fun d => in5_apply m c t p d
  show rowScale (fun d => in3 m c t (ix4 0 p r d)) (fun d => in5 m c t (ix3 0 p d)) (fun d => in4 m c t (ix3 0 p d)) = _
  rw [e3, e4, e5]; rfl

theorem bproj_apply (c : Dev nD) (t : Fin cfg0.N) (p : Fin 2) (n : Fin 64) (r : Fin 256) :
    BProj (in3 m c t) (in4 m c t) (in5 m c t) (in6 m c t) (in7 m c t) (in8 m c t) p n r
      = TProj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat (grid0.coords t)) p n (rowOf t r) := by
  unfold BProj TProj
  rw [b15_apply, in7_apply, in8_apply]
  simp only [b14_apply, in6_apply]

theorem bvel_apply (c : Dev nD) (t : Fin cfg0.N) (n : Fin 64) (r : Fin 256) :
    BVel (in0 m c t (ix1 (bat (grid0.coords t)))) (in3 m c t) (in4 m c t) (in5 m c t) (in6 m c t) (in7 m c t) (in8 m c t) n r
      = TVel (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat (grid0.coords t)) n (rowOf t r) := by
  unfold BVel TVel
  rw [bproj_apply, bproj_apply, in0_apply]

theorem b13_apply (c : Dev nD) (t : Fin cfg0.N) (i : Fin 4) (l : Fin 16) (k : Fin 256) :
    B13 (in0 m c t (ix1 (bat (grid0.coords t)))) (in3 m c t) (in4 m c t) (in5 m c t) (in6 m c t) (in7 m c t) (in8 m c t) (ix4 0 i l k)
      = TImg (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat (grid0.coords t)) (lineOf t i) k l := by
  unfold B13 TImg
  rw [bvel_apply]
  have hi := i.isLt
  have hk := k.isLt
  refine congrArg₂ (TVel (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat (grid0.coords t))) (Fin.ext ?_) (Fin.ext ?_)
  · show 32 * (i.val % 2) + 16 * (k.val % 2) + l.val = 32 * ((4 * (rowBlk t).val + i.val) % 2) + 16 * (k.val % 2) + l.val
    omega
  · show 256 * (rowBlk t).val + (128 * (i.val / 2) + k.val / 2) = 128 * ((4 * (rowBlk t).val + i.val) / 2) + k.val / 2
    omega

theorem b12_apply (c : Dev nD) (t : Fin cfg0.N) (i : Fin 4) (l : Fin 16) (k : Fin 256) :
    B12 (in0 m c t (ix1 (bat (grid0.coords t)))) (in1 m c t (ix1 (bat (grid0.coords t)))) (in2 m c t (ix1 (bat (grid0.coords t))))
        (in3 m c t) (in4 m c t) (in5 m c t) (in6 m c t) (in7 m c t) (in8 m c t) (in9 m c t) (ix4 0 i l k)
      = TLat (m ((c : Thread nD τ).loc main_arg6)) (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (bat (grid0.coords t)) (lineOf t i) k l := by
  unfold B12 TLat
  rw [b13_apply, in1_apply, in2_apply, in9_apply]

/-! ## The result arrays -/

theorem final12 (c : Dev nD) : (dats m 0 c).arrAt 12 cfg0.N = fun i : S3x2x4096x3072.Idx => TCode (m ((c : Thread nD τ).loc main_arg0)) (m ((c : Thread nD τ).loc main_arg1)) (m ((c : Thread nD τ).loc main_arg2)) (i 0) (i 1) (i 2) (i 3) := by
  refine (dats m 0 c).arrAt_eq_of_covers 12 _ (by decide +kernel) fun t hf y => ?_
  have h0 : (win0_12.blk t).view.emb y 0 = bat (grid0.coords t) :=
    Fin.ext (by blk_simp [index0_12, rowOf, lineOf] <;> first | rfl | exact congrArg (· + _) (Nat.mul_comm _ _) | omega)
  have h1 : (win0_12.blk t).view.emb y 1 = (y 1 : Fin 2) :=
    Fin.ext (by blk_simp [index0_12, rowOf, lineOf] <;> first | rfl | exact congrArg (· + _) (Nat.mul_comm _ _) | omega)
  have h2 : (win0_12.blk t).view.emb y 2 = rowOf t (y 2) :=
    Fin.ext (by blk_simp [index0_12, rowOf, lineOf] <;> first | rfl | exact congrArg (· + _) (Nat.mul_comm _ _) | omega)
  have h3 : (win0_12.blk t).view.emb y 3 = (y 3 : Fin 3072) :=
    Fin.ext (by blk_simp [index0_12, rowOf, lineOf] <;> first | rfl | exact congrArg (· + _) (Nat.mul_comm _ _) | omega)
  blk_simp
  rw [after12]
  rw [h0, h1, h2, h3]
  have hy : (y : S1x2x256x3072.Idx) = ix4 0 (y 1) (y 2) (y 3) := by
    funext a
    fin_cases a <;> first | rfl | exact Subsingleton.elim (α := Fin 1) _ _
  refine Eq.trans (congrArg (out12 m c t) hy) ?_
  exact b14_apply m c t (y 1) (y 2) (y 3)

theorem final13 (c : Dev nD) : (dats m 0 c).arrAt 13 cfg0.N = fun i : S3x2x4096.Idx => TScale (m ((c : Thread nD τ).loc main_arg0)) (m ((c : Thread nD τ).loc main_arg1)) (m ((c : Thread nD τ).loc main_arg2)) (i 0) (i 1) (i 2) := by
  refine (dats m 0 c).arrAt_eq_of_covers 13 _ (by decide +kernel) fun t hf y => ?_
  have h0 : (win0_13.blk t).view.emb y 0 = bat (grid0.coords t) :=
    Fin.ext (by blk_simp [index0_13, rowOf, lineOf] <;> first | rfl | exact congrArg (· + _) (Nat.mul_comm _ _) | omega)
  have h1 : (win0_13.blk t).view.emb y 1 = (y 1 : Fin 2) :=
    Fin.ext (by blk_simp [index0_13, rowOf, lineOf] <;> first | rfl | exact congrArg (· + _) (Nat.mul_comm _ _) | omega)
  have h2 : (win0_13.blk t).view.emb y 2 = rowOf t (y 2) :=
    Fin.ext (by blk_simp [index0_13, rowOf, lineOf] <;> first | rfl | exact congrArg (· + _) (Nat.mul_comm _ _) | omega)
  blk_simp
  rw [after13]
  rw [h0, h1, h2]
  have hy : (y : S1x2x256.Idx) = ix3 0 (y 1) (y 2) := by
    funext a
    fin_cases a <;> first | rfl | exact Subsingleton.elim (α := Fin 1) _ _
  refine Eq.trans (congrArg (out13 m c t) hy) ?_
  exact b15_apply m c t (y 1) (y 2)

theorem final11 (c : Dev nD) : (dats m 0 c).arrAt 11 cfg0.N = fun i : S3x64x16x256.Idx => TImg (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 3) (i 2) := by
  refine (dats m 0 c).arrAt_eq_of_covers 11 _ (by decide +kernel) fun t hf y => ?_
  have h0 : (win0_11.blk t).view.emb y 0 = bat (grid0.coords t) :=
    Fin.ext (by blk_simp [index0_11, rowOf, lineOf] <;> first | rfl | exact congrArg (· + _) (Nat.mul_comm _ _) | omega)
  have h1 : (win0_11.blk t).view.emb y 1 = lineOf t (y 1) :=
    Fin.ext (by blk_simp [index0_11, rowOf, lineOf] <;> first | rfl | exact congrArg (· + _) (Nat.mul_comm _ _) | omega)
  have h2 : (win0_11.blk t).view.emb y 2 = (y 2 : Fin 16) :=
    Fin.ext (by blk_simp [index0_11, rowOf, lineOf] <;> first | rfl | exact congrArg (· + _) (Nat.mul_comm _ _) | omega)
  have h3 : (win0_11.blk t).view.emb y 3 = (y 3 : Fin 256) :=
    Fin.ext (by blk_simp [index0_11, rowOf, lineOf] <;> first | rfl | exact congrArg (· + _) (Nat.mul_comm _ _) | omega)
  blk_simp
  rw [after11]
  rw [h0, h1, h2, h3]
  have hy : (y : S1x4x16x256.Idx) = ix4 0 (y 1) (y 2) (y 3) := by
    funext a
    fin_cases a <;> first | rfl | exact Subsingleton.elim (α := Fin 1) _ _
  refine Eq.trans (congrArg (out11 m c t) hy) ?_
  exact b13_apply m c t (y 1) (y 2) (y 3)

theorem final10 (c : Dev nD) : (dats m 0 c).arrAt 10 cfg0.N = fun i : S3x64x16x256.Idx => TLat (m ((c : Thread nD τ).loc main_arg6)) (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (i 0) (i 1) (i 3) (i 2) := by
  refine (dats m 0 c).arrAt_eq_of_covers 10 _ (by decide +kernel) fun t hf y => ?_
  have h0 : (win0_10.blk t).view.emb y 0 = bat (grid0.coords t) :=
    Fin.ext (by blk_simp [index0_10, rowOf, lineOf] <;> first | rfl | exact congrArg (· + _) (Nat.mul_comm _ _) | omega)
  have h1 : (win0_10.blk t).view.emb y 1 = lineOf t (y 1) :=
    Fin.ext (by blk_simp [index0_10, rowOf, lineOf] <;> first | rfl | exact congrArg (· + _) (Nat.mul_comm _ _) | omega)
  have h2 : (win0_10.blk t).view.emb y 2 = (y 2 : Fin 16) :=
    Fin.ext (by blk_simp [index0_10, rowOf, lineOf] <;> first | rfl | exact congrArg (· + _) (Nat.mul_comm _ _) | omega)
  have h3 : (win0_10.blk t).view.emb y 3 = (y 3 : Fin 256) :=
    Fin.ext (by blk_simp [index0_10, rowOf, lineOf] <;> first | rfl | exact congrArg (· + _) (Nat.mul_comm _ _) | omega)
  blk_simp
  rw [after10]
  rw [h0, h1, h2, h3]
  have hy : (y : S1x4x16x256.Idx) = ix4 0 (y 1) (y 2) (y 3) := by
    funext a
    fin_cases a <;> first | rfl | exact Subsingleton.elim (α := Fin 1) _ _
  refine Eq.trans (congrArg (out10 m c t) hy) ?_
  exact b12_apply m c t (y 1) (y 2) (y 3)

theorem W_v5 (c : Dev nD) : Pipeline.afterTail₀ cfgs (dats m) 0 (V0 m) [hostOps1] c main_v5
    = fun i : S3x64x256x16.Idx => TLat (m ((c : Thread nD τ).loc main_arg6)) (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (i 0) (i 1) (i 2) (i 3) := by
  have h : Pipeline.afterTail₀ cfgs (dats m) 0 (V0 m) [hostOps1] c main_v5
      = transpose S3x64x256x16 [0, 1, 3, 2] ((dats m 0 c).arrAt 10 cfg0.N) transposes_S3x64x16x256_S3x64x256x16_0_1_3_2 := by
    unfold Pipeline.afterTail₀
    simp only [hostOps1, List.flatten_cons, List.flatten_nil, List.append_nil, List.cons_append, List.nil_append]
    after_results
    exact congrArg (transpose S3x64x256x16 [0, 1, 3, 2] · transposes_S3x64x16x256_S3x64x256x16_0_1_3_2)
      (Pipeline.withArrays_arr _ launch0.win.arr_inj c (V0 m c) (fun w => (dats m 0 c).arrAt w cfg0.N) 10)
  rw [h, final10]
  funext i
  pointwise []

theorem W_v6 (c : Dev nD) : Pipeline.afterTail₀ cfgs (dats m) 0 (V0 m) [hostOps1] c main_v6
    = fun i : S3x64x256x16.Idx => TImg (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2) (i 3) := by
  have h : Pipeline.afterTail₀ cfgs (dats m) 0 (V0 m) [hostOps1] c main_v6
      = transpose S3x64x256x16 [0, 1, 3, 2] ((dats m 0 c).arrAt 11 cfg0.N) transposes_S3x64x16x256_S3x64x256x16_0_1_3_2 := by
    unfold Pipeline.afterTail₀
    simp only [hostOps1, List.flatten_cons, List.flatten_nil, List.append_nil, List.cons_append, List.nil_append]
    after_results
    exact congrArg (transpose S3x64x256x16 [0, 1, 3, 2] · transposes_S3x64x16x256_S3x64x256x16_0_1_3_2)
      (Pipeline.withArrays_arr _ launch0.win.arr_inj c (V0 m c) (fun w => (dats m 0 c).arrAt w cfg0.N) 11)
  rw [h, final11]
  funext i
  pointwise []

/-- The run, read: the four results as functions of the arguments, and the arguments unchanged. -/
theorem run_value : θ_run defs (onTc (τ := τ) (main (F := Ideal))) ⟨m, fun _ => 0, ρ⟩ (fun r => ∀ c : Dev nD,
      r.2.mem ((c.tc : Thread nD τ).loc main_v5) = (fun i : S3x64x256x16.Idx => TLat (m ((c : Thread nD τ).loc main_arg6)) (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (i 0) (i 1) (i 2) (i 3))
      ∧ r.2.mem ((c.tc : Thread nD τ).loc main_v6) = (fun i : S3x64x256x16.Idx => TImg (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2) (i 3))
      ∧ r.2.mem ((c.tc : Thread nD τ).loc main_v4_2) = (fun i : S3x2x4096x3072.Idx => TCode (m ((c : Thread nD τ).loc main_arg0)) (m ((c : Thread nD τ).loc main_arg1)) (m ((c : Thread nD τ).loc main_arg2)) (i 0) (i 1) (i 2) (i 3))
      ∧ r.2.mem ((c.tc : Thread nD τ).loc main_v4_3) = (fun i : S3x2x4096.Idx => TScale (m ((c : Thread nD τ).loc main_arg0)) (m ((c : Thread nD τ).loc main_arg1)) (m ((c : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (θ_run_and (run_main m ρ) (frame_run m ρ))
  have hp := (h.1.1 c).1
  have hr := (h.1.1 c).2
  exact ⟨(hr main_v5 (Pipeline.mem_restRefs_of main_v5 (by decide) (by decide))).trans (W_v5 m c),
    (hr main_v6 (Pipeline.mem_restRefs_of main_v6 (by decide) (by decide))).trans (W_v6 m c),
    (hp 12).trans (final12 m c), (hp 13).trans (final13 m c), h.2.1 c⟩

end Cert.KernelIdeal

end
-- ==== Proof.RefSpec.lean ====
/- The arithmetic of one row, as the reference computes it over the extended reals. -/
module

public import Idealize.ShloMosaic.Lib.Pointwise

@[expose] public section

noncomputable section

namespace Cert.ReferenceIdeal

open Idealize.ShloMosaic

/-- The mean of a row. -/
def rMean (x : Fin 3072 → EReal) : EReal := Ideal.div (∑ d, x d) (Ideal.ofBits .f32 1161822208#32)

/-- The normalised, modulated row. -/
def rH (x sc sh : Fin 3072 → EReal) (d : Fin 3072) : EReal :=
  (x d - rMean x) * Ideal.rsqrt (rMean (fun d => (x d - rMean x) * (x d - rMean x)) + Ideal.ofBits .f32 897988541#32)
    * (1 + sc d) + sh d

/-- The largest magnitude of a row, over the largest code. -/
def rQ (h : Fin 3072 → EReal) : EReal :=
  Finset.fold max (Ideal.ofBits .f32 4286578688#32) (fun d => FloatOps.absf (F := Ideal) (φ := .f32) (h d)) Finset.univ
    * Ideal.ofBits .f32 991054117#32

/-- The exponent of the scale. -/
def rE (q : EReal) : EReal :=
  Scalar.select (BitVec.ofBool (decide (q < Ideal.ofBits .f32 8388608#32))) (0 : EReal)
    (Ideal.liftRound Int.floor (Ideal.div (Ideal.log q) (Scalar.log (F := Ideal) (φ := .f32) (Ideal.ofBits .f32 1073741824#32)))
      + Scalar.ofBits (F := Ideal) .f32 0x3F800000#32)

/-- The scale of a row. -/
def rScale (x sc sh : Fin 3072 → EReal) : EReal := FloatOps.exp2 (F := Ideal) (φ := .f32) (rE (rQ (rH x sc sh)))

/-- The codes of a row. -/
def rCode (x sc sh : Fin 3072 → EReal) (d : Fin 3072) : EReal :=
  min (Ideal.ofBits .f32 1138753536#32) (max (Ideal.ofBits .f32 3286237184#32)
    (rH x sc sh d * FloatOps.exp2 (F := Ideal) (φ := .f32) (0 - rE (rQ (rH x sc sh)))))

end Cert.ReferenceIdeal

end
-- ==== Proof.RefValue.lean ====
/- The reference's four results, read at an index, as functions of one token's row. -/
module

public import proofs.«01_k».proof.Proof.Gen.ReferenceIdeal.Value
public import proofs.«01_k».proof.Proof.RefSpec
public import Idealize.ShloMosaic.Lib.Pointwise
public import Idealize.ShloMosaic.PureOps.Ideal.Laws

@[expose] public section

set_option maxRecDepth 16384

noncomputable section

namespace Cert.ReferenceIdeal

open Idealize.ShloMosaic Idealize.ShloMosaic.TcCoe Idealize.ShloMosaic.Tactic
open Cert.ReferenceIdeal.Gen

/-! ## The payloads, over any vectors -/

/-- The modulated row. -/
theorem pay4_apply (X : Vec Ideal S3x2x4096x3072 .bf16) (SC SH : Vec Ideal S3x2x3072 .f32) (b : Fin 3) (p : Fin 2) (r : Fin 4096)
    (d : Fin 3072) : k0_pay4 X SC SH (ix4 b p r d)
      = rH (fun d => X (ix4 b p r d)) (fun d => SC (ix3 b p d)) (fun d => SH (ix3 b p d)) d := by
  unfold rH rMean
  pointwise [k0_pay4]

/-- The index a row's entry has in the array. -/
theorem lift_row (h : S3x2x4096x3072.Reduces [3] S3x2x4096) (b : Fin 3) (p : Fin 2) (r : Fin 4096)
    (k : Fin (S3x2x4096x3072.size 3)) : h.lift (ix3 b p r) k = ix4 b p r (⟨k.val, k.isLt⟩ : Fin 3072) := by
  funext c; apply Fin.ext
  fin_cases c <;> rfl

/-- A maximum over the last axis, at an index: a fold over that axis. -/
theorem maxA (a : FVec Ideal S3x2x4096x3072 .f32) (b : Fin 3) (p : Fin 2) (r : Fin 4096) :
    multiReduction .maximumf [3] S3x2x4096 a 0xFF800000#32 reduces_S3x2x4096x3072_S3x2x4096 (.inl rfl) rfl (ix3 b p r)
      = Finset.fold max (FloatOps.ofBits (F := Ideal) .f32 0xFF800000#32) (a ∘ reduces_S3x2x4096x3072_S3x2x4096.lift (ix3 b p r)) (Finset.univ : Finset (Fin (S3x2x4096x3072.size 3))) :=
  Ideal.multiReduction_maximumf_single a 0xFF800000#32 reduces_S3x2x4096x3072_S3x2x4096 (.inl rfl) rfl (ix3 b p r)

/-- The fold does not depend on how the length of the axis is written. -/
theorem maxB (c : EReal) (n : ℕ) (hn : n = 3072) (f : Fin n → EReal) (g : Fin 3072 → EReal) (h : ∀ k : Fin n, f k = g ⟨k.val, hn ▸ k.isLt⟩) :
    Finset.fold max c f (Finset.univ : Finset (Fin n)) = Finset.fold max c g Finset.univ := by
  subst hn
  exact congrArg (fun f => Finset.fold max c f Finset.univ) (funext h)

/-- The length of a row. -/
theorem size3 : S3x2x4096x3072.size 3 = 3072 := rfl

/-- The maximum of a row, over its entries. -/
theorem maxC (a : FVec Ideal S3x2x4096x3072 .f32) (b : Fin 3) (p : Fin 2) (r : Fin 4096) :
    multiReduction .maximumf [3] S3x2x4096 a 0xFF800000#32 reduces_S3x2x4096x3072_S3x2x4096 (.inl rfl) rfl (ix3 b p r)
      = Finset.fold max (Ideal.ofBits .f32 4286578688#32) (fun d => a (ix4 b p r d)) Finset.univ := by
  rw [maxA]
  exact maxB _ _ size3 _ _ fun k => congrArg a (lift_row _ b p r k)

/-- A product with a constant, at an index. -/
theorem mul_at (a : FVec Ideal S3x2x4096 .f32) (i : S3x2x4096.Idx) :
    mulf a (broadcast S3x2x4096 (Scalar.ofBits (F := Ideal) .f32 0x3B124925#32)) i = (a i : EReal) * Ideal.ofBits .f32 991054117#32 := rfl

/-- A magnitude, at an index. -/
theorem abs_at (h : FVec Ideal S3x2x4096x3072 .f32) (i : S3x2x4096x3072.Idx) :
    absf h i = FloatOps.absf (F := Ideal) (φ := .f32) (h i) := rfl

/-- The largest magnitude of a row, over the largest code. -/
theorem max_apply (h : FVec Ideal S3x2x4096x3072 .f32) (b : Fin 3) (p : Fin 2) (r : Fin 4096) :
    mulf (multiReduction .maximumf [3] S3x2x4096 (absf h) 0xFF800000#32 reduces_S3x2x4096x3072_S3x2x4096 (.inl rfl) rfl)
      (broadcast S3x2x4096 (Scalar.ofBits (F := Ideal) .f32 0x3B124925#32)) (ix3 b p r) = rQ (fun d => h (ix4 b p r d)) := by
  rw [mul_at, maxC]
  simp only [abs_at]
  unfold rQ
  with_reducible rfl

theorem pay5_apply (X : Vec Ideal S3x2x4096x3072 .bf16) (SC SH : Vec Ideal S3x2x3072 .f32) (b : Fin 3) (p : Fin 2) (r : Fin 4096) :
    k0_pay5 X SC SH (ix3 b p r)
      = rQ (rH (fun d => X (ix4 b p r d)) (fun d => SC (ix3 b p d)) (fun d => SH (ix3 b p d))) := by
  unfold k0_pay5
  refine (max_apply (k0_pay4 X SC SH) b p r).trans (congrArg rQ (funext fun d => ?_))
  exact pay4_apply X SC SH b p r d

theorem lt_apply (q : FVec Ideal S3x2x4096 .f32) (b : Fin 3) (p : Fin 2) (r : Fin 4096) :
    cmpf .olt q (broadcast S3x2x4096 (Scalar.ofBits (F := Ideal) .f32 0x00800000#32)) (ix3 b p r)
      = BitVec.ofBool (decide (q (ix3 b p r) < Ideal.ofBits .f32 8388608#32)) := by
  pointwise []

theorem floor_apply (q : FVec Ideal S3x2x4096 .f32) (b : Fin 3) (p : Fin 2) (r : Fin 4096) :
    floor (divf (log q) (broadcast S3x2x4096 (Scalar.log (Scalar.ofBits (F := Ideal) .f32 0x40000000#32)))) (ix3 b p r)
      = Ideal.liftRound Int.floor (Ideal.div (Ideal.log (q (ix3 b p r))) (Scalar.log (F := Ideal) (φ := .f32) (Ideal.ofBits .f32 1073741824#32))) := by
  pointwise []

theorem pay6_apply (X : Vec Ideal S3x2x4096x3072 .bf16) (SC SH : Vec Ideal S3x2x3072 .f32) (b : Fin 3) (p : Fin 2) (r : Fin 4096) :
    k0_pay6 X SC SH (ix3 b p r) = BitVec.ofBool (decide
      (rQ (rH (fun d => X (ix4 b p r d)) (fun d => SC (ix3 b p d)) (fun d => SH (ix3 b p d))) < Ideal.ofBits .f32 8388608#32)) := by
  unfold k0_pay6
  refine (lt_apply (k0_pay5 X SC SH) b p r).trans ?_
  rw [pay5_apply]

theorem pay7_apply (X : Vec Ideal S3x2x4096x3072 .bf16) (SC SH : Vec Ideal S3x2x3072 .f32) (b : Fin 3) (p : Fin 2) (r : Fin 4096) :
    k0_pay7 X SC SH (ix3 b p r) = Ideal.liftRound Int.floor (Ideal.div (Ideal.log
      (rQ (rH (fun d => X (ix4 b p r d)) (fun d => SC (ix3 b p d)) (fun d => SH (ix3 b p d)))))
        (Scalar.log (F := Ideal) (φ := .f32) (Ideal.ofBits .f32 1073741824#32))) := by
  unfold k0_pay7
  refine (floor_apply (k0_pay5 X SC SH) b p r).trans ?_
  rw [pay5_apply]

theorem pay9_apply (v33 : IVec S3x2x4096 1) (v38 : FVec Ideal S3x2x4096 .f32) (cst : EReal) (b : Fin 3) (p : Fin 2) (r : Fin 4096) :
    k0_pay9 (F := Ideal) v33 v38 cst (ix3 b p r)
      = FloatOps.exp2 (F := Ideal) (φ := .f32) (Scalar.select (v33 (ix3 b p r)) (0 : EReal) (v38 (ix3 b p r) + cst)) := by
  pointwise [k0_pay9, k0_pay8]

theorem pay10_apply (v27 : FVec Ideal S3x2x4096x3072 .f32) (v33 : IVec S3x2x4096 1) (v38 : FVec Ideal S3x2x4096 .f32) (cst : EReal)
    (b : Fin 3) (p : Fin 2) (r : Fin 4096) (d : Fin 3072) :
    k0_pay10 (F := Ideal) v27 v33 v38 cst (ix4 b p r d)
      = min (Ideal.ofBits .f32 1138753536#32) (max (Ideal.ofBits .f32 3286237184#32)
        (v27 (ix4 b p r d) * FloatOps.exp2 (F := Ideal) (φ := .f32) (0 - Scalar.select (v33 (ix3 b p r)) (0 : EReal) (v38 (ix3 b p r) + cst)))) := by
  pointwise [k0_pay10, k0_pay8]

/-- The projection of a row, scaled and shifted. -/
theorem mm_apply (C : FVec Ideal S3x2x4096x3072 .fp8e4m3) (S : FVec Ideal S3x2x4096 .f32)
    (W : FVec Ideal S3072x64 .fp8e4m3) (WS B : Vec Ideal S64 .f32) (b : Fin 3) (p : Fin 2) (r : Fin 4096) (n : Fin 64) :
    addf (mulf (mulf (shapeCast S3x2x4096x64 (matmul dot_S24576x3072_S3072x64_S24576x64_1_0_0_1_n_n none
        (shapeCast S24576x3072 C shapeCasts_S3x2x4096x3072_S24576x3072) W (constant S24576x64 .f32 0x00000000#32)) shapeCasts_S24576x64_S3x2x4096x64)
        (broadcastTo S3x2x4096x64 (shapeCast S3x2x4096x1 S shapeCasts_S3x2x4096_S3x2x4096x1) broadcasts_S3x2x4096x1_S3x2x4096x64))
        (broadcastTo S3x2x4096x64 (shapeCast S1x1x1x64 WS shapeCasts_S64_S1x1x1x64) broadcasts_S1x1x1x64_S3x2x4096x64))
        (broadcastTo S3x2x4096x64 (shapeCast S1x1x1x64 B shapeCasts_S64_S1x1x1x64) broadcasts_S1x1x1x64_S3x2x4096x64) (ix4 b p r n)
      = (∑ x, C (ix4 b p r x) * W (ix2 x n)) * S (ix3 b p r) * WS (ix1 n) + B (ix1 n) := by
  pointwise []

theorem pay11_apply (v27 : FVec Ideal S3x2x4096x3072 .f32) (v33 : IVec S3x2x4096 1) (v38 : FVec Ideal S3x2x4096 .f32) (cst : EReal)
    (W : FVec Ideal S3072x64 .fp8e4m3) (WS B : Vec Ideal S64 .f32) (b : Fin 3) (p : Fin 2) (r : Fin 4096) (n : Fin 64) :
    k0_pay11 (F := Ideal) v27 v33 v38 cst W WS B (ix4 b p r n)
      = (∑ x, k0_pay10 (F := Ideal) v27 v33 v38 cst (ix4 b p r x) * W (ix2 x n)) * k0_pay9 (F := Ideal) v33 v38 cst (ix3 b p r) * WS (ix1 n)
        + B (ix1 n) :=
  mm_apply (k0_pay10 v27 v33 v38 cst) (k0_pay9 v33 v38 cst) W WS B b p r n

theorem slice1_apply (Y : FVec Ideal S3x2x4096x64 .f32) (b : Fin 3) (r : Fin 4096) (n : Fin 64) :
    shapeCast S3x4096x64 (extractStridedSlice S3x1x4096x64 ![0, 1, 0, 0] Y slices_S3x2x4096x64_o0_1_0_0_S3x1x4096x64)
      shapeCasts_S3x1x4096x64_S3x4096x64 (ix3 b r n) = Y (ix4 b 1 r n) := by
  pointwise []

theorem slice0_apply (Y : FVec Ideal S3x2x4096x64 .f32) (b : Fin 3) (r : Fin 4096) (n : Fin 64) :
    shapeCast S3x4096x64 (extractStridedSlice S3x1x4096x64 ![0, 0, 0, 0] Y slices_S3x2x4096x64_o0_0_0_0_S3x1x4096x64)
      shapeCasts_S3x1x4096x64_S3x4096x64 (ix3 b r n) = Y (ix4 b 0 r n) := by
  pointwise []

theorem pay12_apply (v27 : FVec Ideal S3x2x4096x3072 .f32) (v33 : IVec S3x2x4096 1) (v38 : FVec Ideal S3x2x4096 .f32) (cst : EReal)
    (W : FVec Ideal S3072x64 .fp8e4m3) (WS B : Vec Ideal S64 .f32) (b : Fin 3) (r : Fin 4096) (n : Fin 64) :
    k0_pay12 (F := Ideal) v27 v33 v38 cst W WS B (ix3 b r n) = k0_pay11 (F := Ideal) v27 v33 v38 cst W WS B (ix4 b 1 r n) :=
  slice1_apply (k0_pay11 v27 v33 v38 cst W WS B) b r n

theorem pay13_apply (v27 : FVec Ideal S3x2x4096x3072 .f32) (v33 : IVec S3x2x4096 1) (v38 : FVec Ideal S3x2x4096 .f32) (cst : EReal)
    (W : FVec Ideal S3072x64 .fp8e4m3) (WS B : Vec Ideal S64 .f32) (b : Fin 3) (r : Fin 4096) (n : Fin 64) :
    k0_pay13 (F := Ideal) v27 v33 v38 cst W WS B (ix3 b r n)
      = k0_pay11 (F := Ideal) v27 v33 v38 cst W WS B (ix4 b 0 r n) - k0_pay11 (F := Ideal) v27 v33 v38 cst W WS B (ix4 b 1 r n) := by
  refine Eq.trans (b := shapeCast S3x4096x64 (extractStridedSlice S3x1x4096x64 ![0, 0, 0, 0] (k0_pay11 (F := Ideal) v27 v33 v38 cst W WS B) slices_S3x2x4096x64_o0_0_0_0_S3x1x4096x64)
      shapeCasts_S3x1x4096x64_S3x4096x64 (ix3 b r n) - k0_pay12 (F := Ideal) v27 v33 v38 cst W WS B (ix3 b r n)) rfl ?_
  rw [slice0_apply, pay12_apply]

theorem pay14_apply (g : Vec Ideal S3 .f32) (b : Fin 3) (r : Fin 4096) (n : Fin 64) :
    k0_pay14 (F := Ideal) g (ix3 b r n) = g (ix1 b) := by
  pointwise [k0_pay14]

/-- The output a pixel of the image takes, and the token it lies in. -/
def rPixN (i : Fin 64) (k : Fin 256) (l : Fin 16) : Fin 64 := ⟨i.val % 2 * 32 + k.val % 2 * 16 + l.val, by omega⟩
def rPixR (i : Fin 64) (k : Fin 256) : Fin 4096 := ⟨i.val / 2 * 128 + k.val / 2, by omega⟩

theorem pay1_apply (v75 v78 v79 : FVec Ideal S3x4096x64 .f32) (b : Fin 3) (i : Fin 64) (k : Fin 256) (l : Fin 16) :
    k0_pay1 (F := Ideal) v75 v78 v79 (ix4 b i k l)
      = v75 (ix3 b (rPixR i k) (rPixN i k l)) + v79 (ix3 b (rPixR i k) (rPixN i k l)) * v78 (ix3 b (rPixR i k) (rPixN i k l)) := by
  unfold rPixR rPixN
  pointwise [k0_pay1]

theorem pay3_apply (v75 v78 v79 : FVec Ideal S3x4096x64 .f32) (b : Fin 3) (i : Fin 64) (k : Fin 256) (l : Fin 16) :
    k0_pay3 (F := Ideal) v75 v78 v79 (ix4 b i k l) = k0_pay1 (F := Ideal) v75 v78 v79 (ix4 b i k l) := by
  pointwise [k0_pay3]

theorem pay2_apply (v75 v78 v79 : FVec Ideal S3x4096x64 .f32) (L : Vec Ideal S3x64x256x16 .f32) (t' t : Vec Ideal S3 .f32)
    (b : Fin 3) (i : Fin 64) (k : Fin 256) (l : Fin 16) :
    k0_pay2 (F := Ideal) v75 v78 v79 L t' t (ix4 b i k l)
      = L (ix4 b i k l) + (t' (ix1 b) - t (ix1 b)) * k0_pay1 (F := Ideal) v75 v78 v79 (ix4 b i k l) := by
  pointwise [k0_pay2]

/-! ## The results -/

section
variable (a0 : Vec Ideal S3 .f32) (a1 : Vec Ideal S3 .f32) (a2 : Vec Ideal S3 .f32) (a3 : Vec Ideal S3x2x4096x3072 .bf16)
  (a4 : Vec Ideal S3x2x3072 .f32) (a5 : Vec Ideal S3x2x3072 .f32) (a6 : Vec Ideal S3072x64 .fp8e4m3) (a7 : Vec Ideal S64 .f32)
  (a8 : Vec Ideal S64 .f32) (a9 : Vec Ideal S3x64x256x16 .f32)

/-- The projection of a token. -/
def rProj (b : Fin 3) (p : Fin 2) (n : Fin 64) (r : Fin 4096) : EReal :=
  (∑ x, rCode (fun d => a3 (ix4 b p r d)) (fun d => a5 (ix3 b p d)) (fun d => a4 (ix3 b p d)) x * a6 (ix2 x n))
    * rScale (fun d => a3 (ix4 b p r d)) (fun d => a5 (ix3 b p d)) (fun d => a4 (ix3 b p d)) * a7 (ix1 n) + a8 (ix1 n)

/-- The velocity image. -/
def rImg (b : Fin 3) (i : Fin 64) (k : Fin 256) (l : Fin 16) : EReal :=
  rProj a3 a4 a5 a6 a7 a8 b 1 (rPixN i k l) (rPixR i k)
    + a0 (ix1 b) * (rProj a3 a4 a5 a6 a7 a8 b 0 (rPixN i k l) (rPixR i k) - rProj a3 a4 a5 a6 a7 a8 b 1 (rPixN i k l) (rPixR i k))

theorem pay15_eq : k0_pay15 a0 a1 a2 a3 a4 a5 a6 a7 a8 a9 = k0_pay4 a3 a5 a4 := by
  unfold k0_pay15
  rw [View.ld_unit_zero (S := S3x2x4096x3072) Value.hz3 _ a3, View.ld_unit_zero (S := S3x2x3072) Value.hz4 _ a5, View.ld_unit_zero (S := S3x2x3072) Value.hz4 _ a4]
theorem pay16_eq : k0_pay16 a0 a1 a2 a3 a4 a5 a6 a7 a8 a9 = k0_pay6 a3 a5 a4 := by
  unfold k0_pay16
  rw [View.ld_unit_zero (S := S3x2x4096x3072) Value.hz3 _ a3, View.ld_unit_zero (S := S3x2x3072) Value.hz4 _ a5, View.ld_unit_zero (S := S3x2x3072) Value.hz4 _ a4]
theorem pay17_eq : k0_pay17 a0 a1 a2 a3 a4 a5 a6 a7 a8 a9 = k0_pay7 a3 a5 a4 := by
  unfold k0_pay17
  rw [View.ld_unit_zero (S := S3x2x4096x3072) Value.hz3 _ a3, View.ld_unit_zero (S := S3x2x3072) Value.hz4 _ a5, View.ld_unit_zero (S := S3x2x3072) Value.hz4 _ a4]
theorem pay18_eq : k0_pay18 a0 a1 a2 a3 a4 a5 a6 a7 a8 a9
    = k0_pay12 (k0_pay4 a3 a5 a4) (k0_pay6 a3 a5 a4) (k0_pay7 a3 a5 a4) (Scalar.ofBits .f32 0x3F800000#32) a6 a7 a8 := by
  unfold k0_pay18
  rw [pay15_eq, pay16_eq, pay17_eq, View.ld_unit_zero (S := S3072x64) Value.hz6 _ a6, View.ld_unit_zero (S := S64) Value.hz7 _ a7, View.ld_unit_zero (S := S64) Value.hz7 _ a8]
theorem pay19_eq : k0_pay19 a0 a1 a2 a3 a4 a5 a6 a7 a8 a9
    = k0_pay13 (k0_pay4 a3 a5 a4) (k0_pay6 a3 a5 a4) (k0_pay7 a3 a5 a4) (Scalar.ofBits .f32 0x3F800000#32) a6 a7 a8 := by
  unfold k0_pay19
  rw [pay15_eq, pay16_eq, pay17_eq, View.ld_unit_zero (S := S3072x64) Value.hz6 _ a6, View.ld_unit_zero (S := S64) Value.hz7 _ a7, View.ld_unit_zero (S := S64) Value.hz7 _ a8]
theorem pay20_eq : k0_pay20 a0 a1 a2 a3 a4 a5 a6 a7 a8 a9 = k0_pay14 a0 := by
  unfold k0_pay20
  rw [View.ld_unit_zero (S := S3) Value.hz0 _ a0]

theorem code_apply (b : Fin 3) (p : Fin 2) (r : Fin 4096) (d : Fin 3072) :
    k0_pay10 (F := Ideal) (k0_pay4 a3 a5 a4) (k0_pay6 a3 a5 a4) (k0_pay7 a3 a5 a4) (Scalar.ofBits .f32 0x3F800000#32) (ix4 b p r d)
      = rCode (fun d => a3 (ix4 b p r d)) (fun d => a5 (ix3 b p d)) (fun d => a4 (ix3 b p d)) d := by
  rw [pay10_apply, pay4_apply, pay6_apply, pay7_apply]; rfl

theorem scale_apply (b : Fin 3) (p : Fin 2) (r : Fin 4096) :
    k0_pay9 (F := Ideal) (k0_pay6 a3 a5 a4) (k0_pay7 a3 a5 a4) (Scalar.ofBits .f32 0x3F800000#32) (ix3 b p r)
      = rScale (fun d => a3 (ix4 b p r d)) (fun d => a5 (ix3 b p d)) (fun d => a4 (ix3 b p d)) := by
  rw [pay9_apply, pay6_apply, pay7_apply]; rfl

theorem proj_apply (b : Fin 3) (p : Fin 2) (r : Fin 4096) (n : Fin 64) :
    k0_pay11 (F := Ideal) (k0_pay4 a3 a5 a4) (k0_pay6 a3 a5 a4) (k0_pay7 a3 a5 a4) (Scalar.ofBits .f32 0x3F800000#32) a6 a7 a8 (ix4 b p r n)
      = rProj a3 a4 a5 a6 a7 a8 b p n r := by
  rw [pay11_apply, scale_apply]
  unfold rProj
  simp only [code_apply]

/-- The velocity image. -/
theorem img_apply (b : Fin 3) (i : Fin 64) (k : Fin 256) (l : Fin 16) :
    k0_pay1 (F := Ideal) (k0_pay18 a0 a1 a2 a3 a4 a5 a6 a7 a8 a9) (k0_pay19 a0 a1 a2 a3 a4 a5 a6 a7 a8 a9) (k0_pay20 a0 a1 a2 a3 a4 a5 a6 a7 a8 a9)
      (ix4 b i k l) = rImg a0 a3 a4 a5 a6 a7 a8 b i k l := by
  rw [pay18_eq, pay19_eq, pay20_eq, pay1_apply, pay12_apply, pay13_apply, pay14_apply, proj_apply, proj_apply]
  rfl

/-- The first result: the next latent. -/
theorem G10_apply (b : Fin 3) (i : Fin 64) (k : Fin 256) (l : Fin 16) :
    Value.G10 (F := Ideal) a0 a1 a2 a3 a4 a5 a6 a7 a8 a9 (ix4 b i k l)
      = a9 (ix4 b i k l) + (a2 (ix1 b) - a1 (ix1 b)) * rImg a0 a3 a4 a5 a6 a7 a8 b i k l := by
  refine (pay2_apply _ _ _ a9 a2 a1 b i k l).trans ?_
  rw [img_apply]

/-- The second result: the velocity image. -/
theorem G11_apply (b : Fin 3) (i : Fin 64) (k : Fin 256) (l : Fin 16) :
    Value.G11 (F := Ideal) a0 a1 a2 a3 a4 a5 a6 a7 a8 a9 (ix4 b i k l) = rImg a0 a3 a4 a5 a6 a7 a8 b i k l := by
  refine (pay3_apply _ _ _ b i k l).trans ?_
  rw [img_apply]

/-- The third result: the codes. -/
theorem G12_apply (b : Fin 3) (p : Fin 2) (r : Fin 4096) (d : Fin 3072) :
    Value.G12 (F := Ideal) a0 a1 a2 a3 a4 a5 a6 a7 a8 a9 (ix4 b p r d)
      = rCode (fun d => a3 (ix4 b p r d)) (fun d => a5 (ix3 b p d)) (fun d => a4 (ix3 b p d)) d := by
  unfold Value.G12
  rw [pay15_eq, pay16_eq, pay17_eq, code_apply]

/-- The fourth result: the scales. -/
theorem G13_apply (b : Fin 3) (p : Fin 2) (r : Fin 4096) :
    Value.G13 (F := Ideal) a0 a1 a2 a3 a4 a5 a6 a7 a8 a9 (ix3 b p r)
      = rScale (fun d => a3 (ix4 b p r d)) (fun d => a5 (ix3 b p d)) (fun d => a4 (ix3 b p d)) := by
  unfold Value.G13
  rw [pay16_eq, pay17_eq, scale_apply]
end

end Cert.ReferenceIdeal

end
-- ==== Proof.Consts.lean ====
/- The float constants the two programs spell, as the extended reals their patterns denote. -/
module

public import Idealize.ShloMosaic.PureOps.Ideal

@[expose] public section

noncomputable section

namespace Cert.Consts

open Idealize.ShloMosaic

theorem ofBits_3072 : Ideal.ofBits .f32 1161822208#32 = ((3072 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_ninf : Ideal.ofBits .f32 4286578688#32 = ⊥ := by
  simp [Ideal.ofBits, Ideal.ieee, -EReal.coe_mul]

/-- The small constant is a positive real. -/
theorem ofBits_eps : ∃ e : ℝ, 0 < e ∧ Ideal.ofBits .f32 897988541#32 = (e : EReal) := by
  refine ⟨(8796093 : ℝ) * (2 : ℝ) ^ (-43 : ℤ), by positivity, ?_⟩
  simp [Ideal.ofBits, Ideal.ieee, -EReal.coe_mul]

/-- The reciprocal of the largest code is a real between zero and one. -/
theorem ofBits_c : ∃ e : ℝ, 0 < e ∧ e ≤ 1 ∧ Ideal.ofBits .f32 991054117#32 = (e : EReal) := by
  refine ⟨(9586981 : ℝ) * (2 : ℝ) ^ (-32 : ℤ), by positivity, by norm_num, ?_⟩
  simp [Ideal.ofBits, Ideal.ieee, -EReal.coe_mul]

/-- The bound of the precondition is a real, at most `2 · 10^30`. -/
theorem ofBits_bound : ∃ e : ℝ, e ≤ 2 * 10 ^ 30 ∧ Ideal.ofBits .f32 0x7149F2CA#32 = (e : EReal) := by
  refine ⟨(13234890 : ℝ) * (2 : ℝ) ^ (76 : ℤ), by norm_num, ?_⟩
  simp [Ideal.ofBits, Ideal.ieee, -EReal.coe_mul]

/-- The word whose exponent field is `k` and whose other bits are zero. -/
def word (k : ℕ) : BitVec 32 := BitVec.ofNat 32 k <<< 23

/-- What that word denotes: a power of two, zero, or infinity. -/
def val (k : ℕ) : EReal := if k = 255 then ⊤ else if k = 0 then 0 else (((2 : ℝ) ^ ((k : ℤ) - 127) : ℝ) : EReal)

theorem word_sign : ∀ k : Fin 256, (word k).extractLsb' 31 1 = 0#1 := by decide
theorem word_exp : ∀ k : Fin 256, ((word k).extractLsb' 23 8).toNat = k.val := by decide
theorem word_frac : ∀ k : Fin 256, ((word k).extractLsb' 0 23).toNat = 0 := by decide

theorem ofBits_word (k : ℕ) (hk : k < 256) : Ideal.ofBits .f32 (word k) = val k := by
  have hs := word_sign ⟨k, hk⟩
  have he := word_exp ⟨k, hk⟩
  have hf := word_frac ⟨k, hk⟩
  simp only at hs he hf
  unfold Ideal.ofBits Ideal.ieee val
  simp only [Nat.reduceAdd, hs, he, hf]
  by_cases h1 : k = 255
  · simp [h1]
  · by_cases h0 : k = 0
    · simp [h0]
    · simp only [Nat.reducePow, Nat.reduceSub, h1, h0, if_false]
      have key : (2 : ℝ) ^ ((k : ℤ) - 127) = 8388608 * 2 ^ ((k : ℤ) - (2 ^ 7 - 1) - ((23 : ℕ) : ℤ)) := by
        rw [show ((k : ℤ) - 127) = ((k : ℤ) - (2 ^ 7 - 1) - ((23 : ℕ) : ℤ)) + 23 by push_cast; ring, zpow_add₀ (by norm_num : (2 : ℝ) ≠ 0), mul_comm]
        norm_num
      have hsg : (if (0#1 == 1#1) = true then (-1 : ℝ) else 1) = 1 := if_neg (by decide)
      rw [key, hsg, one_mul, show ((8388608 + 0 : ℕ) : ℝ) = 8388608 by norm_num]

theorem ofBits_tiny : Ideal.ofBits .f32 8388608#32 = val 1 := by
  rw [← ofBits_word 1 (by norm_num)]; rfl

end Cert.Consts

end
-- ==== Proof.Math.lean ====
/- The kernel's row arithmetic is the reference's: the named reciprocal is the quotient, and the scale read off the
   exponent field is the power of two the reference computes by a logarithm. -/
module

public import proofs.«01_k».proof.Proof.Spec
public import proofs.«01_k».proof.Proof.RefSpec
public import proofs.«01_k».proof.Proof.Consts

@[expose] public section

noncomputable section

namespace Cert.Bridge

open Idealize.ShloMosaic Cert.KernelIdeal Cert.ReferenceIdeal Cert.Consts

/-! ## The row -/

theorem invD_eq : invD = ((3072⁻¹ : ℝ) : EReal) :=
  IdealRules.named_const.ideal_named_scalar Cert.KernelIdeal.κ "inv_d" (φ := .f32) 0x39AAAAAB#32 ((3072⁻¹ : ℝ) : EReal) rfl

theorem div_D (y : EReal) : Ideal.div y (Ideal.ofBits .f32 1161822208#32) = y * invD := by
  rw [ofBits_3072, Ideal.div_coe (by norm_num), invD_eq, one_div]

theorem rMean_eq (x : Fin 3072 → EReal) : rMean x = rowMean x := div_D _

theorem rH_eq (x sc sh : Fin 3072 → EReal) : rH x sc sh = rowH x sc sh := by
  funext d
  unfold rH rowH rowRs
  rw [rMean_eq]
  unfold rMean
  rw [div_D]

/-! ## The search for the exponent field -/

/-- What the search knows after a step: the field of `q` lies in the `w` numbers from `e` on. -/
def Inv (q : EReal) (e w : ℕ) : Prop := e + w ≤ 256 ∧ val e ≤ q ∧ (e + w = 256 ∨ q < val (e + w))

theorem step (q : EReal) (e w : ℕ) (hw : 0 < w) (h : Inv q e (w + w)) :
    ∃ e', efStep q (BitVec.ofNat 32 w) (BitVec.ofNat 32 e) = BitVec.ofNat 32 e' ∧ Inv q e' w := by
  obtain ⟨h1, h2, h3⟩ := h
  have hadd : IntOp.addi (BitVec.ofNat 32 e) (BitVec.ofNat 32 w) = BitVec.ofNat 32 (e + w) := by
    unfold IntOp.addi; exact (BitVec.ofNat_add e w).symm
  have hv : Ideal.ofBits .f32 (IntOp.shli ArithUnit.vector (BitVec.ofNat 32 (e + w)) 23#32) = val (e + w) := by
    rw [← ofBits_word (e + w) (by omega)]; rfl
  unfold efStep
  rw [hadd, hv]
  by_cases hc : val (e + w) ≤ q
  · exact ⟨e + w, if_pos hc, by omega, hc, by rw [Nat.add_assoc]; exact h3⟩
  · exact ⟨e, if_neg hc, by omega, h2, .inr (not_le.mp hc)⟩

theorem efOf_spec (q : EReal) (hq : 0 ≤ q) : ∃ e, efOf q = BitVec.ofNat 32 e ∧ Inv q e 1 := by
  have h0 : Inv q 0 (128 + 128) := ⟨by norm_num, by simpa [val] using hq, .inl (by norm_num)⟩
  obtain ⟨e1, r1, i1⟩ := step q 0 128 (by norm_num) h0
  obtain ⟨e2, r2, i2⟩ := step q e1 64 (by norm_num) i1
  obtain ⟨e3, r3, i3⟩ := step q e2 32 (by norm_num) i2
  obtain ⟨e4, r4, i4⟩ := step q e3 16 (by norm_num) i3
  obtain ⟨e5, r5, i5⟩ := step q e4 8 (by norm_num) i4
  obtain ⟨e6, r6, i6⟩ := step q e5 4 (by norm_num) i5
  obtain ⟨e7, r7, i7⟩ := step q e6 2 (by norm_num) i6
  obtain ⟨e8, r8, i8⟩ := step q e7 1 (by norm_num) i7
  refine ⟨e8, ?_, i8⟩
  unfold efOf
  rw [r1, r2, r3, r4, r5, r6, r7, r8]

theorem val_pos (k : ℕ) (h0 : k ≠ 0) (h1 : k ≠ 255) : val k = (((2 : ℝ) ^ ((k : ℤ) - 127) : ℝ) : EReal) := by
  unfold val; rw [if_neg h1, if_neg h0]

/-- Below the smallest normal the field is zero; from there to `2 ^ 126` it is the binade's. -/
theorem efOf_small (r : ℝ) (h0 : 0 ≤ r) (h : r < (2 : ℝ) ^ (-126 : ℤ)) : efOf (r : EReal) = 0#32 := by
  obtain ⟨e, he, h1, h2, h3⟩ := efOf_spec (r : EReal) (by exact_mod_cast h0)
  rw [he]
  by_cases e0 : e = 0
  · rw [e0]
  · exfalso
    by_cases e1 : e = 255
    · rw [e1] at h2; simp [val] at h2
    · rw [val_pos e e0 e1, EReal.coe_le_coe_iff] at h2
      have : (2 : ℝ) ^ (-126 : ℤ) ≤ 2 ^ ((e : ℤ) - 127) := zpow_le_zpow_right₀ (by norm_num) (by omega)
      linarith

theorem efOf_big (r : ℝ) (h : (2 : ℝ) ^ (-126 : ℤ) ≤ r) (h' : r < (2 : ℝ) ^ (126 : ℤ)) :
    ∃ e : ℕ, efOf (r : EReal) = BitVec.ofNat 32 e ∧ 1 ≤ e ∧ e ≤ 252 ∧ (2 : ℝ) ^ ((e : ℤ) - 127) ≤ r ∧ r < (2 : ℝ) ^ ((e : ℤ) - 126) := by
  have hpos : 0 < r := lt_of_lt_of_le (by positivity) h
  obtain ⟨e, he, h1, h2, h3⟩ := efOf_spec (r : EReal) (by exact_mod_cast hpos.le)
  have e255 : e ≠ 255 := by
    intro e1; rw [e1] at h2; simp [val] at h2
  have e0 : e ≠ 0 := by
    intro e0
    subst e0
    rcases h3 with h3 | h3
    · omega
    · rw [val_pos _ (by norm_num) (by norm_num), EReal.coe_lt_coe_iff] at h3
      norm_num at h3 h
      linarith
  rw [val_pos e e0 e255, EReal.coe_le_coe_iff] at h2
  have e252 : e ≤ 252 := by
    by_contra hc
    have : (2 : ℝ) ^ (126 : ℤ) ≤ 2 ^ ((e : ℤ) - 127) := zpow_le_zpow_right₀ (by norm_num) (by omega)
    linarith
  refine ⟨e, he, by omega, e252, h2, ?_⟩
  rcases h3 with h3 | h3
  · omega
  · rw [val_pos _ (by omega) (by omega), EReal.coe_lt_coe_iff] at h3
    have : (((e + 1 : ℕ) : ℤ) - 127) = (e : ℤ) - 126 := by push_cast; ring
    rwa [this] at h3

theorem select_fix (e : ℕ) (h1 : 1 ≤ e) (h2 : e ≤ 252) :
    Scalar.select (IntOp.ori (IntOp.cmpi .eq (BitVec.ofNat 32 e) 0#32) (IntOp.cmpi .eq (BitVec.ofNat 32 e) 255#32)) 126#32 (BitVec.ofNat 32 e)
      = BitVec.ofNat 32 e := by
  have key : ∀ k : Fin 253, 1 ≤ k.val → IntOp.ori (IntOp.cmpi .eq (BitVec.ofNat 32 k.val) 0#32) (IntOp.cmpi .eq (BitVec.ofNat 32 k.val) 255#32) = 0#1 := by
    decide
  rw [key ⟨e, by omega⟩ h1]
  rfl

theorem exp2_int (n : ℤ) : FloatOps.exp2 (F := Ideal) (φ := .f32) (((n : ℝ)) : EReal) = (((2 : ℝ) ^ n : ℝ) : EReal) := by
  show ((Real.rpow 2 (n : ℝ) : ℝ) : EReal) = _
  congr 1
  exact Real.rpow_intCast 2 n

theorem one_bits : Scalar.ofBits (F := Ideal) .f32 0x3F800000#32 = (1 : EReal) := by
  show Ideal.ofBits .f32 0x3F800000#32 = 1
  have h := ofBits_word 127 (by norm_num)
  rw [val_pos _ (by norm_num) (by norm_num)] at h
  refine Eq.trans (b := Ideal.ofBits .f32 (word 127)) rfl (h.trans ?_)
  norm_num

theorem rE_small (r : ℝ) (h : r < (2 : ℝ) ^ (-126 : ℤ)) : rE (r : EReal) = 0 := by
  unfold rE
  rw [ofBits_tiny, val_pos _ (by norm_num) (by norm_num), decide_eq_true (by rw [EReal.coe_lt_coe_iff]; norm_num at h ⊢; exact h)]
  rfl

theorem rE_big (r : ℝ) (e : ℕ) (h : (2 : ℝ) ^ (-126 : ℤ) ≤ r) (h1 : (2 : ℝ) ^ ((e : ℤ) - 127) ≤ r) (h2 : r < (2 : ℝ) ^ ((e : ℤ) - 126)) :
    rE (r : EReal) = ((((e : ℤ) - 126 : ℤ) : ℝ) : EReal) := by
  have hpos : 0 < r := lt_of_lt_of_le (by positivity) h
  unfold rE
  rw [ofBits_tiny, val_pos _ (by norm_num) (by norm_num), decide_eq_false (by rw [EReal.coe_lt_coe_iff, not_lt]; norm_num at h ⊢; exact h), one_bits]
  have hl2 : Real.log 2 ≠ 0 := (Real.log_pos (by norm_num)).ne'
  have hlog2 : Scalar.log (F := Ideal) (φ := .f32) (Ideal.ofBits .f32 1073741824#32) = ((Real.log 2 : ℝ) : EReal) := by
    rw [ofBits_two]
    show (if (2 : ℝ) ≤ 0 then ⊥ else ((Real.log 2 : ℝ) : EReal)) = _
    rw [if_neg (by norm_num)]
  have hlog : Ideal.log (r : EReal) = ((Real.log r : ℝ) : EReal) := by
    show (if r ≤ 0 then ⊥ else ((Real.log r : ℝ) : EReal)) = _
    rw [if_neg (by linarith)]
  rw [hlog2, hlog, Ideal.div_coe hl2, ← EReal.coe_mul]
  show (((⌊Real.log r * (1 / Real.log 2)⌋ : ℤ) : ℝ) : EReal) + 1 = _
  have hf : ⌊Real.log r * (1 / Real.log 2)⌋ = (e : ℤ) - 127 := by
    have lp : 0 < Real.log 2 := Real.log_pos (by norm_num)
    rw [mul_one_div, Int.floor_eq_iff, le_div_iff₀ lp, div_lt_iff₀ lp]
    constructor
    · rw [← Real.log_zpow]
      exact Real.log_le_log (by positivity) h1
    · have : ((((e : ℤ) - 127 : ℤ) : ℝ) + 1) = (((e : ℤ) - 126 : ℤ) : ℝ) := by push_cast; ring
      rw [this, ← Real.log_zpow]
      exact Real.log_lt_log hpos h2
  rw [hf, ← EReal.coe_one, ← EReal.coe_add]
  congr 1
  push_cast
  ring

theorem scale_of (q : EReal) (n : ℕ) (hn : n ≤ 252) (h : efFix q = BitVec.ofNat 32 n) (h1 : 1 ≤ n) :
    kScale q = (((2 : ℝ) ^ ((n : ℤ) - 126) : ℝ) : EReal) ∧ kInv q = (((2 : ℝ) ^ (126 - (n : ℤ)) : ℝ) : EReal) := by
  have hs : IntOp.subi 253#32 (BitVec.ofNat 32 n) = BitVec.ofNat 32 (253 - n) := by
    have key : ∀ k : Fin 253, IntOp.subi 253#32 (BitVec.ofNat 32 k.val) = BitVec.ofNat 32 (253 - k.val) := by decide
    exact key ⟨n, by omega⟩
  have ha : IntOp.addi (BitVec.ofNat 32 n) 1#32 = BitVec.ofNat 32 (n + 1) := (BitVec.ofNat_add n 1).symm
  unfold kScale kInv
  rw [h, hs, ha]
  constructor
  · refine Eq.trans (b := Ideal.ofBits .f32 (word (n + 1))) rfl ?_
    rw [ofBits_word _ (by omega), val_pos _ (by omega) (by omega)]
    congr 2; push_cast; ring
  · refine Eq.trans (b := Ideal.ofBits .f32 (word (253 - n))) rfl ?_
    rw [ofBits_word _ (by omega), val_pos _ (by omega) (by omega)]
    congr 2; omega

/-- The scale and its reciprocal are the reference's. -/
theorem scale_eq (r : ℝ) (h0 : 0 ≤ r) (h' : r < (2 : ℝ) ^ (126 : ℤ)) :
    kScale (r : EReal) = FloatOps.exp2 (F := Ideal) (φ := .f32) (rE (r : EReal))
      ∧ kInv (r : EReal) = FloatOps.exp2 (F := Ideal) (φ := .f32) (0 - rE (r : EReal)) := by
  by_cases h : r < (2 : ℝ) ^ (-126 : ℤ)
  · have hfix : efFix (r : EReal) = BitVec.ofNat 32 126 := by
      unfold efFix; rw [efOf_small r h0 h]; rfl
    obtain ⟨a, b⟩ := scale_of (r : EReal) 126 (by norm_num) hfix (by norm_num)
    have e0 := exp2_int 0
    have z : ((((0 : ℤ) : ℝ)) : EReal) = 0 := by norm_num
    rw [z] at e0
    rw [rE_small r h, sub_zero, e0, a, b]
    norm_num
  · obtain ⟨e, he, e1, e2, l1, l2⟩ := efOf_big r (not_lt.mp h) h'
    have hfix : efFix (r : EReal) = BitVec.ofNat 32 e := by
      unfold efFix; rw [he]; exact select_fix e e1 e2
    obtain ⟨a, b⟩ := scale_of (r : EReal) e e2 hfix e1
    rw [rE_big r e (not_lt.mp h) l1 l2, exp2_int, a, b]
    refine ⟨rfl, ?_⟩
    have z : (0 : EReal) - ((((e : ℤ) - 126 : ℤ) : ℝ) : EReal) = (((126 - (e : ℤ) : ℤ) : ℝ) : EReal) := by
      rw [← EReal.coe_zero, ← EReal.coe_sub]; congr 1; push_cast; ring
    rw [z, exp2_int]

end Cert.Bridge

end
-- ==== Proof.Bound.lean ====
/- A normalised row is bounded, so the row's largest magnitude is a number below `2 ^ 126` when the modulation is
   bounded, and there the kernel's codes and scale are the reference's. -/
module

public import proofs.«01_k».proof.Proof.Math

@[expose] public section

noncomputable section

namespace Cert.Bridge

open Idealize.ShloMosaic Cert.KernelIdeal Cert.ReferenceIdeal Cert.Consts

theorem sq_nonneg (x : EReal) : 0 ≤ x * x := by
  induction x with
  | bot => simp
  | top => simp
  | coe r => rw [← EReal.coe_mul]; exact_mod_cast mul_self_nonneg r

theorem coe_sum' (v : Fin 3072 → ℝ) : (∑ d, ((v d : ℝ) : EReal)) = ((∑ d, v d : ℝ) : EReal) := by
  classical
  induction (Finset.univ : Finset (Fin 3072)) using Finset.induction_on with
  | empty => simp
  | insert a s ha ih => rw [Finset.sum_insert ha, Finset.sum_insert ha, ih, EReal.coe_add]

/-- Each entry times the reciprocal root of the mean square is a number of magnitude at most the row's length; an
    infinite entry makes the mean square infinite and its reciprocal root zero. -/
theorem norm_bound (u : Fin 3072 → EReal) (d : Fin 3072) :
    ∃ t : ℝ, |t| ≤ 3072 ∧ u d * Ideal.rsqrt ((∑ d, u d * u d) * invD + Ideal.ofBits .f32 897988541#32) = (t : EReal) := by
  obtain ⟨e, he, hE⟩ := ofBits_eps
  rw [hE, invD_eq]
  by_cases hinf : ∃ k, u k = ⊤ ∨ u k = ⊥
  · obtain ⟨k, hk⟩ := hinf
    have htop : u k * u k = ⊤ := by rcases hk with hk | hk <;> rw [hk] <;> simp
    have hle : u k * u k ≤ ∑ d, u d * u d :=
      Finset.single_le_sum (f := fun d => u d * u d) (fun i _ => sq_nonneg (u i)) (Finset.mem_univ k)
    rw [htop, top_le_iff] at hle
    rw [hle, EReal.top_mul_coe_of_pos (by norm_num), EReal.top_add_coe]
    exact ⟨0, by norm_num, by show u d * (0 : EReal) = _; simp⟩
  · push Not at hinf
    have hv : ∀ k, u k = (((u k).toReal : ℝ) : EReal) := fun k => (EReal.coe_toReal (hinf k).1 (hinf k).2).symm
    generalize hvd : (fun k => (u k).toReal) = v at hv
    have hu : ∀ k, u k = ((v k : ℝ) : EReal) := fun k => by rw [← hvd]; exact (EReal.coe_toReal (hinf k).1 (hinf k).2).symm
    have hs : (∑ d, u d * u d) = ((∑ d, v d * v d : ℝ) : EReal) := by
      rw [← coe_sum']
      exact Finset.sum_congr rfl fun k _ => by rw [hu k, EReal.coe_mul]
    rw [hs, hu d, ← EReal.coe_mul, ← EReal.coe_add]
    have hd : v d * v d ≤ ∑ d, v d * v d :=
      Finset.single_le_sum (f := fun d => v d * v d) (fun i _ => mul_self_nonneg (v i)) (Finset.mem_univ d)
    generalize (∑ d, v d * v d) = s at hd
    have hs0 : 0 ≤ s := (mul_self_nonneg (v d)).trans hd
    have hpos : 0 < s * 3072⁻¹ + e := by positivity
    have hr : Ideal.rsqrt ((s * 3072⁻¹ + e : ℝ) : EReal) = (((Real.sqrt (s * 3072⁻¹ + e))⁻¹ : ℝ) : EReal) := by
      show (if s * 3072⁻¹ + e < 0 then ⊥ else if s * 3072⁻¹ + e = 0 then ⊤ else (((Real.sqrt (s * 3072⁻¹ + e))⁻¹ : ℝ) : EReal)) = _
      rw [if_neg (not_lt.mpr hpos.le), if_neg hpos.ne']
    rw [hr, ← EReal.coe_mul]
    refine ⟨_, ?_, rfl⟩
    have hq : 0 < Real.sqrt (s * 3072⁻¹ + e) := Real.sqrt_pos.mpr hpos
    rw [abs_mul, abs_inv, abs_of_pos hq, ← div_eq_mul_inv, div_le_iff₀ hq]
    refine abs_le_of_sq_le_sq' ?_ (by positivity) |> abs_le.mpr
    rw [mul_pow, Real.sq_sqrt hpos.le]
    nlinarith

/-- A number whose magnitude is at most the bound of the precondition. -/
def Bounded (y : EReal) : Prop := FloatOps.absf (F := Ideal) (φ := .f32) y ≤ Ideal.ofBits .f32 0x7149F2CA#32

theorem Bounded.real {y : EReal} (h : Bounded y) : ∃ r : ℝ, |r| ≤ 2 * 10 ^ 30 ∧ y = (r : EReal) := by
  obtain ⟨e, he, hE⟩ := ofBits_bound
  unfold Bounded at h
  rw [hE] at h
  have h' : max y (-y) ≤ (e : EReal) := h
  obtain ⟨h1, h2⟩ := max_le_iff.mp h'
  induction y with
  | bot => simp at h2
  | top => simp at h1
  | coe r =>
    refine ⟨r, ?_, rfl⟩
    rw [← EReal.coe_neg, EReal.coe_le_coe_iff] at h2
    rw [EReal.coe_le_coe_iff] at h1
    exact abs_le.mpr ⟨by linarith, by linarith⟩

theorem rowH_real (x sc sh : Fin 3072 → EReal) (hsc : ∀ d, Bounded (sc d)) (hsh : ∀ d, Bounded (sh d)) (d : Fin 3072) :
    ∃ t : ℝ, |t| ≤ 10 ^ 35 ∧ rowH x sc sh d = (t : EReal) := by
  obtain ⟨a, ha, hA⟩ := (hsc d).real
  obtain ⟨b, hb, hB⟩ := (hsh d).real
  obtain ⟨t, ht, hT⟩ := norm_bound (fun d => x d - rowMean x) d
  refine ⟨t * (1 + a) + b, ?_, ?_⟩
  · have h1 : |1 + a| ≤ 1 + 2 * 10 ^ 30 := (abs_add_le 1 a).trans (by rw [abs_one]; linarith)
    have h2 : |t * (1 + a)| ≤ 3072 * (1 + 2 * 10 ^ 30) := by
      rw [abs_mul]; exact mul_le_mul ht h1 (abs_nonneg _) (by norm_num)
    refine (abs_add_le _ _).trans ((add_le_add h2 hb).trans (by norm_num))
  · have hT' : (x d - rowMean x) * rowRs x = (t : EReal) := hT
    unfold rowH
    rw [hT', hA, hB, ← EReal.coe_one, ← EReal.coe_add, ← EReal.coe_mul, ← EReal.coe_add]

theorem rQ_real (h : Fin 3072 → EReal) (hh : ∀ d, ∃ t : ℝ, |t| ≤ 10 ^ 35 ∧ h d = (t : EReal)) :
    ∃ r : ℝ, 0 ≤ r ∧ r < (2 : ℝ) ^ (126 : ℤ) ∧ rQ h = (r : EReal) := by
  obtain ⟨c, c0, c1, hc⟩ := ofBits_c
  unfold rQ
  rw [hc, ofBits_ninf]
  have habs : ∀ d, ∃ t : ℝ, 0 ≤ t ∧ t ≤ 10 ^ 35 ∧ FloatOps.absf (F := Ideal) (φ := .f32) (h d) = (t : EReal) := by
    intro d
    obtain ⟨t, ht, hT⟩ := hh d
    refine ⟨|t|, abs_nonneg t, ht, ?_⟩
    rw [hT]
    show max (t : EReal) (-(t : EReal)) = _
    rw [← EReal.coe_neg, abs_eq_max_neg]
    exact (EReal.coe_strictMono.monotone.map_max).symm
  have hle : Finset.fold max (⊥ : EReal) (fun d => FloatOps.absf (F := Ideal) (φ := .f32) (h d)) Finset.univ ≤ ((10 ^ 35 : ℝ) : EReal) := by
    rw [Finset.fold_max_le]
    refine ⟨bot_le, fun d _ => ?_⟩
    obtain ⟨t, t0, t1, hT⟩ := habs d
    rw [hT]; exact_mod_cast t1
  have hge : (0 : EReal) ≤ Finset.fold max (⊥ : EReal) (fun d => FloatOps.absf (F := Ideal) (φ := .f32) (h d)) Finset.univ := by
    rw [Finset.le_fold_max]
    obtain ⟨t, t0, t1, hT⟩ := habs 0
    exact .inr ⟨0, Finset.mem_univ _, by rw [hT]; exact_mod_cast t0⟩
  generalize Finset.fold max (⊥ : EReal) (fun d => FloatOps.absf (F := Ideal) (φ := .f32) (h d)) Finset.univ = f at hle hge
  induction f with
  | bot => simp at hge
  | top => exact absurd (top_le_iff.mp hle) (EReal.coe_ne_top _)
  | coe a =>
    have a0 : 0 ≤ a := by exact_mod_cast hge
    have a1 : a ≤ 10 ^ 35 := by exact_mod_cast hle
    refine ⟨a * c, by positivity, ?_, by rw [EReal.coe_mul]⟩
    have : a * c ≤ 10 ^ 35 := by nlinarith
    refine this.trans_lt (by norm_num)

/-- On a row whose modulation is bounded the kernel's scale is the reference's, -/
theorem rowScale_eq (x sc sh : Fin 3072 → EReal) (hsc : ∀ d, Bounded (sc d)) (hsh : ∀ d, Bounded (sh d)) :
    rScale x sc sh = rowScale x sc sh := by
  unfold rScale rowScale
  rw [rH_eq]
  obtain ⟨r, r0, r1, hr⟩ := rQ_real (rowH x sc sh) (rowH_real x sc sh hsc hsh)
  have hr' : rowQ (rowH x sc sh) = (r : EReal) := hr
  rw [hr, hr']
  exact (scale_eq r r0 r1).1.symm

/-- and so are its codes. -/
theorem rowCode_eq (x sc sh : Fin 3072 → EReal) (hsc : ∀ d, Bounded (sc d)) (hsh : ∀ d, Bounded (sh d)) (d : Fin 3072) :
    rCode x sc sh d = rowCode x sc sh d := by
  unfold rCode rowCode clip
  rw [rH_eq]
  obtain ⟨r, r0, r1, hr⟩ := rQ_real (rowH x sc sh) (rowH_real x sc sh hsc hsh)
  have hr' : rowQ (rowH x sc sh) = (r : EReal) := hr
  rw [hr, hr', (scale_eq r r0 r1).2]

end Cert.Bridge

end
-- ==== Proof.PreValue.lean ====
/- The precondition read at an index: every entry of the two modulation arrays is bounded. -/
module

public import proofs.«01_k».proof.Defs
public import proofs.«01_k».proof.Proof.Gen.Pre_pre
public import proofs.«01_k».proof.Proof.Bound
public import Idealize.ShloMosaic.Lib.ReduceAll

@[expose] public section

set_option maxRecDepth 16384

noncomputable section

namespace Cert.Bridge

open Idealize.ShloMosaic Cert.Pre_pre Cert.Pre_pre.Gen

instance : Subsingleton S_.Idx := ⟨fun a b => funext fun c => c.elim0⟩

theorem le_of_cmpf (y z : EReal) (h : FloatOps.cmpf (F := Ideal) (φ := .f32) .ole y z = 1#1) : y ≤ z := by
  by_contra hc
  have : FloatOps.cmpf (F := Ideal) (φ := .f32) .ole y z = BitVec.ofBool (decide (y ≤ z)) := rfl
  rw [this, decide_eq_false hc] at h
  exact absurd h (by decide)

/-- The comparison with the bound, all entries at once. -/
theorem all_bounded (a : FVec Ideal S3x2x3072 .f32) (j : S_.Idx)
    (h : Host.reduce IntOp.andi (cmpf .ole (Host.absf a) (broadcastInDim S3x2x3072 ![] bcast_S_S3x2x3072 (constant S_ .f32 0x7149F2CA#32)))
      (constantI S_ 1 1#1) reducesTo_S3x2x3072_S_d0_1_2 h_S_ j = 1#1) (i : S3x2x3072.Idx) : Bounded (a i) :=
  le_of_cmpf _ _ (Host.reduce_andi_all _ _ _ _ j h i)

theorem and_one (x y : BitVec 1) (h : IntOp.andi x y = 1#1) : x = 1#1 ∧ y = 1#1 := by
  revert x y; decide

theorem pre_bounded (a0 : FVec Ideal S3x2x4096x3072 .bf16) (a1 a2 : FVec Ideal S3x2x3072 .f32) (a3 : FVec Ideal S3072x64 .fp8e4m3)
    (a4 a5 : FVec Ideal S64 .f32) (a6 a7 a8 : FVec Ideal S3 .f32) (a9 : FVec Ideal S3x64x256x16 .f32)
    (h : Cert.Pre_pre.fn (F := Ideal) a0 a1 a2 a3 a4 a5 a6 a7 a8 a9 = fun _ => 1#1) : (∀ i, Bounded (a1 i)) ∧ ∀ i, Bounded (a2 i) := by
  have h0 := congrFun h (Shape.Idx.first h_S_)
  obtain ⟨h1, h2⟩ := and_one _ _ h0
  exact ⟨all_bounded a1 _ h1, all_bounded a2 _ h2⟩

end Cert.Bridge

end
-- ==== Proof.Final.lean ====
/- The two programs' results, index by index, are the same. -/
module

public import proofs.«01_k».proof.Proof.Tiles
public import proofs.«01_k».proof.Proof.RefValue
public import proofs.«01_k».proof.Proof.PreValue

@[expose] public section

set_option maxRecDepth 16384

noncomputable section

namespace Cert.Bridge

open Idealize.ShloMosaic Cert.KernelIdeal Cert.ReferenceIdeal Idealize.SL.Sem

section
variable (g t t' : FVec Ideal Cert.ReferenceIdeal.S3 .f32) (X : FVec Ideal Cert.ReferenceIdeal.S3x2x4096x3072 .bf16)
  (SH SC : FVec Ideal Cert.ReferenceIdeal.S3x2x3072 .f32) (W : FVec Ideal Cert.ReferenceIdeal.S3072x64 .fp8e4m3)
  (WS B : FVec Ideal Cert.ReferenceIdeal.S64 .f32) (L : FVec Ideal Cert.ReferenceIdeal.S3x64x256x16 .f32)
  (hsh : ∀ i, Bounded (SH i)) (hsc : ∀ i, Bounded (SC i))

include hsh hsc

theorem code_eq (b : Fin 3) (p : Fin 2) (r : Fin 4096) (d : Fin 3072) :
    rCode (fun d => X (ix4 b p r d)) (fun d => SC (ix3 b p d)) (fun d => SH (ix3 b p d)) d = TCode X SH SC b p r d :=
  rowCode_eq _ _ _ (fun d => hsc _) (fun d => hsh _) d

theorem scale_eq' (b : Fin 3) (p : Fin 2) (r : Fin 4096) :
    rScale (fun d => X (ix4 b p r d)) (fun d => SC (ix3 b p d)) (fun d => SH (ix3 b p d)) = TScale X SH SC b p r :=
  rowScale_eq _ _ _ (fun d => hsc _) (fun d => hsh _)

theorem proj_eq (b : Fin 3) (p : Fin 2) (n : Fin 64) (r : Fin 4096) :
    rProj X SH SC W WS B b p n r = TProj X SH SC W WS B b p n r := by
  unfold rProj TProj
  rw [scale_eq' X SH SC hsh hsc]
  have hs : (∑ x, rCode (fun d => X (ix4 b p r d)) (fun d => SC (ix3 b p d)) (fun d => SH (ix3 b p d)) x * W (ix2 x n))
      = ∑ d : Fin 3072, W (ix2 d n) * TCode X SH SC b p r d :=
    Finset.sum_congr rfl fun d _ => by rw [code_eq X SH SC hsh hsc b p r d]; exact mul_comm (TCode X SH SC b p r d) (W (ix2 d n) : EReal)
  rw [hs]

theorem img_eq (b : Fin 3) (i : Fin 64) (k : Fin 256) (l : Fin 16) :
    rImg g X SH SC W WS B b i k l = TImg g X SH SC W WS B b i k l := by
  have hN : rPixN i k l = pixN i k l := Fin.ext (by unfold rPixN pixN; simp only; omega)
  have hR : rPixR i k = pixR i k := Fin.ext (by unfold rPixR pixR; simp only; omega)
  unfold rImg TImg TVel
  rw [hN, hR, proj_eq X SH SC W WS B hsh hsc, proj_eq X SH SC W WS B hsh hsc]

theorem lat_eq (b : Fin 3) (i : Fin 64) (k : Fin 256) (l : Fin 16) :
    L (ix4 b i k l) + (t' (ix1 b) - t (ix1 b)) * rImg g X SH SC W WS B b i k l = TLat g t t' X SH SC W WS B L b i k l := by
  unfold TLat
  rw [img_eq g X SH SC W WS B hsh hsc]

theorem lat_all : Cert.ReferenceIdeal.Value.G10 (F := Ideal) g t t' X SH SC W WS B L
    = fun i : Cert.KernelIdeal.S3x64x256x16.Idx => TLat g t t' X SH SC W WS B L (i 0) (i 1) (i 2) (i 3) := by
  funext i
  have hi : i = ix4 (i 0) (i 1) (i 2) (i 3) := (ix4_eta i).symm
  refine (congrArg _ hi).trans ((G10_apply g t t' X SH SC W WS B L (i 0) (i 1) (i 2) (i 3)).trans ?_)
  exact lat_eq g t t' X SH SC W WS B L hsh hsc _ _ _ _

theorem img_all : Cert.ReferenceIdeal.Value.G11 (F := Ideal) g t t' X SH SC W WS B L
    = fun i : Cert.KernelIdeal.S3x64x256x16.Idx => TImg g X SH SC W WS B (i 0) (i 1) (i 2) (i 3) := by
  funext i
  have hi : i = ix4 (i 0) (i 1) (i 2) (i 3) := (ix4_eta i).symm
  refine (congrArg _ hi).trans ((G11_apply g t t' X SH SC W WS B L (i 0) (i 1) (i 2) (i 3)).trans ?_)
  exact img_eq g X SH SC W WS B hsh hsc _ _ _ _

theorem code_all : Cert.ReferenceIdeal.Value.G12 (F := Ideal) g t t' X SH SC W WS B L
    = fun i : Cert.KernelIdeal.S3x2x4096x3072.Idx => TCode X SH SC (i 0) (i 1) (i 2) (i 3) := by
  funext i
  have hi : i = ix4 (i 0) (i 1) (i 2) (i 3) := (ix4_eta i).symm
  refine (congrArg _ hi).trans ((G12_apply g t t' X SH SC W WS B L (i 0) (i 1) (i 2) (i 3)).trans ?_)
  exact code_eq X SH SC hsh hsc _ _ _ _

theorem scale_all : Cert.ReferenceIdeal.Value.G13 (F := Ideal) g t t' X SH SC W WS B L
    = fun i : Cert.KernelIdeal.S3x2x4096.Idx => TScale X SH SC (i 0) (i 1) (i 2) := by
  funext i
  have hi : i = ix3 (i 0) (i 1) (i 2) := (ix3_eta i).symm
  refine (congrArg _ hi).trans ((G13_apply g t t' X SH SC W WS B L (i 0) (i 1) (i 2)).trans ?_)
  exact scale_eq' X SH SC hsh hsc _ _ _
end

/-- From memories that agree on the arguments, both programs run and end with the same four results. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m ρ m' ρ' hpre hagree
  refine ⟨_, _, _, _, Cert.KernelIdeal.run_value m ρ, ?_⟩
  refine (θ_run Cert.ReferenceIdeal.defs _ _).mono (fun r h c => ?_) (Cert.ReferenceIdeal.Value.run (F := Ideal) m' ρ')
  obtain ⟨hsh, hsc⟩ := pre_bounded _ _ _ _ _ _ _ _ _ _ (hpre c)
  obtain ⟨g0, g1, g2, g3, g4, g5, g6, g7, g8, g9⟩ := hagree c
  obtain ⟨h0, h1, h2, h3, hrest⟩ := h c
  rw [g0, g1, g2, g3, g4, g5, g6, g7, g8, g9] at h0 h1 h2 h3
  exact ⟨h0.trans (lat_all _ _ _ _ _ _ _ _ _ _ hsh hsc), h1.trans (img_all _ _ _ _ _ _ _ _ _ _ hsh hsc),
    h2.trans (code_all _ _ _ _ _ _ _ _ _ _ hsh hsc), h3.trans (scale_all _ _ _ _ _ _ _ _ _ _ hsh hsc), hrest⟩

end Cert.Bridge

end
-- ==== Proof.lean ====
/- The proof of the stated claims: the three frames, the preservation of the kernel under its named constant, and the
   algebraic claim that the idealized kernel returns what the idealized reference does. Each is cited from its module. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre
public import proofs.«01_k».proof.Proof.Final
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_pre.Gen.facts,
  fun m ρ _ => Cert.Kernel.Whole.frame m ρ,
  fun m ρ _ => Cert.KernelIdeal.frame_run m ρ,
  fun m ρ _ => Cert.KernelIdeal.frame_run m ρ,
  fun m ρ _ => Cert.ReferenceIdeal.Gen.frame m ρ,
  fun m ρ _ => Cert.ReferenceIdeal.Gen.frame m ρ,
  IdealRules.named_const.statement Cert.KernelIdeal.κ "inv_d" .f32 0x39AAAAAB#32 ((3072⁻¹ : ℝ) : EReal) rfl,
  Cert.Bridge.algebraic⟩

end Cert.Proof

end
